-- ==== Defs.lean ====
def Pre_DeltaStep (m : (ℓ : Loc Cert.DeltaStep.nD Cert.DeltaStep.τ Cert.DeltaStep.sig) → Buf (Elt Bits) ℓ) : Prop :=
  True

def Pre_DeltaStepIdeal (m : (ℓ : Loc Cert.DeltaStepIdeal.nD Cert.DeltaStepIdeal.τ Cert.DeltaStepIdeal.sig) → Buf (Elt Ideal) ℓ) : Prop :=
  True

def Pre_DeltaStepIdeal_finite_step [hPre_finite_step : Cert.Pre_finite_step.Facts] (m : (ℓ : Loc Cert.DeltaStepIdeal.nD Cert.DeltaStepIdeal.τ Cert.DeltaStepIdeal.sig) → Buf (Elt Ideal) ℓ) : Prop :=
  ∀ c : Dev Cert.DeltaStepIdeal.nD,
    (Cert.Pre_finite_step.fn (F := Ideal) (m ((c.tc : Thread Cert.DeltaStepIdeal.nD Cert.DeltaStepIdeal.τ).loc Cert.DeltaStepIdeal.main_arg0)) (m ((c.tc : Thread Cert.DeltaStepIdeal.nD Cert.DeltaStepIdeal.τ).loc Cert.DeltaStepIdeal.main_arg1)) (m ((c.tc : Thread Cert.DeltaStepIdeal.nD Cert.DeltaStepIdeal.τ).loc Cert.DeltaStepIdeal.main_arg2)) (m ((c.tc : Thread Cert.DeltaStepIdeal.nD Cert.DeltaStepIdeal.τ).loc Cert.DeltaStepIdeal.main_arg3)) (m ((c.tc : Thread Cert.DeltaStepIdeal.nD Cert.DeltaStepIdeal.τ).loc Cert.DeltaStepIdeal.main_arg4)) (m ((c.tc : Thread Cert.DeltaStepIdeal.nD Cert.DeltaStepIdeal.τ).loc Cert.DeltaStepIdeal.main_arg5)) (m ((c.tc : Thread Cert.DeltaStepIdeal.nD Cert.DeltaStepIdeal.τ).loc Cert.DeltaStepIdeal.main_arg6)) (m ((c.tc : Thread Cert.DeltaStepIdeal.nD Cert.DeltaStepIdeal.τ).loc Cert.DeltaStepIdeal.main_arg7)) (m ((c.tc : Thread Cert.DeltaStepIdeal.nD Cert.DeltaStepIdeal.τ).loc Cert.DeltaStepIdeal.main_arg8)) (m ((c.tc : Thread Cert.DeltaStepIdeal.nD Cert.DeltaStepIdeal.τ).loc Cert.DeltaStepIdeal.main_arg9))) = (fun _ => 1#1)

def Pre_DeltaStepRefIdeal (m : (ℓ : Loc Cert.DeltaStepRefIdeal.nD Cert.DeltaStepRefIdeal.τ Cert.DeltaStepRefIdeal.sig) → Buf (Elt Ideal) ℓ) : Prop :=
  True

def Pre_DeltaStepRefIdeal_finite_step [hPre_finite_step : Cert.Pre_finite_step.Facts] (m : (ℓ : Loc Cert.DeltaStepRefIdeal.nD Cert.DeltaStepRefIdeal.τ Cert.DeltaStepRefIdeal.sig) → Buf (Elt Ideal) ℓ) : Prop :=
  ∀ c : Dev Cert.DeltaStepRefIdeal.nD,
    (Cert.Pre_finite_step.fn (F := Ideal) (m ((c.tc : Thread Cert.DeltaStepRefIdeal.nD Cert.DeltaStepRefIdeal.τ).loc Cert.DeltaStepRefIdeal.main_arg0)) (m ((c.tc : Thread Cert.DeltaStepRefIdeal.nD Cert.DeltaStepRefIdeal.τ).loc Cert.DeltaStepRefIdeal.main_arg1)) (m ((c.tc : Thread Cert.DeltaStepRefIdeal.nD Cert.DeltaStepRefIdeal.τ).loc Cert.DeltaStepRefIdeal.main_arg2)) (m ((c.tc : Thread Cert.DeltaStepRefIdeal.nD Cert.DeltaStepRefIdeal.τ).loc Cert.DeltaStepRefIdeal.main_arg3)) (m ((c.tc : Thread Cert.DeltaStepRefIdeal.nD Cert.DeltaStepRefIdeal.τ).loc Cert.DeltaStepRefIdeal.main_arg4)) (m ((c.tc : Thread Cert.DeltaStepRefIdeal.nD Cert.DeltaStepRefIdeal.τ).loc Cert.DeltaStepRefIdeal.main_arg5)) (m ((c.tc : Thread Cert.DeltaStepRefIdeal.nD Cert.DeltaStepRefIdeal.τ).loc Cert.DeltaStepRefIdeal.main_arg6)) (m ((c.tc : Thread Cert.DeltaStepRefIdeal.nD Cert.DeltaStepRefIdeal.τ).loc Cert.DeltaStepRefIdeal.main_arg7)) (m ((c.tc : Thread Cert.DeltaStepRefIdeal.nD Cert.DeltaStepRefIdeal.τ).loc Cert.DeltaStepRefIdeal.main_arg8)) (m ((c.tc : Thread Cert.DeltaStepRefIdeal.nD Cert.DeltaStepRefIdeal.τ).loc Cert.DeltaStepRefIdeal.main_arg9))) = (fun _ => 1#1)

def Pre_Ffn [hPre_pages_in_pool : Cert.Pre_pages_in_pool.Facts] (m : (ℓ : Loc Cert.Ffn.nD Cert.Ffn.τ Cert.Ffn.sig) → Buf (Elt Bits) ℓ) : Prop :=
  ∀ c : Dev Cert.Ffn.nD,
    (Cert.Pre_pages_in_pool.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5)) (m ((c.tc : Thread Cert.Ffn.nD Cert.Ffn.τ).loc Cert.Ffn.main_arg6))) = (fun _ => 1#1)

def Pre_FfnIdeal [hPre_pages_in_pool : Cert.Pre_pages_in_pool.Facts] (m : (ℓ : Loc Cert.FfnIdeal.nD Cert.FfnIdeal.τ Cert.FfnIdeal.sig) → Buf (Elt Ideal) ℓ) : Prop :=
  ∀ c : Dev Cert.FfnIdeal.nD,
    (Cert.Pre_pages_in_pool.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_pages_in_pool [hPre_pages_in_pool : Cert.Pre_pages_in_pool.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_pages_in_pool.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def Pre_ProjV (m : (ℓ : Loc Cert.ProjV.nD Cert.ProjV.τ Cert.ProjV.sig) → Buf (Elt Bits) ℓ) : Prop :=
  True

def Pre_ProjVIdeal (m : (ℓ : Loc Cert.ProjVIdeal.nD Cert.ProjVIdeal.τ Cert.ProjVIdeal.sig) → Buf (Elt Ideal) ℓ) : Prop :=
  True

def Pre_ProjVRefIdeal (m : (ℓ : Loc Cert.ProjVRefIdeal.nD Cert.ProjVRefIdeal.τ Cert.ProjVRefIdeal.sig) → Buf (Elt Ideal) ℓ) : Prop :=
  True

def Pre_ProjQK (m : (ℓ : Loc Cert.ProjQK.nD Cert.ProjQK.τ Cert.ProjQK.sig) → Buf (Elt Bits) ℓ) : Prop :=
  True

def Pre_ProjQKIdeal (m : (ℓ : Loc Cert.ProjQKIdeal.nD Cert.ProjQKIdeal.τ Cert.ProjQKIdeal.sig) → Buf (Elt Ideal) ℓ) : Prop :=
  True

def Pre_ProjQKRefIdeal (m : (ℓ : Loc Cert.ProjQKRefIdeal.nD Cert.ProjQKRefIdeal.τ Cert.ProjQKRefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_ProjZ (m : (ℓ : Loc Cert.ProjZ.nD Cert.ProjZ.τ Cert.ProjZ.sig) → Buf (Elt Bits) ℓ) : Prop :=
  True

def Pre_ProjZIdeal (m : (ℓ : Loc Cert.ProjZIdeal.nD Cert.ProjZIdeal.τ Cert.ProjZIdeal.sig) → Buf (Elt Ideal) ℓ) : Prop :=
  True

def Pre_ProjZRefIdeal (m : (ℓ : Loc Cert.ProjZRefIdeal.nD Cert.ProjZRefIdeal.τ Cert.ProjZRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_ProjVS (m : (ℓ : Loc Cert.ProjVS.nD Cert.ProjVS.τ Cert.ProjVS.sig) → Buf (Elt Bits) ℓ) : Prop :=
  True

def Pre_ProjVSIdeal (m : (ℓ : Loc Cert.ProjVSIdeal.nD Cert.ProjVSIdeal.τ Cert.ProjVSIdeal.sig) → Buf (Elt Ideal) ℓ) : Prop :=
  True

def Pre_ProjVSRefIdeal (m : (ℓ : Loc Cert.ProjVSRefIdeal.nD Cert.ProjVSRefIdeal.τ Cert.ProjVSRefIdeal.sig) → Buf (Elt Ideal) ℓ) : Prop :=
  True

def Pre_RopeS (m : (ℓ : Loc Cert.RopeS.nD Cert.RopeS.τ Cert.RopeS.sig) → Buf (Elt Bits) ℓ) : Prop :=
  True

def Pre_RopeSIdeal (m : (ℓ : Loc Cert.RopeSIdeal.nD Cert.RopeSIdeal.τ Cert.RopeSIdeal.sig) → Buf (Elt Ideal) ℓ) : Prop :=
  True

def Pre_RopeSRefIdeal (m : (ℓ : Loc Cert.RopeSRefIdeal.nD Cert.RopeSRefIdeal.τ Cert.RopeSRefIdeal.sig) → Buf (Elt Ideal) ℓ) : Prop :=
  True

def Pre_PleS (m : (ℓ : Loc Cert.PleS.nD Cert.PleS.τ Cert.PleS.sig) → Buf (Elt Bits) ℓ) : Prop :=
  True

def Pre_PleSIdeal (m : (ℓ : Loc Cert.PleSIdeal.nD Cert.PleSIdeal.τ Cert.PleSIdeal.sig) → Buf (Elt Ideal) ℓ) : Prop :=
  True

def Pre_PleSRefIdeal (m : (ℓ : Loc Cert.PleSRefIdeal.nD Cert.PleSRefIdeal.τ Cert.PleSRefIdeal.sig) → Buf (Elt Ideal) ℓ) : Prop :=
  True

def quiescent_DeltaStep [hDeltaStep : Cert.DeltaStep.Facts] : Prop :=
  ∀ (m : (ℓ : Loc Cert.DeltaStep.nD Cert.DeltaStep.τ Cert.DeltaStep.sig) → Buf (Elt Bits) ℓ) (g : Dev Cert.DeltaStep.nD → PrngReg), Pre_DeltaStep m →
    θ_run (Cert.DeltaStep.defs (F := Bits)) (onTc (τ := Cert.DeltaStep.τ) (Cert.DeltaStep.main (F := Bits))) ⟨m, fun _ => 0, g⟩ (fun r => (∀ c : Dev Cert.DeltaStep.nD,
      r.2.mem ((c.tc : Thread Cert.DeltaStep.nD Cert.DeltaStep.τ).loc Cert.DeltaStep.main_arg0) = m ((c.tc : Thread Cert.DeltaStep.nD Cert.DeltaStep.τ).loc Cert.DeltaStep.main_arg0)
      ∧ r.2.mem ((c.tc : Thread Cert.DeltaStep.nD Cert.DeltaStep.τ).loc Cert.DeltaStep.main_arg1) = m ((c.tc : Thread Cert.DeltaStep.nD Cert.DeltaStep.τ).loc Cert.DeltaStep.main_arg1)
      ∧ r.2.mem ((c.tc : Thread Cert.DeltaStep.nD Cert.DeltaStep.τ).loc Cert.DeltaStep.main_arg2) = m ((c.tc : Thread Cert.DeltaStep.nD Cert.DeltaStep.τ).loc Cert.DeltaStep.main_arg2)
      ∧ r.2.mem ((c.tc : Thread Cert.DeltaStep.nD Cert.DeltaStep.τ).loc Cert.DeltaStep.main_arg3) = m ((c.tc : Thread Cert.DeltaStep.nD Cert.DeltaStep.τ).loc Cert.DeltaStep.main_arg3)
      ∧ r.2.mem ((c.tc : Thread Cert.DeltaStep.nD Cert.DeltaStep.τ).loc Cert.DeltaStep.main_arg4) = m ((c.tc : Thread Cert.DeltaStep.nD Cert.DeltaStep.τ).loc Cert.DeltaStep.main_arg4)
      ∧ r.2.mem ((c.tc : Thread Cert.DeltaStep.nD Cert.DeltaStep.τ).loc Cert.DeltaStep.main_arg5) = m ((c.tc : Thread Cert.DeltaStep.nD Cert.DeltaStep.τ).loc Cert.DeltaStep.main_arg5)
      ∧ r.2.mem ((c.tc : Thread Cert.DeltaStep.nD Cert.DeltaStep.τ).loc Cert.DeltaStep.main_arg6) = m ((c.tc : Thread Cert.DeltaStep.nD Cert.DeltaStep.τ).loc Cert.DeltaStep.main_arg6)
      ∧ r.2.mem ((c.tc : Thread Cert.DeltaStep.nD Cert.DeltaStep.τ).loc Cert.DeltaStep.main_arg7) = m ((c.tc : Thread Cert.DeltaStep.nD Cert.DeltaStep.τ).loc Cert.DeltaStep.main_arg7)
      ∧ r.2.mem ((c.tc : Thread Cert.DeltaStep.nD Cert.DeltaStep.τ).loc Cert.DeltaStep.main_arg8) = m ((c.tc : Thread Cert.DeltaStep.nD Cert.DeltaStep.τ).loc Cert.DeltaStep.main_arg8)
      ∧ r.2.mem ((c.tc : Thread Cert.DeltaStep.nD Cert.DeltaStep.τ).loc Cert.DeltaStep.main_arg9) = m ((c.tc : Thread Cert.DeltaStep.nD Cert.DeltaStep.τ).loc Cert.DeltaStep.main_arg9))
      ∧ r.2.sem = fun _ => 0)

def quiescent_DeltaStepIdeal [hDeltaStepIdeal : Cert.DeltaStepIdeal.Facts] : Prop :=
  ∀ (m : (ℓ : Loc Cert.DeltaStepIdeal.nD Cert.DeltaStepIdeal.τ Cert.DeltaStepIdeal.sig) → Buf (Elt Ideal) ℓ) (g : Dev Cert.DeltaStepIdeal.nD → PrngReg), Pre_DeltaStepIdeal m →
    θ_run (Cert.DeltaStepIdeal.defs (F := Ideal)) (onTc (τ := Cert.DeltaStepIdeal.τ) (Cert.DeltaStepIdeal.main (F := Ideal))) ⟨m, fun _ => 0, g⟩ (fun r => (∀ c : Dev Cert.DeltaStepIdeal.nD,
      r.2.mem ((c.tc : Thread Cert.DeltaStepIdeal.nD Cert.DeltaStepIdeal.τ).loc Cert.DeltaStepIdeal.main_arg0) = m ((c.tc : Thread Cert.DeltaStepIdeal.nD Cert.DeltaStepIdeal.τ).loc Cert.DeltaStepIdeal.main_arg0)
      ∧ r.2.mem ((c.tc : Thread Cert.DeltaStepIdeal.nD Cert.DeltaStepIdeal.τ).loc Cert.DeltaStepIdeal.main_arg1) = m ((c.tc : Thread Cert.DeltaStepIdeal.nD Cert.DeltaStepIdeal.τ).loc Cert.DeltaStepIdeal.main_arg1)
      ∧ r.2.mem ((c.tc : Thread Cert.DeltaStepIdeal.nD Cert.DeltaStepIdeal.τ).loc Cert.DeltaStepIdeal.main_arg2) = m ((c.tc : Thread Cert.DeltaStepIdeal.nD Cert.DeltaStepIdeal.τ).loc Cert.DeltaStepIdeal.main_arg2)
      ∧ r.2.mem ((c.tc : Thread Cert.DeltaStepIdeal.nD Cert.DeltaStepIdeal.τ).loc Cert.DeltaStepIdeal.main_arg3) = m ((c.tc : Thread Cert.DeltaStepIdeal.nD Cert.DeltaStepIdeal.τ).loc Cert.DeltaStepIdeal.main_arg3)
      ∧ r.2.mem ((c.tc : Thread Cert.DeltaStepIdeal.nD Cert.DeltaStepIdeal.τ).loc Cert.DeltaStepIdeal.main_arg4) = m ((c.tc : Thread Cert.DeltaStepIdeal.nD Cert.DeltaStepIdeal.τ).loc Cert.DeltaStepIdeal.main_arg4)
      ∧ r.2.mem ((c.tc : Thread Cert.DeltaStepIdeal.nD Cert.DeltaStepIdeal.τ).loc Cert.DeltaStepIdeal.main_arg5) = m ((c.tc : Thread Cert.DeltaStepIdeal.nD Cert.DeltaStepIdeal.τ).loc Cert.DeltaStepIdeal.main_arg5)
      ∧ r.2.mem ((c.tc : Thread Cert.DeltaStepIdeal.nD Cert.DeltaStepIdeal.τ).loc Cert.DeltaStepIdeal.main_arg6) = m ((c.tc : Thread Cert.DeltaStepIdeal.nD Cert.DeltaStepIdeal.τ).loc Cert.DeltaStepIdeal.main_arg6)
      ∧ r.2.mem ((c.tc : Thread Cert.DeltaStepIdeal.nD Cert.DeltaStepIdeal.τ).loc Cert.DeltaStepIdeal.main_arg7) = m ((c.tc : Thread Cert.DeltaStepIdeal.nD Cert.DeltaStepIdeal.τ).loc Cert.DeltaStepIdeal.main_arg7)
      ∧ r.2.mem ((c.tc : Thread Cert.DeltaStepIdeal.nD Cert.DeltaStepIdeal.τ).loc Cert.DeltaStepIdeal.main_arg8) = m ((c.tc : Thread Cert.DeltaStepIdeal.nD Cert.DeltaStepIdeal.τ).loc Cert.DeltaStepIdeal.main_arg8)
      ∧ r.2.mem ((c.tc : Thread Cert.DeltaStepIdeal.nD Cert.DeltaStepIdeal.τ).loc Cert.DeltaStepIdeal.main_arg9) = m ((c.tc : Thread Cert.DeltaStepIdeal.nD Cert.DeltaStepIdeal.τ).loc Cert.DeltaStepIdeal.main_arg9))
      ∧ r.2.sem = fun _ => 0)

def quiescent_DeltaStepIdeal_pre_finite_step [hDeltaStepIdeal : Cert.DeltaStepIdeal.Facts] [hPre_finite_step : Cert.Pre_finite_step.Facts] : Prop :=
  ∀ (m : (ℓ : Loc Cert.DeltaStepIdeal.nD Cert.DeltaStepIdeal.τ Cert.DeltaStepIdeal.sig) → Buf (Elt Ideal) ℓ) (g : Dev Cert.DeltaStepIdeal.nD → PrngReg), Pre_DeltaStepIdeal_finite_step m →
    θ_run (Cert.DeltaStepIdeal.defs (F := Ideal)) (onTc (τ := Cert.DeltaStepIdeal.τ) (Cert.DeltaStepIdeal.main (F := Ideal))) ⟨m, fun _ => 0, g⟩ (fun r => (∀ c : Dev Cert.DeltaStepIdeal.nD,
      r.2.mem ((c.tc : Thread Cert.DeltaStepIdeal.nD Cert.DeltaStepIdeal.τ).loc Cert.DeltaStepIdeal.main_arg0) = m ((c.tc : Thread Cert.DeltaStepIdeal.nD Cert.DeltaStepIdeal.τ).loc Cert.DeltaStepIdeal.main_arg0)
      ∧ r.2.mem ((c.tc : Thread Cert.DeltaStepIdeal.nD Cert.DeltaStepIdeal.τ).loc Cert.DeltaStepIdeal.main_arg1) = m ((c.tc : Thread Cert.DeltaStepIdeal.nD Cert.DeltaStepIdeal.τ).loc Cert.DeltaStepIdeal.main_arg1)
      ∧ r.2.mem ((c.tc : Thread Cert.DeltaStepIdeal.nD Cert.DeltaStepIdeal.τ).loc Cert.DeltaStepIdeal.main_arg2) = m ((c.tc : Thread Cert.DeltaStepIdeal.nD Cert.DeltaStepIdeal.τ).loc Cert.DeltaStepIdeal.main_arg2)
      ∧ r.2.mem ((c.tc : Thread Cert.DeltaStepIdeal.nD Cert.DeltaStepIdeal.τ).loc Cert.DeltaStepIdeal.main_arg3) = m ((c.tc : Thread Cert.DeltaStepIdeal.nD Cert.DeltaStepIdeal.τ).loc Cert.DeltaStepIdeal.main_arg3)
      ∧ r.2.mem ((c.tc : Thread Cert.DeltaStepIdeal.nD Cert.DeltaStepIdeal.τ).loc Cert.DeltaStepIdeal.main_arg4) = m ((c.tc : Thread Cert.DeltaStepIdeal.nD Cert.DeltaStepIdeal.τ).loc Cert.DeltaStepIdeal.main_arg4)
      ∧ r.2.mem ((c.tc : Thread Cert.DeltaStepIdeal.nD Cert.DeltaStepIdeal.τ).loc Cert.DeltaStepIdeal.main_arg5) = m ((c.tc : Thread Cert.DeltaStepIdeal.nD Cert.DeltaStepIdeal.τ).loc Cert.DeltaStepIdeal.main_arg5)
      ∧ r.2.mem ((c.tc : Thread Cert.DeltaStepIdeal.nD Cert.DeltaStepIdeal.τ).loc Cert.DeltaStepIdeal.main_arg6) = m ((c.tc : Thread Cert.DeltaStepIdeal.nD Cert.DeltaStepIdeal.τ).loc Cert.DeltaStepIdeal.main_arg6)
      ∧ r.2.mem ((c.tc : Thread Cert.DeltaStepIdeal.nD Cert.DeltaStepIdeal.τ).loc Cert.DeltaStepIdeal.main_arg7) = m ((c.tc : Thread Cert.DeltaStepIdeal.nD Cert.DeltaStepIdeal.τ).loc Cert.DeltaStepIdeal.main_arg7)
      ∧ r.2.mem ((c.tc : Thread Cert.DeltaStepIdeal.nD Cert.DeltaStepIdeal.τ).loc Cert.DeltaStepIdeal.main_arg8) = m ((c.tc : Thread Cert.DeltaStepIdeal.nD Cert.DeltaStepIdeal.τ).loc Cert.DeltaStepIdeal.main_arg8)
      ∧ r.2.mem ((c.tc : Thread Cert.DeltaStepIdeal.nD Cert.DeltaStepIdeal.τ).loc Cert.DeltaStepIdeal.main_arg9) = m ((c.tc : Thread Cert.DeltaStepIdeal.nD Cert.DeltaStepIdeal.τ).loc Cert.DeltaStepIdeal.main_arg9))
      ∧ r.2.sem = fun _ => 0)

def quiescent_DeltaStepRefIdeal [hDeltaStepRefIdeal : Cert.DeltaStepRefIdeal.Facts] : Prop :=
  ∀ (m : (ℓ : Loc Cert.DeltaStepRefIdeal.nD Cert.DeltaStepRefIdeal.τ Cert.DeltaStepRefIdeal.sig) → Buf (Elt Ideal) ℓ) (g : Dev Cert.DeltaStepRefIdeal.nD → PrngReg), Pre_DeltaStepRefIdeal m →
    θ_run (Cert.DeltaStepRefIdeal.defs (F := Ideal)) (onTc (τ := Cert.DeltaStepRefIdeal.τ) (Cert.DeltaStepRefIdeal.main (F := Ideal))) ⟨m, fun _ => 0, g⟩ (fun r => (∀ c : Dev Cert.DeltaStepRefIdeal.nD,
      r.2.mem ((c.tc : Thread Cert.DeltaStepRefIdeal.nD Cert.DeltaStepRefIdeal.τ).loc Cert.DeltaStepRefIdeal.main_arg0) = m ((c.tc : Thread Cert.DeltaStepRefIdeal.nD Cert.DeltaStepRefIdeal.τ).loc Cert.DeltaStepRefIdeal.main_arg0)
      ∧ r.2.mem ((c.tc : Thread Cert.DeltaStepRefIdeal.nD Cert.DeltaStepRefIdeal.τ).loc Cert.DeltaStepRefIdeal.main_arg1) = m ((c.tc : Thread Cert.DeltaStepRefIdeal.nD Cert.DeltaStepRefIdeal.τ).loc Cert.DeltaStepRefIdeal.main_arg1)
      ∧ r.2.mem ((c.tc : Thread Cert.DeltaStepRefIdeal.nD Cert.DeltaStepRefIdeal.τ).loc Cert.DeltaStepRefIdeal.main_arg2) = m ((c.tc : Thread Cert.DeltaStepRefIdeal.nD Cert.DeltaStepRefIdeal.τ).loc Cert.DeltaStepRefIdeal.main_arg2)
      ∧ r.2.mem ((c.tc : Thread Cert.DeltaStepRefIdeal.nD Cert.DeltaStepRefIdeal.τ).loc Cert.DeltaStepRefIdeal.main_arg3) = m ((c.tc : Thread Cert.DeltaStepRefIdeal.nD Cert.DeltaStepRefIdeal.τ).loc Cert.DeltaStepRefIdeal.main_arg3)
      ∧ r.2.mem ((c.tc : Thread Cert.DeltaStepRefIdeal.nD Cert.DeltaStepRefIdeal.τ).loc Cert.DeltaStepRefIdeal.main_arg4) = m ((c.tc : Thread Cert.DeltaStepRefIdeal.nD Cert.DeltaStepRefIdeal.τ).loc Cert.DeltaStepRefIdeal.main_arg4)
      ∧ r.2.mem ((c.tc : Thread Cert.DeltaStepRefIdeal.nD Cert.DeltaStepRefIdeal.τ).loc Cert.DeltaStepRefIdeal.main_arg5) = m ((c.tc : Thread Cert.DeltaStepRefIdeal.nD Cert.DeltaStepRefIdeal.τ).loc Cert.DeltaStepRefIdeal.main_arg5)
      ∧ r.2.mem ((c.tc : Thread Cert.DeltaStepRefIdeal.nD Cert.DeltaStepRefIdeal.τ).loc Cert.DeltaStepRefIdeal.main_arg6) = m ((c.tc : Thread Cert.DeltaStepRefIdeal.nD Cert.DeltaStepRefIdeal.τ).loc Cert.DeltaStepRefIdeal.main_arg6)
      ∧ r.2.mem ((c.tc : Thread Cert.DeltaStepRefIdeal.nD Cert.DeltaStepRefIdeal.τ).loc Cert.DeltaStepRefIdeal.main_arg7) = m ((c.tc : Thread Cert.DeltaStepRefIdeal.nD Cert.DeltaStepRefIdeal.τ).loc Cert.DeltaStepRefIdeal.main_arg7)
      ∧ r.2.mem ((c.tc : Thread Cert.DeltaStepRefIdeal.nD Cert.DeltaStepRefIdeal.τ).loc Cert.DeltaStepRefIdeal.main_arg8) = m ((c.tc : Thread Cert.DeltaStepRefIdeal.nD Cert.DeltaStepRefIdeal.τ).loc Cert.DeltaStepRefIdeal.main_arg8)
      ∧ r.2.mem ((c.tc : Thread Cert.DeltaStepRefIdeal.nD Cert.DeltaStepRefIdeal.τ).loc Cert.DeltaStepRefIdeal.main_arg9) = m ((c.tc : Thread Cert.DeltaStepRefIdeal.nD Cert.DeltaStepRefIdeal.τ).loc Cert.DeltaStepRefIdeal.main_arg9))
      ∧ r.2.sem = fun _ => 0)

def quiescent_DeltaStepRefIdeal_pre_finite_step [hDeltaStepRefIdeal : Cert.DeltaStepRefIdeal.Facts] [hPre_finite_step : Cert.Pre_finite_step.Facts] : Prop :=
  ∀ (m : (ℓ : Loc Cert.DeltaStepRefIdeal.nD Cert.DeltaStepRefIdeal.τ Cert.DeltaStepRefIdeal.sig) → Buf (Elt Ideal) ℓ) (g : Dev Cert.DeltaStepRefIdeal.nD → PrngReg), Pre_DeltaStepRefIdeal_finite_step m →
    θ_run (Cert.DeltaStepRefIdeal.defs (F := Ideal)) (onTc (τ := Cert.DeltaStepRefIdeal.τ) (Cert.DeltaStepRefIdeal.main (F := Ideal))) ⟨m, fun _ => 0, g⟩ (fun r => (∀ c : Dev Cert.DeltaStepRefIdeal.nD,
      r.2.mem ((c.tc : Thread Cert.DeltaStepRefIdeal.nD Cert.DeltaStepRefIdeal.τ).loc Cert.DeltaStepRefIdeal.main_arg0) = m ((c.tc : Thread Cert.DeltaStepRefIdeal.nD Cert.DeltaStepRefIdeal.τ).loc Cert.DeltaStepRefIdeal.main_arg0)
      ∧ r.2.mem ((c.tc : Thread Cert.DeltaStepRefIdeal.nD Cert.DeltaStepRefIdeal.τ).loc Cert.DeltaStepRefIdeal.main_arg1) = m ((c.tc : Thread Cert.DeltaStepRefIdeal.nD Cert.DeltaStepRefIdeal.τ).loc Cert.DeltaStepRefIdeal.main_arg1)
      ∧ r.2.mem ((c.tc : Thread Cert.DeltaStepRefIdeal.nD Cert.DeltaStepRefIdeal.τ).loc Cert.DeltaStepRefIdeal.main_arg2) = m ((c.tc : Thread Cert.DeltaStepRefIdeal.nD Cert.DeltaStepRefIdeal.τ).loc Cert.DeltaStepRefIdeal.main_arg2)
      ∧ r.2.mem ((c.tc : Thread Cert.DeltaStepRefIdeal.nD Cert.DeltaStepRefIdeal.τ).loc Cert.DeltaStepRefIdeal.main_arg3) = m ((c.tc : Thread Cert.DeltaStepRefIdeal.nD Cert.DeltaStepRefIdeal.τ).loc Cert.DeltaStepRefIdeal.main_arg3)
      ∧ r.2.mem ((c.tc : Thread Cert.DeltaStepRefIdeal.nD Cert.DeltaStepRefIdeal.τ).loc Cert.DeltaStepRefIdeal.main_arg4) = m ((c.tc : Thread Cert.DeltaStepRefIdeal.nD Cert.DeltaStepRefIdeal.τ).loc Cert.DeltaStepRefIdeal.main_arg4)
      ∧ r.2.mem ((c.tc : Thread Cert.DeltaStepRefIdeal.nD Cert.DeltaStepRefIdeal.τ).loc Cert.DeltaStepRefIdeal.main_arg5) = m ((c.tc : Thread Cert.DeltaStepRefIdeal.nD Cert.DeltaStepRefIdeal.τ).loc Cert.DeltaStepRefIdeal.main_arg5)
      ∧ r.2.mem ((c.tc : Thread Cert.DeltaStepRefIdeal.nD Cert.DeltaStepRefIdeal.τ).loc Cert.DeltaStepRefIdeal.main_arg6) = m ((c.tc : Thread Cert.DeltaStepRefIdeal.nD Cert.DeltaStepRefIdeal.τ).loc Cert.DeltaStepRefIdeal.main_arg6)
      ∧ r.2.mem ((c.tc : Thread Cert.DeltaStepRefIdeal.nD Cert.DeltaStepRefIdeal.τ).loc Cert.DeltaStepRefIdeal.main_arg7) = m ((c.tc : Thread Cert.DeltaStepRefIdeal.nD Cert.DeltaStepRefIdeal.τ).loc Cert.DeltaStepRefIdeal.main_arg7)
      ∧ r.2.mem ((c.tc : Thread Cert.DeltaStepRefIdeal.nD Cert.DeltaStepRefIdeal.τ).loc Cert.DeltaStepRefIdeal.main_arg8) = m ((c.tc : Thread Cert.DeltaStepRefIdeal.nD Cert.DeltaStepRefIdeal.τ).loc Cert.DeltaStepRefIdeal.main_arg8)
      ∧ r.2.mem ((c.tc : Thread Cert.DeltaStepRefIdeal.nD Cert.DeltaStepRefIdeal.τ).loc Cert.DeltaStepRefIdeal.main_arg9) = m ((c.tc : Thread Cert.DeltaStepRefIdeal.nD Cert.DeltaStepRefIdeal.τ).loc Cert.DeltaStepRefIdeal.main_arg9))
      ∧ r.2.sem = fun _ => 0)

def quiescent_Ffn [hFfn : Cert.Ffn.Facts] [hPre_pages_in_pool : Cert.Pre_pages_in_pool.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] [hPre_pages_in_pool : Cert.Pre_pages_in_pool.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_pages_in_pool [hFfnRefIdeal : Cert.FfnRefIdeal.Facts] [hPre_pages_in_pool : Cert.Pre_pages_in_pool.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_pages_in_pool m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_ProjV [hProjV : Cert.ProjV.Facts] : Prop :=
  ∀ (m : (ℓ : Loc Cert.ProjV.nD Cert.ProjV.τ Cert.ProjV.sig) → Buf (Elt Bits) ℓ) (g : Dev Cert.ProjV.nD → PrngReg), Pre_ProjV m →
    θ_run (Cert.ProjV.defs (F := Bits)) (onTc (τ := Cert.ProjV.τ) (Cert.ProjV.main (F := Bits))) ⟨m, fun _ => 0, g⟩ (fun r => (∀ c : Dev Cert.ProjV.nD,
      r.2.mem ((c.tc : Thread Cert.ProjV.nD Cert.ProjV.τ).loc Cert.ProjV.main_arg0) = m ((c.tc : Thread Cert.ProjV.nD Cert.ProjV.τ).loc Cert.ProjV.main_arg0)
      ∧ r.2.mem ((c.tc : Thread Cert.ProjV.nD Cert.ProjV.τ).loc Cert.ProjV.main_arg1) = m ((c.tc : Thread Cert.ProjV.nD Cert.ProjV.τ).loc Cert.ProjV.main_arg1))
      ∧ r.2.sem = fun _ => 0)

def quiescent_ProjVIdeal [hProjVIdeal : Cert.ProjVIdeal.Facts] : Prop :=
  ∀ (m : (ℓ : Loc Cert.ProjVIdeal.nD Cert.ProjVIdeal.τ Cert.ProjVIdeal.sig) → Buf (Elt Ideal) ℓ) (g : Dev Cert.ProjVIdeal.nD → PrngReg), Pre_ProjVIdeal m →
    θ_run (Cert.ProjVIdeal.defs (F := Ideal)) (onTc (τ := Cert.ProjVIdeal.τ) (Cert.ProjVIdeal.main (F := Ideal))) ⟨m, fun _ => 0, g⟩ (fun r => (∀ c : Dev Cert.ProjVIdeal.nD,
      r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
      ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1))
      ∧ r.2.sem = fun _ => 0)

def quiescent_ProjVRefIdeal [hProjVRefIdeal : Cert.ProjVRefIdeal.Facts] : Prop :=
  ∀ (m : (ℓ : Loc Cert.ProjVRefIdeal.nD Cert.ProjVRefIdeal.τ Cert.ProjVRefIdeal.sig) → Buf (Elt Ideal) ℓ) (g : Dev Cert.ProjVRefIdeal.nD → PrngReg), Pre_ProjVRefIdeal m →
    θ_run (Cert.ProjVRefIdeal.defs (F := Ideal)) (onTc (τ := Cert.ProjVRefIdeal.τ) (Cert.ProjVRefIdeal.main (F := Ideal))) ⟨m, fun _ => 0, g⟩ (fun r => (∀ c : Dev Cert.ProjVRefIdeal.nD,
      r.2.mem ((c.tc : Thread Cert.ProjVRefIdeal.nD Cert.ProjVRefIdeal.τ).loc Cert.ProjVRefIdeal.main_arg0) = m ((c.tc : Thread Cert.ProjVRefIdeal.nD Cert.ProjVRefIdeal.τ).loc Cert.ProjVRefIdeal.main_arg0)
      ∧ r.2.mem ((c.tc : Thread Cert.ProjVRefIdeal.nD Cert.ProjVRefIdeal.τ).loc Cert.ProjVRefIdeal.main_arg1) = m ((c.tc : Thread Cert.ProjVRefIdeal.nD Cert.ProjVRefIdeal.τ).loc Cert.ProjVRefIdeal.main_arg1))
      ∧ r.2.sem = fun _ => 0)

def quiescent_ProjQK [hProjQK : Cert.ProjQK.Facts] : Prop :=
  ∀ (m : (ℓ : Loc Cert.ProjQK.nD Cert.ProjQK.τ Cert.ProjQK.sig) → Buf (Elt Bits) ℓ) (g : Dev Cert.ProjQK.nD → PrngReg), Pre_ProjQK m →
    θ_run (Cert.ProjQK.defs (F := Bits)) (onTc (τ := Cert.ProjQK.τ) (Cert.ProjQK.main (F := Bits))) ⟨m, fun _ => 0, g⟩ (fun r => (∀ c : Dev Cert.ProjQK.nD,
      r.2.mem ((c.tc : Thread Cert.ProjQK.nD Cert.ProjQK.τ).loc Cert.ProjQK.main_arg0) = m ((c.tc : Thread Cert.ProjQK.nD Cert.ProjQK.τ).loc Cert.ProjQK.main_arg0)
      ∧ r.2.mem ((c.tc : Thread Cert.ProjQK.nD Cert.ProjQK.τ).loc Cert.ProjQK.main_arg1) = m ((c.tc : Thread Cert.ProjQK.nD Cert.ProjQK.τ).loc Cert.ProjQK.main_arg1))
      ∧ r.2.sem = fun _ => 0)

def quiescent_ProjQKIdeal [hProjQKIdeal : Cert.ProjQKIdeal.Facts] : Prop :=
  ∀ (m : (ℓ : Loc Cert.ProjQKIdeal.nD Cert.ProjQKIdeal.τ Cert.ProjQKIdeal.sig) → Buf (Elt Ideal) ℓ) (g : Dev Cert.ProjQKIdeal.nD → PrngReg), Pre_ProjQKIdeal m →
    θ_run (Cert.ProjQKIdeal.defs (F := Ideal)) (onTc (τ := Cert.ProjQKIdeal.τ) (Cert.ProjQKIdeal.main (F := Ideal))) ⟨m, fun _ => 0, g⟩ (fun r => (∀ c : Dev Cert.ProjQKIdeal.nD,
      r.2.mem ((c.tc : Thread Cert.ProjQKIdeal.nD Cert.ProjQKIdeal.τ).loc Cert.ProjQKIdeal.main_arg0) = m ((c.tc : Thread Cert.ProjQKIdeal.nD Cert.ProjQKIdeal.τ).loc Cert.ProjQKIdeal.main_arg0)
      ∧ r.2.mem ((c.tc : Thread Cert.ProjQKIdeal.nD Cert.ProjQKIdeal.τ).loc Cert.ProjQKIdeal.main_arg1) = m ((c.tc : Thread Cert.ProjQKIdeal.nD Cert.ProjQKIdeal.τ).loc Cert.ProjQKIdeal.main_arg1))
      ∧ r.2.sem = fun _ => 0)

def quiescent_ProjQKRefIdeal [hProjQKRefIdeal : Cert.ProjQKRefIdeal.Facts] : Prop :=
  ∀ (m : (ℓ : Loc Cert.ProjQKRefIdeal.nD Cert.ProjQKRefIdeal.τ Cert.ProjQKRefIdeal.sig) → Buf (Elt Ideal) ℓ) (g : Dev Cert.ProjQKRefIdeal.nD → PrngReg), Pre_ProjQKRefIdeal m →
    θ_run (Cert.ProjQKRefIdeal.defs (F := Ideal)) (onTc (τ := Cert.ProjQKRefIdeal.τ) (Cert.ProjQKRefIdeal.main (F := Ideal))) ⟨m, fun _ => 0, g⟩ (fun r => (∀ c : Dev Cert.ProjQKRefIdeal.nD,
      r.2.mem ((c.tc : Thread Cert.ProjQKRefIdeal.nD Cert.ProjQKRefIdeal.τ).loc Cert.ProjQKRefIdeal.main_arg0) = m ((c.tc : Thread Cert.ProjQKRefIdeal.nD Cert.ProjQKRefIdeal.τ).loc Cert.ProjQKRefIdeal.main_arg0)
      ∧ r.2.mem ((c.tc : Thread Cert.ProjQKRefIdeal.nD Cert.ProjQKRefIdeal.τ).loc Cert.ProjQKRefIdeal.main_arg1) = m ((c.tc : Thread Cert.ProjQKRefIdeal.nD Cert.ProjQKRefIdeal.τ).loc Cert.ProjQKRefIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1))
      ∧ r.2.sem = fun _ => 0)

def quiescent_ProjZ [hProjZ : Cert.ProjZ.Facts] : Prop :=
  ∀ (m : (ℓ : Loc Cert.ProjZ.nD Cert.ProjZ.τ Cert.ProjZ.sig) → Buf (Elt Bits) ℓ) (g : Dev Cert.ProjZ.nD → PrngReg), Pre_ProjZ m →
    θ_run (Cert.ProjZ.defs (F := Bits)) (onTc (τ := Cert.ProjZ.τ) (Cert.ProjZ.main (F := Bits))) ⟨m, fun _ => 0, g⟩ (fun r => (∀ c : Dev Cert.ProjZ.nD,
      r.2.mem ((c.tc : Thread Cert.ProjZ.nD Cert.ProjZ.τ).loc Cert.ProjZ.main_arg0) = m ((c.tc : Thread Cert.ProjZ.nD Cert.ProjZ.τ).loc Cert.ProjZ.main_arg0)
      ∧ r.2.mem ((c.tc : Thread Cert.ProjZ.nD Cert.ProjZ.τ).loc Cert.ProjZ.main_arg1) = m ((c.tc : Thread Cert.ProjZ.nD Cert.ProjZ.τ).loc Cert.ProjZ.main_arg1))
      ∧ r.2.sem = fun _ => 0)

def quiescent_ProjZIdeal [hProjZIdeal : Cert.ProjZIdeal.Facts] : Prop :=
  ∀ (m : (ℓ : Loc Cert.ProjZIdeal.nD Cert.ProjZIdeal.τ Cert.ProjZIdeal.sig) → Buf (Elt Ideal) ℓ) (g : Dev Cert.ProjZIdeal.nD → PrngReg), Pre_ProjZIdeal m →
    θ_run (Cert.ProjZIdeal.defs (F := Ideal)) (onTc (τ := Cert.ProjZIdeal.τ) (Cert.ProjZIdeal.main (F := Ideal))) ⟨m, fun _ => 0, g⟩ (fun r => (∀ c : Dev Cert.ProjZIdeal.nD,
      r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
      ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1))
      ∧ r.2.sem = fun _ => 0)

def quiescent_ProjZRefIdeal [hProjZRefIdeal : Cert.ProjZRefIdeal.Facts] : Prop :=
  ∀ (m : (ℓ : Loc Cert.ProjZRefIdeal.nD Cert.ProjZRefIdeal.τ Cert.ProjZRefIdeal.sig) → Buf (Elt Ideal) ℓ) (g : Dev Cert.ProjZRefIdeal.nD → PrngReg), Pre_ProjZRefIdeal m →
    θ_run (Cert.ProjZRefIdeal.defs (F := Ideal)) (onTc (τ := Cert.ProjZRefIdeal.τ) (Cert.ProjZRefIdeal.main (F := Ideal))) ⟨m, fun _ => 0, g⟩ (fun r => (∀ c : Dev Cert.ProjZRefIdeal.nD,
      r.2.mem ((c.tc : Thread Cert.ProjZRefIdeal.nD Cert.ProjZRefIdeal.τ).loc Cert.ProjZRefIdeal.main_arg0) = m ((c.tc : Thread Cert.ProjZRefIdeal.nD Cert.ProjZRefIdeal.τ).loc Cert.ProjZRefIdeal.main_arg0)
      ∧ r.2.mem ((c.tc : Thread Cert.ProjZRefIdeal.nD Cert.ProjZRefIdeal.τ).loc Cert.ProjZRefIdeal.main_arg1) = m ((c.tc : Thread Cert.ProjZRefIdeal.nD Cert.ProjZRefIdeal.τ).loc Cert.ProjZRefIdeal.main_arg1))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_ProjVS [hProjVS : Cert.ProjVS.Facts] : Prop :=
  ∀ (m : (ℓ : Loc Cert.ProjVS.nD Cert.ProjVS.τ Cert.ProjVS.sig) → Buf (Elt Bits) ℓ) (g : Dev Cert.ProjVS.nD → PrngReg), Pre_ProjVS m →
    θ_run (Cert.ProjVS.defs (F := Bits)) (onTc (τ := Cert.ProjVS.τ) (Cert.ProjVS.main (F := Bits))) ⟨m, fun _ => 0, g⟩ (fun r => (∀ c : Dev Cert.ProjVS.nD,
      r.2.mem ((c.tc : Thread Cert.ProjVS.nD Cert.ProjVS.τ).loc Cert.ProjVS.main_arg0) = m ((c.tc : Thread Cert.ProjVS.nD Cert.ProjVS.τ).loc Cert.ProjVS.main_arg0)
      ∧ r.2.mem ((c.tc : Thread Cert.ProjVS.nD Cert.ProjVS.τ).loc Cert.ProjVS.main_arg1) = m ((c.tc : Thread Cert.ProjVS.nD Cert.ProjVS.τ).loc Cert.ProjVS.main_arg1))
      ∧ r.2.sem = fun _ => 0)

def quiescent_ProjVSIdeal [hProjVSIdeal : Cert.ProjVSIdeal.Facts] : Prop :=
  ∀ (m : (ℓ : Loc Cert.ProjVSIdeal.nD Cert.ProjVSIdeal.τ Cert.ProjVSIdeal.sig) → Buf (Elt Ideal) ℓ) (g : Dev Cert.ProjVSIdeal.nD → PrngReg), Pre_ProjVSIdeal m →
    θ_run (Cert.ProjVSIdeal.defs (F := Ideal)) (onTc (τ := Cert.ProjVSIdeal.τ) (Cert.ProjVSIdeal.main (F := Ideal))) ⟨m, fun _ => 0, g⟩ (fun r => (∀ c : Dev Cert.ProjVSIdeal.nD,
      r.2.mem ((c.tc : Thread Cert.ProjVSIdeal.nD Cert.ProjVSIdeal.τ).loc Cert.ProjVSIdeal.main_arg0) = m ((c.tc : Thread Cert.ProjVSIdeal.nD Cert.ProjVSIdeal.τ).loc Cert.ProjVSIdeal.main_arg0)
      ∧ r.2.mem ((c.tc : Thread Cert.ProjVSIdeal.nD Cert.ProjVSIdeal.τ).loc Cert.ProjVSIdeal.main_arg1) = m ((c.tc : Thread Cert.ProjVSIdeal.nD Cert.ProjVSIdeal.τ).loc Cert.ProjVSIdeal.main_arg1))
      ∧ r.2.sem = fun _ => 0)

def quiescent_ProjVSRefIdeal [hProjVSRefIdeal : Cert.ProjVSRefIdeal.Facts] : Prop :=
  ∀ (m : (ℓ : Loc Cert.ProjVSRefIdeal.nD Cert.ProjVSRefIdeal.τ Cert.ProjVSRefIdeal.sig) → Buf (Elt Ideal) ℓ) (g : Dev Cert.ProjVSRefIdeal.nD → PrngReg), Pre_ProjVSRefIdeal m →
    θ_run (Cert.ProjVSRefIdeal.defs (F := Ideal)) (onTc (τ := Cert.ProjVSRefIdeal.τ) (Cert.ProjVSRefIdeal.main (F := Ideal))) ⟨m, fun _ => 0, g⟩ (fun r => (∀ c : Dev Cert.ProjVSRefIdeal.nD,
      r.2.mem ((c.tc : Thread Cert.ProjVSRefIdeal.nD Cert.ProjVSRefIdeal.τ).loc Cert.ProjVSRefIdeal.main_arg0) = m ((c.tc : Thread Cert.ProjVSRefIdeal.nD Cert.ProjVSRefIdeal.τ).loc Cert.ProjVSRefIdeal.main_arg0)
      ∧ r.2.mem ((c.tc : Thread Cert.ProjVSRefIdeal.nD Cert.ProjVSRefIdeal.τ).loc Cert.ProjVSRefIdeal.main_arg1) = m ((c.tc : Thread Cert.ProjVSRefIdeal.nD Cert.ProjVSRefIdeal.τ).loc Cert.ProjVSRefIdeal.main_arg1))
      ∧ r.2.sem = fun _ => 0)

def quiescent_RopeS [hRopeS : Cert.RopeS.Facts] : Prop :=
  ∀ (m : (ℓ : Loc Cert.RopeS.nD Cert.RopeS.τ Cert.RopeS.sig) → Buf (Elt Bits) ℓ) (g : Dev Cert.RopeS.nD → PrngReg), Pre_RopeS m →
    θ_run (Cert.RopeS.defs (F := Bits)) (onTc (τ := Cert.RopeS.τ) (Cert.RopeS.main (F := Bits))) ⟨m, fun _ => 0, g⟩ (fun r => (∀ c : Dev Cert.RopeS.nD,
      r.2.mem ((c.tc : Thread Cert.RopeS.nD Cert.RopeS.τ).loc Cert.RopeS.main_arg0) = m ((c.tc : Thread Cert.RopeS.nD Cert.RopeS.τ).loc Cert.RopeS.main_arg0)
      ∧ r.2.mem ((c.tc : Thread Cert.RopeS.nD Cert.RopeS.τ).loc Cert.RopeS.main_arg1) = m ((c.tc : Thread Cert.RopeS.nD Cert.RopeS.τ).loc Cert.RopeS.main_arg1)
      ∧ r.2.mem ((c.tc : Thread Cert.RopeS.nD Cert.RopeS.τ).loc Cert.RopeS.main_arg2) = m ((c.tc : Thread Cert.RopeS.nD Cert.RopeS.τ).loc Cert.RopeS.main_arg2))
      ∧ r.2.sem = fun _ => 0)

def quiescent_RopeSIdeal [hRopeSIdeal : Cert.RopeSIdeal.Facts] : Prop :=
  ∀ (m : (ℓ : Loc Cert.RopeSIdeal.nD Cert.RopeSIdeal.τ Cert.RopeSIdeal.sig) → Buf (Elt Ideal) ℓ) (g : Dev Cert.RopeSIdeal.nD → PrngReg), Pre_RopeSIdeal m →
    θ_run (Cert.RopeSIdeal.defs (F := Ideal)) (onTc (τ := Cert.RopeSIdeal.τ) (Cert.RopeSIdeal.main (F := Ideal))) ⟨m, fun _ => 0, g⟩ (fun r => (∀ c : Dev Cert.RopeSIdeal.nD,
      r.2.mem ((c.tc : Thread Cert.RopeSIdeal.nD Cert.RopeSIdeal.τ).loc Cert.RopeSIdeal.main_arg0) = m ((c.tc : Thread Cert.RopeSIdeal.nD Cert.RopeSIdeal.τ).loc Cert.RopeSIdeal.main_arg0)
      ∧ r.2.mem ((c.tc : Thread Cert.RopeSIdeal.nD Cert.RopeSIdeal.τ).loc Cert.RopeSIdeal.main_arg1) = m ((c.tc : Thread Cert.RopeSIdeal.nD Cert.RopeSIdeal.τ).loc Cert.RopeSIdeal.main_arg1)
      ∧ r.2.mem ((c.tc : Thread Cert.RopeSIdeal.nD Cert.RopeSIdeal.τ).loc Cert.RopeSIdeal.main_arg2) = m ((c.tc : Thread Cert.RopeSIdeal.nD Cert.RopeSIdeal.τ).loc Cert.RopeSIdeal.main_arg2))
      ∧ r.2.sem = fun _ => 0)

def quiescent_RopeSRefIdeal [hRopeSRefIdeal : Cert.RopeSRefIdeal.Facts] : Prop :=
  ∀ (m : (ℓ : Loc Cert.RopeSRefIdeal.nD Cert.RopeSRefIdeal.τ Cert.RopeSRefIdeal.sig) → Buf (Elt Ideal) ℓ) (g : Dev Cert.RopeSRefIdeal.nD → PrngReg), Pre_RopeSRefIdeal m →
    θ_run (Cert.RopeSRefIdeal.defs (F := Ideal)) (onTc (τ := Cert.RopeSRefIdeal.τ) (Cert.RopeSRefIdeal.main (F := Ideal))) ⟨m, fun _ => 0, g⟩ (fun r => (∀ c : Dev Cert.RopeSRefIdeal.nD,
      r.2.mem ((c.tc : Thread Cert.RopeSRefIdeal.nD Cert.RopeSRefIdeal.τ).loc Cert.RopeSRefIdeal.main_arg0) = m ((c.tc : Thread Cert.RopeSRefIdeal.nD Cert.RopeSRefIdeal.τ).loc Cert.RopeSRefIdeal.main_arg0)
      ∧ r.2.mem ((c.tc : Thread Cert.RopeSRefIdeal.nD Cert.RopeSRefIdeal.τ).loc Cert.RopeSRefIdeal.main_arg1) = m ((c.tc : Thread Cert.RopeSRefIdeal.nD Cert.RopeSRefIdeal.τ).loc Cert.RopeSRefIdeal.main_arg1)
      ∧ r.2.mem ((c.tc : Thread Cert.RopeSRefIdeal.nD Cert.RopeSRefIdeal.τ).loc Cert.RopeSRefIdeal.main_arg2) = m ((c.tc : Thread Cert.RopeSRefIdeal.nD Cert.RopeSRefIdeal.τ).loc Cert.RopeSRefIdeal.main_arg2))
      ∧ r.2.sem = fun _ => 0)

def quiescent_PleS [hPleS : Cert.PleS.Facts] : Prop :=
  ∀ (m : (ℓ : Loc Cert.PleS.nD Cert.PleS.τ Cert.PleS.sig) → Buf (Elt Bits) ℓ) (g : Dev Cert.PleS.nD → PrngReg), Pre_PleS m →
    θ_run (Cert.PleS.defs (F := Bits)) (onTc (τ := Cert.PleS.τ) (Cert.PleS.main (F := Bits))) ⟨m, fun _ => 0, g⟩ (fun r => (∀ c : Dev Cert.PleS.nD,
      r.2.mem ((c.tc : Thread Cert.PleS.nD Cert.PleS.τ).loc Cert.PleS.main_arg0) = m ((c.tc : Thread Cert.PleS.nD Cert.PleS.τ).loc Cert.PleS.main_arg0)
      ∧ r.2.mem ((c.tc : Thread Cert.PleS.nD Cert.PleS.τ).loc Cert.PleS.main_arg1) = m ((c.tc : Thread Cert.PleS.nD Cert.PleS.τ).loc Cert.PleS.main_arg1)
      ∧ r.2.mem ((c.tc : Thread Cert.PleS.nD Cert.PleS.τ).loc Cert.PleS.main_arg2) = m ((c.tc : Thread Cert.PleS.nD Cert.PleS.τ).loc Cert.PleS.main_arg2)
      ∧ r.2.mem ((c.tc : Thread Cert.PleS.nD Cert.PleS.τ).loc Cert.PleS.main_arg3) = m ((c.tc : Thread Cert.PleS.nD Cert.PleS.τ).loc Cert.PleS.main_arg3)
      ∧ r.2.mem ((c.tc : Thread Cert.PleS.nD Cert.PleS.τ).loc Cert.PleS.main_arg4) = m ((c.tc : Thread Cert.PleS.nD Cert.PleS.τ).loc Cert.PleS.main_arg4))
      ∧ r.2.sem = fun _ => 0)

def quiescent_PleSIdeal [hPleSIdeal : Cert.PleSIdeal.Facts] : Prop :=
  ∀ (m : (ℓ : Loc Cert.PleSIdeal.nD Cert.PleSIdeal.τ Cert.PleSIdeal.sig) → Buf (Elt Ideal) ℓ) (g : Dev Cert.PleSIdeal.nD → PrngReg), Pre_PleSIdeal m →
    θ_run (Cert.PleSIdeal.defs (F := Ideal)) (onTc (τ := Cert.PleSIdeal.τ) (Cert.PleSIdeal.main (F := Ideal))) ⟨m, fun _ => 0, g⟩ (fun r => (∀ c : Dev Cert.PleSIdeal.nD,
      r.2.mem ((c.tc : Thread Cert.PleSIdeal.nD Cert.PleSIdeal.τ).loc Cert.PleSIdeal.main_arg0) = m ((c.tc : Thread Cert.PleSIdeal.nD Cert.PleSIdeal.τ).loc Cert.PleSIdeal.main_arg0)
      ∧ r.2.mem ((c.tc : Thread Cert.PleSIdeal.nD Cert.PleSIdeal.τ).loc Cert.PleSIdeal.main_arg1) = m ((c.tc : Thread Cert.PleSIdeal.nD Cert.PleSIdeal.τ).loc Cert.PleSIdeal.main_arg1)
      ∧ r.2.mem ((c.tc : Thread Cert.PleSIdeal.nD Cert.PleSIdeal.τ).loc Cert.PleSIdeal.main_arg2) = m ((c.tc : Thread Cert.PleSIdeal.nD Cert.PleSIdeal.τ).loc Cert.PleSIdeal.main_arg2)
      ∧ r.2.mem ((c.tc : Thread Cert.PleSIdeal.nD Cert.PleSIdeal.τ).loc Cert.PleSIdeal.main_arg3) = m ((c.tc : Thread Cert.PleSIdeal.nD Cert.PleSIdeal.τ).loc Cert.PleSIdeal.main_arg3)
      ∧ r.2.mem ((c.tc : Thread Cert.PleSIdeal.nD Cert.PleSIdeal.τ).loc Cert.PleSIdeal.main_arg4) = m ((c.tc : Thread Cert.PleSIdeal.nD Cert.PleSIdeal.τ).loc Cert.PleSIdeal.main_arg4))
      ∧ r.2.sem = fun _ => 0)

def quiescent_PleSRefIdeal [hPleSRefIdeal : Cert.PleSRefIdeal.Facts] : Prop :=
  ∀ (m : (ℓ : Loc Cert.PleSRefIdeal.nD Cert.PleSRefIdeal.τ Cert.PleSRefIdeal.sig) → Buf (Elt Ideal) ℓ) (g : Dev Cert.PleSRefIdeal.nD → PrngReg), Pre_PleSRefIdeal m →
    θ_run (Cert.PleSRefIdeal.defs (F := Ideal)) (onTc (τ := Cert.PleSRefIdeal.τ) (Cert.PleSRefIdeal.main (F := Ideal))) ⟨m, fun _ => 0, g⟩ (fun r => (∀ c : Dev Cert.PleSRefIdeal.nD,
      r.2.mem ((c.tc : Thread Cert.PleSRefIdeal.nD Cert.PleSRefIdeal.τ).loc Cert.PleSRefIdeal.main_arg0) = m ((c.tc : Thread Cert.PleSRefIdeal.nD Cert.PleSRefIdeal.τ).loc Cert.PleSRefIdeal.main_arg0)
      ∧ r.2.mem ((c.tc : Thread Cert.PleSRefIdeal.nD Cert.PleSRefIdeal.τ).loc Cert.PleSRefIdeal.main_arg1) = m ((c.tc : Thread Cert.PleSRefIdeal.nD Cert.PleSRefIdeal.τ).loc Cert.PleSRefIdeal.main_arg1)
      ∧ r.2.mem ((c.tc : Thread Cert.PleSRefIdeal.nD Cert.PleSRefIdeal.τ).loc Cert.PleSRefIdeal.main_arg2) = m ((c.tc : Thread Cert.PleSRefIdeal.nD Cert.PleSRefIdeal.τ).loc Cert.PleSRefIdeal.main_arg2)
      ∧ r.2.mem ((c.tc : Thread Cert.PleSRefIdeal.nD Cert.PleSRefIdeal.τ).loc Cert.PleSRefIdeal.main_arg3) = m ((c.tc : Thread Cert.PleSRefIdeal.nD Cert.PleSRefIdeal.τ).loc Cert.PleSRefIdeal.main_arg3)
      ∧ r.2.mem ((c.tc : Thread Cert.PleSRefIdeal.nD Cert.PleSRefIdeal.τ).loc Cert.PleSRefIdeal.main_arg4) = m ((c.tc : Thread Cert.PleSRefIdeal.nD Cert.PleSRefIdeal.τ).loc Cert.PleSRefIdeal.main_arg4))
      ∧ r.2.sem = fun _ => 0)

def preserves_DeltaStep_DeltaStepIdeal : Prop :=
  True

def algebraic_DeltaStepIdeal_DeltaStepRefIdeal_pre_finite_step [hDeltaStepIdeal : Cert.DeltaStepIdeal.Facts] [hDeltaStepRefIdeal : Cert.DeltaStepRefIdeal.Facts] [hPre_finite_step : Cert.Pre_finite_step.Facts] : Prop :=
  ∀ (m : (ℓ : Loc Cert.DeltaStepIdeal.nD Cert.DeltaStepIdeal.τ Cert.DeltaStepIdeal.sig) → Buf (Elt Ideal) ℓ) (g : Dev Cert.DeltaStepIdeal.nD → PrngReg)
    (m' : (ℓ : Loc Cert.DeltaStepRefIdeal.nD Cert.DeltaStepRefIdeal.τ Cert.DeltaStepRefIdeal.sig) → Buf (Elt Ideal) ℓ) (g' : Dev Cert.DeltaStepRefIdeal.nD → PrngReg), Pre_DeltaStepIdeal_finite_step m →
    (∀ c : Dev Cert.DeltaStepIdeal.nD,
      m' ((c.tc : Thread Cert.DeltaStepRefIdeal.nD Cert.DeltaStepRefIdeal.τ).loc Cert.DeltaStepRefIdeal.main_arg0) = m ((c.tc : Thread Cert.DeltaStepIdeal.nD Cert.DeltaStepIdeal.τ).loc Cert.DeltaStepIdeal.main_arg0)
      ∧ m' ((c.tc : Thread Cert.DeltaStepRefIdeal.nD Cert.DeltaStepRefIdeal.τ).loc Cert.DeltaStepRefIdeal.main_arg1) = m ((c.tc : Thread Cert.DeltaStepIdeal.nD Cert.DeltaStepIdeal.τ).loc Cert.DeltaStepIdeal.main_arg1)
      ∧ m' ((c.tc : Thread Cert.DeltaStepRefIdeal.nD Cert.DeltaStepRefIdeal.τ).loc Cert.DeltaStepRefIdeal.main_arg2) = m ((c.tc : Thread Cert.DeltaStepIdeal.nD Cert.DeltaStepIdeal.τ).loc Cert.DeltaStepIdeal.main_arg2)
      ∧ m' ((c.tc : Thread Cert.DeltaStepRefIdeal.nD Cert.DeltaStepRefIdeal.τ).loc Cert.DeltaStepRefIdeal.main_arg3) = m ((c.tc : Thread Cert.DeltaStepIdeal.nD Cert.DeltaStepIdeal.τ).loc Cert.DeltaStepIdeal.main_arg3)
      ∧ m' ((c.tc : Thread Cert.DeltaStepRefIdeal.nD Cert.DeltaStepRefIdeal.τ).loc Cert.DeltaStepRefIdeal.main_arg4) = m ((c.tc : Thread Cert.DeltaStepIdeal.nD Cert.DeltaStepIdeal.τ).loc Cert.DeltaStepIdeal.main_arg4)
      ∧ m' ((c.tc : Thread Cert.DeltaStepRefIdeal.nD Cert.DeltaStepRefIdeal.τ).loc Cert.DeltaStepRefIdeal.main_arg5) = m ((c.tc : Thread Cert.DeltaStepIdeal.nD Cert.DeltaStepIdeal.τ).loc Cert.DeltaStepIdeal.main_arg5)
      ∧ m' ((c.tc : Thread Cert.DeltaStepRefIdeal.nD Cert.DeltaStepRefIdeal.τ).loc Cert.DeltaStepRefIdeal.main_arg6) = m ((c.tc : Thread Cert.DeltaStepIdeal.nD Cert.DeltaStepIdeal.τ).loc Cert.DeltaStepIdeal.main_arg6)
      ∧ m' ((c.tc : Thread Cert.DeltaStepRefIdeal.nD Cert.DeltaStepRefIdeal.τ).loc Cert.DeltaStepRefIdeal.main_arg7) = m ((c.tc : Thread Cert.DeltaStepIdeal.nD Cert.DeltaStepIdeal.τ).loc Cert.DeltaStepIdeal.main_arg7)
      ∧ m' ((c.tc : Thread Cert.DeltaStepRefIdeal.nD Cert.DeltaStepRefIdeal.τ).loc Cert.DeltaStepRefIdeal.main_arg8) = m ((c.tc : Thread Cert.DeltaStepIdeal.nD Cert.DeltaStepIdeal.τ).loc Cert.DeltaStepIdeal.main_arg8)
      ∧ m' ((c.tc : Thread Cert.DeltaStepRefIdeal.nD Cert.DeltaStepRefIdeal.τ).loc Cert.DeltaStepRefIdeal.main_arg9) = m ((c.tc : Thread Cert.DeltaStepIdeal.nD Cert.DeltaStepIdeal.τ).loc Cert.DeltaStepIdeal.main_arg9)) →
    ∃ (v0 : (c : Dev Cert.DeltaStepIdeal.nD) → Buf (Elt Ideal) ((c.tc : Thread Cert.DeltaStepIdeal.nD Cert.DeltaStepIdeal.τ).loc Cert.DeltaStepIdeal.main_v13_0)) (v1 : (c : Dev Cert.DeltaStepIdeal.nD) → Buf (Elt Ideal) ((c.tc : Thread Cert.DeltaStepIdeal.nD Cert.DeltaStepIdeal.τ).loc Cert.DeltaStepIdeal.main_v13_1)) (v2 : (c : Dev Cert.DeltaStepIdeal.nD) → Buf (Elt Ideal) ((c.tc : Thread Cert.DeltaStepIdeal.nD Cert.DeltaStepIdeal.τ).loc Cert.DeltaStepIdeal.main_v13_2)),
      θ_run (Cert.DeltaStepIdeal.defs (F := Ideal)) (onTc (τ := Cert.DeltaStepIdeal.τ) (Cert.DeltaStepIdeal.main (F := Ideal))) ⟨m, fun _ => 0, g⟩ (fun r => ∀ c : Dev Cert.DeltaStepIdeal.nD,
          r.2.mem ((c.tc : Thread Cert.DeltaStepIdeal.nD Cert.DeltaStepIdeal.τ).loc Cert.DeltaStepIdeal.main_v13_0) = v0 c
          ∧ r.2.mem ((c.tc : Thread Cert.DeltaStepIdeal.nD Cert.DeltaStepIdeal.τ).loc Cert.DeltaStepIdeal.main_v13_1) = v1 c
          ∧ r.2.mem ((c.tc : Thread Cert.DeltaStepIdeal.nD Cert.DeltaStepIdeal.τ).loc Cert.DeltaStepIdeal.main_v13_2) = v2 c
          ∧ r.2.mem ((c.tc : Thread Cert.DeltaStepIdeal.nD Cert.DeltaStepIdeal.τ).loc Cert.DeltaStepIdeal.main_arg0) = m ((c.tc : Thread Cert.DeltaStepIdeal.nD Cert.DeltaStepIdeal.τ).loc Cert.DeltaStepIdeal.main_arg0)
          ∧ r.2.mem ((c.tc : Thread Cert.DeltaStepIdeal.nD Cert.DeltaStepIdeal.τ).loc Cert.DeltaStepIdeal.main_arg1) = m ((c.tc : Thread Cert.DeltaStepIdeal.nD Cert.DeltaStepIdeal.τ).loc Cert.DeltaStepIdeal.main_arg1)
          ∧ r.2.mem ((c.tc : Thread Cert.DeltaStepIdeal.nD Cert.DeltaStepIdeal.τ).loc Cert.DeltaStepIdeal.main_arg2) = m ((c.tc : Thread Cert.DeltaStepIdeal.nD Cert.DeltaStepIdeal.τ).loc Cert.DeltaStepIdeal.main_arg2)
          ∧ r.2.mem ((c.tc : Thread Cert.DeltaStepIdeal.nD Cert.DeltaStepIdeal.τ).loc Cert.DeltaStepIdeal.main_arg3) = m ((c.tc : Thread Cert.DeltaStepIdeal.nD Cert.DeltaStepIdeal.τ).loc Cert.DeltaStepIdeal.main_arg3)
          ∧ r.2.mem ((c.tc : Thread Cert.DeltaStepIdeal.nD Cert.DeltaStepIdeal.τ).loc Cert.DeltaStepIdeal.main_arg4) = m ((c.tc : Thread Cert.DeltaStepIdeal.nD Cert.DeltaStepIdeal.τ).loc Cert.DeltaStepIdeal.main_arg4)
          ∧ r.2.mem ((c.tc : Thread Cert.DeltaStepIdeal.nD Cert.DeltaStepIdeal.τ).loc Cert.DeltaStepIdeal.main_arg5) = m ((c.tc : Thread Cert.DeltaStepIdeal.nD Cert.DeltaStepIdeal.τ).loc Cert.DeltaStepIdeal.main_arg5)
          ∧ r.2.mem ((c.tc : Thread Cert.DeltaStepIdeal.nD Cert.DeltaStepIdeal.τ).loc Cert.DeltaStepIdeal.main_arg6) = m ((c.tc : Thread Cert.DeltaStepIdeal.nD Cert.DeltaStepIdeal.τ).loc Cert.DeltaStepIdeal.main_arg6)
          ∧ r.2.mem ((c.tc : Thread Cert.DeltaStepIdeal.nD Cert.DeltaStepIdeal.τ).loc Cert.DeltaStepIdeal.main_arg7) = m ((c.tc : Thread Cert.DeltaStepIdeal.nD Cert.DeltaStepIdeal.τ).loc Cert.DeltaStepIdeal.main_arg7)
          ∧ r.2.mem ((c.tc : Thread Cert.DeltaStepIdeal.nD Cert.DeltaStepIdeal.τ).loc Cert.DeltaStepIdeal.main_arg8) = m ((c.tc : Thread Cert.DeltaStepIdeal.nD Cert.DeltaStepIdeal.τ).loc Cert.DeltaStepIdeal.main_arg8)
          ∧ r.2.mem ((c.tc : Thread Cert.DeltaStepIdeal.nD Cert.DeltaStepIdeal.τ).loc Cert.DeltaStepIdeal.main_arg9) = m ((c.tc : Thread Cert.DeltaStepIdeal.nD Cert.DeltaStepIdeal.τ).loc Cert.DeltaStepIdeal.main_arg9))
      ∧ θ_run (Cert.DeltaStepRefIdeal.defs (F := Ideal)) (onTc (τ := Cert.DeltaStepRefIdeal.τ) (Cert.DeltaStepRefIdeal.main (F := Ideal))) ⟨m', fun _ => 0, g'⟩ (fun r => ∀ c : Dev Cert.DeltaStepRefIdeal.nD,
          r.2.mem ((c.tc : Thread Cert.DeltaStepRefIdeal.nD Cert.DeltaStepRefIdeal.τ).loc Cert.DeltaStepRefIdeal.main_v159) = v0 c
          ∧ r.2.mem ((c.tc : Thread Cert.DeltaStepRefIdeal.nD Cert.DeltaStepRefIdeal.τ).loc Cert.DeltaStepRefIdeal.main_v160) = v1 c
          ∧ r.2.mem ((c.tc : Thread Cert.DeltaStepRefIdeal.nD Cert.DeltaStepRefIdeal.τ).loc Cert.DeltaStepRefIdeal.main_v134) = v2 c
          ∧ r.2.mem ((c.tc : Thread Cert.DeltaStepRefIdeal.nD Cert.DeltaStepRefIdeal.τ).loc Cert.DeltaStepRefIdeal.main_arg0) = m' ((c.tc : Thread Cert.DeltaStepRefIdeal.nD Cert.DeltaStepRefIdeal.τ).loc Cert.DeltaStepRefIdeal.main_arg0)
          ∧ r.2.mem ((c.tc : Thread Cert.DeltaStepRefIdeal.nD Cert.DeltaStepRefIdeal.τ).loc Cert.DeltaStepRefIdeal.main_arg1) = m' ((c.tc : Thread Cert.DeltaStepRefIdeal.nD Cert.DeltaStepRefIdeal.τ).loc Cert.DeltaStepRefIdeal.main_arg1)
          ∧ r.2.mem ((c.tc : Thread Cert.DeltaStepRefIdeal.nD Cert.DeltaStepRefIdeal.τ).loc Cert.DeltaStepRefIdeal.main_arg2) = m' ((c.tc : Thread Cert.DeltaStepRefIdeal.nD Cert.DeltaStepRefIdeal.τ).loc Cert.DeltaStepRefIdeal.main_arg2)
          ∧ r.2.mem ((c.tc : Thread Cert.DeltaStepRefIdeal.nD Cert.DeltaStepRefIdeal.τ).loc Cert.DeltaStepRefIdeal.main_arg3) = m' ((c.tc : Thread Cert.DeltaStepRefIdeal.nD Cert.DeltaStepRefIdeal.τ).loc Cert.DeltaStepRefIdeal.main_arg3)
          ∧ r.2.mem ((c.tc : Thread Cert.DeltaStepRefIdeal.nD Cert.DeltaStepRefIdeal.τ).loc Cert.DeltaStepRefIdeal.main_arg4) = m' ((c.tc : Thread Cert.DeltaStepRefIdeal.nD Cert.DeltaStepRefIdeal.τ).loc Cert.DeltaStepRefIdeal.main_arg4)
          ∧ r.2.mem ((c.tc : Thread Cert.DeltaStepRefIdeal.nD Cert.DeltaStepRefIdeal.τ).loc Cert.DeltaStepRefIdeal.main_arg5) = m' ((c.tc : Thread Cert.DeltaStepRefIdeal.nD Cert.DeltaStepRefIdeal.τ).loc Cert.DeltaStepRefIdeal.main_arg5)
          ∧ r.2.mem ((c.tc : Thread Cert.DeltaStepRefIdeal.nD Cert.DeltaStepRefIdeal.τ).loc Cert.DeltaStepRefIdeal.main_arg6) = m' ((c.tc : Thread Cert.DeltaStepRefIdeal.nD Cert.DeltaStepRefIdeal.τ).loc Cert.DeltaStepRefIdeal.main_arg6)
          ∧ r.2.mem ((c.tc : Thread Cert.DeltaStepRefIdeal.nD Cert.DeltaStepRefIdeal.τ).loc Cert.DeltaStepRefIdeal.main_arg7) = m' ((c.tc : Thread Cert.DeltaStepRefIdeal.nD Cert.DeltaStepRefIdeal.τ).loc Cert.DeltaStepRefIdeal.main_arg7)
          ∧ r.2.mem ((c.tc : Thread Cert.DeltaStepRefIdeal.nD Cert.DeltaStepRefIdeal.τ).loc Cert.DeltaStepRefIdeal.main_arg8) = m' ((c.tc : Thread Cert.DeltaStepRefIdeal.nD Cert.DeltaStepRefIdeal.τ).loc Cert.DeltaStepRefIdeal.main_arg8)
          ∧ r.2.mem ((c.tc : Thread Cert.DeltaStepRefIdeal.nD Cert.DeltaStepRefIdeal.τ).loc Cert.DeltaStepRefIdeal.main_arg9) = m' ((c.tc : Thread Cert.DeltaStepRefIdeal.nD Cert.DeltaStepRefIdeal.τ).loc Cert.DeltaStepRefIdeal.main_arg9))

def preserves_Ffn_FfnIdeal : Prop :=
  True

def algebraic_FfnIdeal_FfnRefIdeal [hFfnIdeal : Cert.FfnIdeal.Facts] [hFfnRefIdeal : Cert.FfnRefIdeal.Facts] [hPre_pages_in_pool : Cert.Pre_pages_in_pool.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v4_0)) (v1 : (c : Dev Cert.FfnIdeal.nD) → Buf (Elt Ideal) ((c.tc : Thread Cert.FfnIdeal.nD Cert.FfnIdeal.τ).loc Cert.FfnIdeal.main_v4_1)) (v2 : (c : Dev Cert.FfnIdeal.nD) → Buf (Elt Ideal) ((c.tc : Thread Cert.FfnIdeal.nD Cert.FfnIdeal.τ).loc Cert.FfnIdeal.main_v4_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4_0) = v0 c
          ∧ r.2.mem ((c.tc : Thread Cert.FfnIdeal.nD Cert.FfnIdeal.τ).loc Cert.FfnIdeal.main_v4_1) = v1 c
          ∧ r.2.mem ((c.tc : Thread Cert.FfnIdeal.nD Cert.FfnIdeal.τ).loc Cert.FfnIdeal.main_v4_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v14) = v0 c
          ∧ r.2.mem ((c.tc : Thread Cert.FfnRefIdeal.nD Cert.FfnRefIdeal.τ).loc Cert.FfnRefIdeal.main_v38) = v1 c
          ∧ r.2.mem ((c.tc : Thread Cert.FfnRefIdeal.nD Cert.FfnRefIdeal.τ).loc Cert.FfnRefIdeal.main_v39) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_ProjV_ProjVIdeal : Prop :=
  True

def algebraic_ProjVIdeal_ProjVRefIdeal [hProjVIdeal : Cert.ProjVIdeal.Facts] [hProjVRefIdeal : Cert.ProjVRefIdeal.Facts] : Prop :=
  ∀ (m : (ℓ : Loc Cert.ProjVIdeal.nD Cert.ProjVIdeal.τ Cert.ProjVIdeal.sig) → Buf (Elt Ideal) ℓ) (g : Dev Cert.ProjVIdeal.nD → PrngReg)
    (m' : (ℓ : Loc Cert.ProjVRefIdeal.nD Cert.ProjVRefIdeal.τ Cert.ProjVRefIdeal.sig) → Buf (Elt Ideal) ℓ) (g' : Dev Cert.ProjVRefIdeal.nD → PrngReg), Pre_ProjVIdeal m →
    (∀ c : Dev Cert.ProjVIdeal.nD,
      m' ((c.tc : Thread Cert.ProjVRefIdeal.nD Cert.ProjVRefIdeal.τ).loc Cert.ProjVRefIdeal.main_arg0) = m ((c.tc : Thread Cert.ProjVIdeal.nD Cert.ProjVIdeal.τ).loc Cert.ProjVIdeal.main_arg0)
      ∧ m' ((c.tc : Thread Cert.ProjVRefIdeal.nD Cert.ProjVRefIdeal.τ).loc Cert.ProjVRefIdeal.main_arg1) = m ((c.tc : Thread Cert.ProjVIdeal.nD Cert.ProjVIdeal.τ).loc Cert.ProjVIdeal.main_arg1)) →
    ∃ (v0 : (c : Dev Cert.ProjVIdeal.nD) → Buf (Elt Ideal) ((c.tc : Thread Cert.ProjVIdeal.nD Cert.ProjVIdeal.τ).loc Cert.ProjVIdeal.main_v2_0)) (v1 : (c : Dev Cert.ProjVIdeal.nD) → Buf (Elt Ideal) ((c.tc : Thread Cert.ProjVIdeal.nD Cert.ProjVIdeal.τ).loc Cert.ProjVIdeal.main_v2_1)),
      θ_run (Cert.ProjVIdeal.defs (F := Ideal)) (onTc (τ := Cert.ProjVIdeal.τ) (Cert.ProjVIdeal.main (F := Ideal))) ⟨m, fun _ => 0, g⟩ (fun r => ∀ c : Dev Cert.ProjVIdeal.nD,
          r.2.mem ((c.tc : Thread Cert.ProjVIdeal.nD Cert.ProjVIdeal.τ).loc Cert.ProjVIdeal.main_v2_0) = v0 c
          ∧ r.2.mem ((c.tc : Thread Cert.ProjVIdeal.nD Cert.ProjVIdeal.τ).loc Cert.ProjVIdeal.main_v2_1) = v1 c
          ∧ r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
          ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1))
      ∧ θ_run (Cert.ProjVRefIdeal.defs (F := Ideal)) (onTc (τ := Cert.ProjVRefIdeal.τ) (Cert.ProjVRefIdeal.main (F := Ideal))) ⟨m', fun _ => 0, g'⟩ (fun r => ∀ c : Dev Cert.ProjVRefIdeal.nD,
          r.2.mem ((c.tc : Thread Cert.ProjVRefIdeal.nD Cert.ProjVRefIdeal.τ).loc Cert.ProjVRefIdeal.main_v0) = v0 c
          ∧ r.2.mem ((c.tc : Thread Cert.ProjVRefIdeal.nD Cert.ProjVRefIdeal.τ).loc Cert.ProjVRefIdeal.main_v2) = v1 c
          ∧ r.2.mem ((c.tc : Thread Cert.ProjVRefIdeal.nD Cert.ProjVRefIdeal.τ).loc Cert.ProjVRefIdeal.main_arg0) = m' ((c.tc : Thread Cert.ProjVRefIdeal.nD Cert.ProjVRefIdeal.τ).loc Cert.ProjVRefIdeal.main_arg0)
          ∧ r.2.mem ((c.tc : Thread Cert.ProjVRefIdeal.nD Cert.ProjVRefIdeal.τ).loc Cert.ProjVRefIdeal.main_arg1) = m' ((c.tc : Thread Cert.ProjVRefIdeal.nD Cert.ProjVRefIdeal.τ).loc Cert.ProjVRefIdeal.main_arg1))

def preserves_ProjQK_ProjQKIdeal : Prop :=
  True

def algebraic_ProjQKIdeal_ProjQKRefIdeal [hProjQKIdeal : Cert.ProjQKIdeal.Facts] [hProjQKRefIdeal : Cert.ProjQKRefIdeal.Facts] : Prop :=
  ∀ (m : (ℓ : Loc Cert.ProjQKIdeal.nD Cert.ProjQKIdeal.τ Cert.ProjQKIdeal.sig) → Buf (Elt Ideal) ℓ) (g : Dev Cert.ProjQKIdeal.nD → PrngReg)
    (m' : (ℓ : Loc Cert.ProjQKRefIdeal.nD Cert.ProjQKRefIdeal.τ Cert.ProjQKRefIdeal.sig) → Buf (Elt Ideal) ℓ) (g' : Dev Cert.ProjQKRefIdeal.nD → PrngReg), Pre_ProjQKIdeal m →
    (∀ c : Dev Cert.ProjQKIdeal.nD,
      m' ((c.tc : Thread Cert.ProjQKRefIdeal.nD Cert.ProjQKRefIdeal.τ).loc Cert.ProjQKRefIdeal.main_arg0) = m ((c.tc : Thread Cert.ProjQKIdeal.nD Cert.ProjQKIdeal.τ).loc Cert.ProjQKIdeal.main_arg0)
      ∧ m' ((c.tc : Thread Cert.ProjQKRefIdeal.nD Cert.ProjQKRefIdeal.τ).loc Cert.ProjQKRefIdeal.main_arg1) = m ((c.tc : Thread Cert.ProjQKIdeal.nD Cert.ProjQKIdeal.τ).loc Cert.ProjQKIdeal.main_arg1)) →
    ∃ (v0 : (c : Dev Cert.ProjQKIdeal.nD) → Buf (Elt Ideal) ((c.tc : Thread Cert.ProjQKIdeal.nD Cert.ProjQKIdeal.τ).loc Cert.ProjQKIdeal.main_v2)),
      θ_run (Cert.ProjQKIdeal.defs (F := Ideal)) (onTc (τ := Cert.ProjQKIdeal.τ) (Cert.ProjQKIdeal.main (F := Ideal))) ⟨m, fun _ => 0, g⟩ (fun r => ∀ c : Dev Cert.ProjQKIdeal.nD,
          r.2.mem ((c.tc : Thread Cert.ProjQKIdeal.nD Cert.ProjQKIdeal.τ).loc Cert.ProjQKIdeal.main_v2) = v0 c
          ∧ r.2.mem ((c.tc : Thread Cert.ProjQKIdeal.nD Cert.ProjQKIdeal.τ).loc Cert.ProjQKIdeal.main_arg0) = m ((c.tc : Thread Cert.ProjQKIdeal.nD Cert.ProjQKIdeal.τ).loc Cert.ProjQKIdeal.main_arg0)
          ∧ r.2.mem ((c.tc : Thread Cert.ProjQKIdeal.nD Cert.ProjQKIdeal.τ).loc Cert.ProjQKIdeal.main_arg1) = m ((c.tc : Thread Cert.ProjQKIdeal.nD Cert.ProjQKIdeal.τ).loc Cert.ProjQKIdeal.main_arg1))
      ∧ θ_run (Cert.ProjQKRefIdeal.defs (F := Ideal)) (onTc (τ := Cert.ProjQKRefIdeal.τ) (Cert.ProjQKRefIdeal.main (F := Ideal))) ⟨m', fun _ => 0, g'⟩ (fun r => ∀ c : Dev Cert.ProjQKRefIdeal.nD,
          r.2.mem ((c.tc : Thread Cert.ProjQKRefIdeal.nD Cert.ProjQKRefIdeal.τ).loc Cert.ProjQKRefIdeal.main_v0) = v0 c
          ∧ r.2.mem ((c.tc : Thread Cert.ProjQKRefIdeal.nD Cert.ProjQKRefIdeal.τ).loc Cert.ProjQKRefIdeal.main_arg0) = m' ((c.tc : Thread Cert.ProjQKRefIdeal.nD Cert.ProjQKRefIdeal.τ).loc Cert.ProjQKRefIdeal.main_arg0)
          ∧ r.2.mem ((c.tc : Thread Cert.ProjQKRefIdeal.nD Cert.ProjQKRefIdeal.τ).loc Cert.ProjQKRefIdeal.main_arg1) = m' ((c.tc : Thread Cert.ProjQKRefIdeal.nD Cert.ProjQKRefIdeal.τ).loc Cert.ProjQKRefIdeal.main_arg1))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v2)) (v1 : (c : Dev Cert.ProjBIdeal.nD) → Buf (Elt Ideal) ((c.tc : Thread Cert.ProjBIdeal.nD Cert.ProjBIdeal.τ).loc Cert.ProjBIdeal.main_v3)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v2) = v0 c
          ∧ r.2.mem ((c.tc : Thread Cert.ProjBIdeal.nD Cert.ProjBIdeal.τ).loc Cert.ProjBIdeal.main_v3) = v1 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v0) = v0 c
          ∧ r.2.mem ((c.tc : Thread Cert.ProjBRefIdeal.nD Cert.ProjBRefIdeal.τ).loc Cert.ProjBRefIdeal.main_v3) = v1 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1))

def preserves_ProjZ_ProjZIdeal : Prop :=
  True

def algebraic_ProjZIdeal_ProjZRefIdeal [hProjZIdeal : Cert.ProjZIdeal.Facts] [hProjZRefIdeal : Cert.ProjZRefIdeal.Facts] : Prop :=
  ∀ (m : (ℓ : Loc Cert.ProjZIdeal.nD Cert.ProjZIdeal.τ Cert.ProjZIdeal.sig) → Buf (Elt Ideal) ℓ) (g : Dev Cert.ProjZIdeal.nD → PrngReg)
    (m' : (ℓ : Loc Cert.ProjZRefIdeal.nD Cert.ProjZRefIdeal.τ Cert.ProjZRefIdeal.sig) → Buf (Elt Ideal) ℓ) (g' : Dev Cert.ProjZRefIdeal.nD → PrngReg), Pre_ProjZIdeal m →
    (∀ c : Dev Cert.ProjZIdeal.nD,
      m' ((c.tc : Thread Cert.ProjZRefIdeal.nD Cert.ProjZRefIdeal.τ).loc Cert.ProjZRefIdeal.main_arg0) = m ((c.tc : Thread Cert.ProjZIdeal.nD Cert.ProjZIdeal.τ).loc Cert.ProjZIdeal.main_arg0)
      ∧ m' ((c.tc : Thread Cert.ProjZRefIdeal.nD Cert.ProjZRefIdeal.τ).loc Cert.ProjZRefIdeal.main_arg1) = m ((c.tc : Thread Cert.ProjZIdeal.nD Cert.ProjZIdeal.τ).loc Cert.ProjZIdeal.main_arg1)) →
    ∃ (v0 : (c : Dev Cert.ProjZIdeal.nD) → Buf (Elt Ideal) ((c.tc : Thread Cert.ProjZIdeal.nD Cert.ProjZIdeal.τ).loc Cert.ProjZIdeal.main_v2)),
      θ_run (Cert.ProjZIdeal.defs (F := Ideal)) (onTc (τ := Cert.ProjZIdeal.τ) (Cert.ProjZIdeal.main (F := Ideal))) ⟨m, fun _ => 0, g⟩ (fun r => ∀ c : Dev Cert.ProjZIdeal.nD,
          r.2.mem ((c.tc : Thread Cert.ProjZIdeal.nD Cert.ProjZIdeal.τ).loc Cert.ProjZIdeal.main_v2) = v0 c
          ∧ r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
          ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1))
      ∧ θ_run (Cert.ProjZRefIdeal.defs (F := Ideal)) (onTc (τ := Cert.ProjZRefIdeal.τ) (Cert.ProjZRefIdeal.main (F := Ideal))) ⟨m', fun _ => 0, g'⟩ (fun r => ∀ c : Dev Cert.ProjZRefIdeal.nD,
          r.2.mem ((c.tc : Thread Cert.ProjZRefIdeal.nD Cert.ProjZRefIdeal.τ).loc Cert.ProjZRefIdeal.main_v0) = v0 c
          ∧ r.2.mem ((c.tc : Thread Cert.ProjZRefIdeal.nD Cert.ProjZRefIdeal.τ).loc Cert.ProjZRefIdeal.main_arg0) = m' ((c.tc : Thread Cert.ProjZRefIdeal.nD Cert.ProjZRefIdeal.τ).loc Cert.ProjZRefIdeal.main_arg0)
          ∧ r.2.mem ((c.tc : Thread Cert.ProjZRefIdeal.nD Cert.ProjZRefIdeal.τ).loc Cert.ProjZRefIdeal.main_arg1) = m' ((c.tc : Thread Cert.ProjZRefIdeal.nD Cert.ProjZRefIdeal.τ).loc Cert.ProjZRefIdeal.main_arg1))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)) →
    ∃ (v0 : (c : Dev Cert.RopeIdeal.nD) → Buf (Elt Ideal) ((c.tc : Thread Cert.RopeIdeal.nD Cert.RopeIdeal.τ).loc Cert.RopeIdeal.main_v18_0)) (v1 : (c : Dev Cert.RopeIdeal.nD) → Buf (Elt Ideal) ((c.tc : Thread Cert.RopeIdeal.nD Cert.RopeIdeal.τ).loc Cert.RopeIdeal.main_v18_1)) (v2 : (c : Dev Cert.RopeIdeal.nD) → Buf (Elt Ideal) ((c.tc : Thread Cert.RopeIdeal.nD Cert.RopeIdeal.τ).loc Cert.RopeIdeal.main_v18_2)) (v3 : (c : Dev Cert.RopeIdeal.nD) → Buf (Elt Ideal) ((c.tc : Thread Cert.RopeIdeal.nD Cert.RopeIdeal.τ).loc Cert.RopeIdeal.main_v18_3)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v18_0) = v0 c
          ∧ r.2.mem ((c.tc : Thread Cert.RopeIdeal.nD Cert.RopeIdeal.τ).loc Cert.RopeIdeal.main_v18_1) = v1 c
          ∧ r.2.mem ((c.tc : Thread Cert.RopeIdeal.nD Cert.RopeIdeal.τ).loc Cert.RopeIdeal.main_v18_2) = v2 c
          ∧ r.2.mem ((c.tc : Thread Cert.RopeIdeal.nD Cert.RopeIdeal.τ).loc Cert.RopeIdeal.main_v18_3) = v3 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v97) = v0 c
          ∧ r.2.mem ((c.tc : Thread Cert.RopeRefIdeal.nD Cert.RopeRefIdeal.τ).loc Cert.RopeRefIdeal.main_v95) = v1 c
          ∧ r.2.mem ((c.tc : Thread Cert.RopeRefIdeal.nD Cert.RopeRefIdeal.τ).loc Cert.RopeRefIdeal.main_v98) = v2 c
          ∧ r.2.mem ((c.tc : Thread Cert.RopeRefIdeal.nD Cert.RopeRefIdeal.τ).loc Cert.RopeRefIdeal.main_v99) = v3 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v1_0)) (v1 : (c : Dev Cert.OutProjIdeal.nD) → Buf (Elt Ideal) ((c.tc : Thread Cert.OutProjIdeal.nD Cert.OutProjIdeal.τ).loc Cert.OutProjIdeal.main_v1_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1_0) = v0 c
          ∧ r.2.mem ((c.tc : Thread Cert.OutProjIdeal.nD Cert.OutProjIdeal.τ).loc Cert.OutProjIdeal.main_v1_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v18) = v0 c
          ∧ r.2.mem ((c.tc : Thread Cert.OutProjRefIdeal.nD Cert.OutProjRefIdeal.τ).loc Cert.OutProjRefIdeal.main_v31) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v9) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_ProjVS_ProjVSIdeal : Prop :=
  True

def algebraic_ProjVSIdeal_ProjVSRefIdeal [hProjVSIdeal : Cert.ProjVSIdeal.Facts] [hProjVSRefIdeal : Cert.ProjVSRefIdeal.Facts] : Prop :=
  ∀ (m : (ℓ : Loc Cert.ProjVSIdeal.nD Cert.ProjVSIdeal.τ Cert.ProjVSIdeal.sig) → Buf (Elt Ideal) ℓ) (g : Dev Cert.ProjVSIdeal.nD → PrngReg)
    (m' : (ℓ : Loc Cert.ProjVSRefIdeal.nD Cert.ProjVSRefIdeal.τ Cert.ProjVSRefIdeal.sig) → Buf (Elt Ideal) ℓ) (g' : Dev Cert.ProjVSRefIdeal.nD → PrngReg), Pre_ProjVSIdeal m →
    (∀ c : Dev Cert.ProjVSIdeal.nD,
      m' ((c.tc : Thread Cert.ProjVSRefIdeal.nD Cert.ProjVSRefIdeal.τ).loc Cert.ProjVSRefIdeal.main_arg0) = m ((c.tc : Thread Cert.ProjVSIdeal.nD Cert.ProjVSIdeal.τ).loc Cert.ProjVSIdeal.main_arg0)
      ∧ m' ((c.tc : Thread Cert.ProjVSRefIdeal.nD Cert.ProjVSRefIdeal.τ).loc Cert.ProjVSRefIdeal.main_arg1) = m ((c.tc : Thread Cert.ProjVSIdeal.nD Cert.ProjVSIdeal.τ).loc Cert.ProjVSIdeal.main_arg1)) →
    ∃ (v0 : (c : Dev Cert.ProjVSIdeal.nD) → Buf (Elt Ideal) ((c.tc : Thread Cert.ProjVSIdeal.nD Cert.ProjVSIdeal.τ).loc Cert.ProjVSIdeal.main_v2)),
      θ_run (Cert.ProjVSIdeal.defs (F := Ideal)) (onTc (τ := Cert.ProjVSIdeal.τ) (Cert.ProjVSIdeal.main (F := Ideal))) ⟨m, fun _ => 0, g⟩ (fun r => ∀ c : Dev Cert.ProjVSIdeal.nD,
          r.2.mem ((c.tc : Thread Cert.ProjVSIdeal.nD Cert.ProjVSIdeal.τ).loc Cert.ProjVSIdeal.main_v2) = v0 c
          ∧ r.2.mem ((c.tc : Thread Cert.ProjVSIdeal.nD Cert.ProjVSIdeal.τ).loc Cert.ProjVSIdeal.main_arg0) = m ((c.tc : Thread Cert.ProjVSIdeal.nD Cert.ProjVSIdeal.τ).loc Cert.ProjVSIdeal.main_arg0)
          ∧ r.2.mem ((c.tc : Thread Cert.ProjVSIdeal.nD Cert.ProjVSIdeal.τ).loc Cert.ProjVSIdeal.main_arg1) = m ((c.tc : Thread Cert.ProjVSIdeal.nD Cert.ProjVSIdeal.τ).loc Cert.ProjVSIdeal.main_arg1))
      ∧ θ_run (Cert.ProjVSRefIdeal.defs (F := Ideal)) (onTc (τ := Cert.ProjVSRefIdeal.τ) (Cert.ProjVSRefIdeal.main (F := Ideal))) ⟨m', fun _ => 0, g'⟩ (fun r => ∀ c : Dev Cert.ProjVSRefIdeal.nD,
          r.2.mem ((c.tc : Thread Cert.ProjVSRefIdeal.nD Cert.ProjVSRefIdeal.τ).loc Cert.ProjVSRefIdeal.main_v0) = v0 c
          ∧ r.2.mem ((c.tc : Thread Cert.ProjVSRefIdeal.nD Cert.ProjVSRefIdeal.τ).loc Cert.ProjVSRefIdeal.main_arg0) = m' ((c.tc : Thread Cert.ProjVSRefIdeal.nD Cert.ProjVSRefIdeal.τ).loc Cert.ProjVSRefIdeal.main_arg0)
          ∧ r.2.mem ((c.tc : Thread Cert.ProjVSRefIdeal.nD Cert.ProjVSRefIdeal.τ).loc Cert.ProjVSRefIdeal.main_arg1) = m' ((c.tc : Thread Cert.ProjVSRefIdeal.nD Cert.ProjVSRefIdeal.τ).loc Cert.ProjVSRefIdeal.main_arg1))

def preserves_RopeS_RopeSIdeal : Prop :=
  True

def algebraic_RopeSIdeal_RopeSRefIdeal [hRopeSIdeal : Cert.RopeSIdeal.Facts] [hRopeSRefIdeal : Cert.RopeSRefIdeal.Facts] : Prop :=
  ∀ (m : (ℓ : Loc Cert.RopeSIdeal.nD Cert.RopeSIdeal.τ Cert.RopeSIdeal.sig) → Buf (Elt Ideal) ℓ) (g : Dev Cert.RopeSIdeal.nD → PrngReg)
    (m' : (ℓ : Loc Cert.RopeSRefIdeal.nD Cert.RopeSRefIdeal.τ Cert.RopeSRefIdeal.sig) → Buf (Elt Ideal) ℓ) (g' : Dev Cert.RopeSRefIdeal.nD → PrngReg), Pre_RopeSIdeal m →
    (∀ c : Dev Cert.RopeSIdeal.nD,
      m' ((c.tc : Thread Cert.RopeSRefIdeal.nD Cert.RopeSRefIdeal.τ).loc Cert.RopeSRefIdeal.main_arg0) = m ((c.tc : Thread Cert.RopeSIdeal.nD Cert.RopeSIdeal.τ).loc Cert.RopeSIdeal.main_arg0)
      ∧ m' ((c.tc : Thread Cert.RopeSRefIdeal.nD Cert.RopeSRefIdeal.τ).loc Cert.RopeSRefIdeal.main_arg1) = m ((c.tc : Thread Cert.RopeSIdeal.nD Cert.RopeSIdeal.τ).loc Cert.RopeSIdeal.main_arg1)
      ∧ m' ((c.tc : Thread Cert.RopeSRefIdeal.nD Cert.RopeSRefIdeal.τ).loc Cert.RopeSRefIdeal.main_arg2) = m ((c.tc : Thread Cert.RopeSIdeal.nD Cert.RopeSIdeal.τ).loc Cert.RopeSIdeal.main_arg2)) →
    ∃ (v0 : (c : Dev Cert.RopeSIdeal.nD) → Buf (Elt Ideal) ((c.tc : Thread Cert.RopeSIdeal.nD Cert.RopeSIdeal.τ).loc Cert.RopeSIdeal.main_v18_0)) (v1 : (c : Dev Cert.RopeSIdeal.nD) → Buf (Elt Ideal) ((c.tc : Thread Cert.RopeSIdeal.nD Cert.RopeSIdeal.τ).loc Cert.RopeSIdeal.main_v18_1)),
      θ_run (Cert.RopeSIdeal.defs (F := Ideal)) (onTc (τ := Cert.RopeSIdeal.τ) (Cert.RopeSIdeal.main (F := Ideal))) ⟨m, fun _ => 0, g⟩ (fun r => ∀ c : Dev Cert.RopeSIdeal.nD,
          r.2.mem ((c.tc : Thread Cert.RopeSIdeal.nD Cert.RopeSIdeal.τ).loc Cert.RopeSIdeal.main_v18_0) = v0 c
          ∧ r.2.mem ((c.tc : Thread Cert.RopeSIdeal.nD Cert.RopeSIdeal.τ).loc Cert.RopeSIdeal.main_v18_1) = v1 c
          ∧ r.2.mem ((c.tc : Thread Cert.RopeSIdeal.nD Cert.RopeSIdeal.τ).loc Cert.RopeSIdeal.main_arg0) = m ((c.tc : Thread Cert.RopeSIdeal.nD Cert.RopeSIdeal.τ).loc Cert.RopeSIdeal.main_arg0)
          ∧ r.2.mem ((c.tc : Thread Cert.RopeSIdeal.nD Cert.RopeSIdeal.τ).loc Cert.RopeSIdeal.main_arg1) = m ((c.tc : Thread Cert.RopeSIdeal.nD Cert.RopeSIdeal.τ).loc Cert.RopeSIdeal.main_arg1)
          ∧ r.2.mem ((c.tc : Thread Cert.RopeSIdeal.nD Cert.RopeSIdeal.τ).loc Cert.RopeSIdeal.main_arg2) = m ((c.tc : Thread Cert.RopeSIdeal.nD Cert.RopeSIdeal.τ).loc Cert.RopeSIdeal.main_arg2))
      ∧ θ_run (Cert.RopeSRefIdeal.defs (F := Ideal)) (onTc (τ := Cert.RopeSRefIdeal.τ) (Cert.RopeSRefIdeal.main (F := Ideal))) ⟨m', fun _ => 0, g'⟩ (fun r => ∀ c : Dev Cert.RopeSRefIdeal.nD,
          r.2.mem ((c.tc : Thread Cert.RopeSRefIdeal.nD Cert.RopeSRefIdeal.τ).loc Cert.RopeSRefIdeal.main_v91) = v0 c
          ∧ r.2.mem ((c.tc : Thread Cert.RopeSRefIdeal.nD Cert.RopeSRefIdeal.τ).loc Cert.RopeSRefIdeal.main_v92) = v1 c
          ∧ r.2.mem ((c.tc : Thread Cert.RopeSRefIdeal.nD Cert.RopeSRefIdeal.τ).loc Cert.RopeSRefIdeal.main_arg0) = m' ((c.tc : Thread Cert.RopeSRefIdeal.nD Cert.RopeSRefIdeal.τ).loc Cert.RopeSRefIdeal.main_arg0)
          ∧ r.2.mem ((c.tc : Thread Cert.RopeSRefIdeal.nD Cert.RopeSRefIdeal.τ).loc Cert.RopeSRefIdeal.main_arg1) = m' ((c.tc : Thread Cert.RopeSRefIdeal.nD Cert.RopeSRefIdeal.τ).loc Cert.RopeSRefIdeal.main_arg1)
          ∧ r.2.mem ((c.tc : Thread Cert.RopeSRefIdeal.nD Cert.RopeSRefIdeal.τ).loc Cert.RopeSRefIdeal.main_arg2) = m' ((c.tc : Thread Cert.RopeSRefIdeal.nD Cert.RopeSRefIdeal.τ).loc Cert.RopeSRefIdeal.main_arg2))

def preserves_PleS_PleSIdeal : Prop :=
  True

def algebraic_PleSIdeal_PleSRefIdeal [hPleSIdeal : Cert.PleSIdeal.Facts] [hPleSRefIdeal : Cert.PleSRefIdeal.Facts] : Prop :=
  ∀ (m : (ℓ : Loc Cert.PleSIdeal.nD Cert.PleSIdeal.τ Cert.PleSIdeal.sig) → Buf (Elt Ideal) ℓ) (g : Dev Cert.PleSIdeal.nD → PrngReg)
    (m' : (ℓ : Loc Cert.PleSRefIdeal.nD Cert.PleSRefIdeal.τ Cert.PleSRefIdeal.sig) → Buf (Elt Ideal) ℓ) (g' : Dev Cert.PleSRefIdeal.nD → PrngReg), Pre_PleSIdeal m →
    (∀ c : Dev Cert.PleSIdeal.nD,
      m' ((c.tc : Thread Cert.PleSRefIdeal.nD Cert.PleSRefIdeal.τ).loc Cert.PleSRefIdeal.main_arg0) = m ((c.tc : Thread Cert.PleSIdeal.nD Cert.PleSIdeal.τ).loc Cert.PleSIdeal.main_arg0)
      ∧ m' ((c.tc : Thread Cert.PleSRefIdeal.nD Cert.PleSRefIdeal.τ).loc Cert.PleSRefIdeal.main_arg1) = m ((c.tc : Thread Cert.PleSIdeal.nD Cert.PleSIdeal.τ).loc Cert.PleSIdeal.main_arg1)
      ∧ m' ((c.tc : Thread Cert.PleSRefIdeal.nD Cert.PleSRefIdeal.τ).loc Cert.PleSRefIdeal.main_arg2) = m ((c.tc : Thread Cert.PleSIdeal.nD Cert.PleSIdeal.τ).loc Cert.PleSIdeal.main_arg2)
      ∧ m' ((c.tc : Thread Cert.PleSRefIdeal.nD Cert.PleSRefIdeal.τ).loc Cert.PleSRefIdeal.main_arg3) = m ((c.tc : Thread Cert.PleSIdeal.nD Cert.PleSIdeal.τ).loc Cert.PleSIdeal.main_arg3)
      ∧ m' ((c.tc : Thread Cert.PleSRefIdeal.nD Cert.PleSRefIdeal.τ).loc Cert.PleSRefIdeal.main_arg4) = m ((c.tc : Thread Cert.PleSIdeal.nD Cert.PleSIdeal.τ).loc Cert.PleSIdeal.main_arg4)) →
    ∃ (v0 : (c : Dev Cert.PleSIdeal.nD) → Buf (Elt Ideal) ((c.tc : Thread Cert.PleSIdeal.nD Cert.PleSIdeal.τ).loc Cert.PleSIdeal.main_v4)),
      θ_run (Cert.PleSIdeal.defs (F := Ideal)) (onTc (τ := Cert.PleSIdeal.τ) (Cert.PleSIdeal.main (F := Ideal))) ⟨m, fun _ => 0, g⟩ (fun r => ∀ c : Dev Cert.PleSIdeal.nD,
          r.2.mem ((c.tc : Thread Cert.PleSIdeal.nD Cert.PleSIdeal.τ).loc Cert.PleSIdeal.main_v4) = v0 c
          ∧ r.2.mem ((c.tc : Thread Cert.PleSIdeal.nD Cert.PleSIdeal.τ).loc Cert.PleSIdeal.main_arg0) = m ((c.tc : Thread Cert.PleSIdeal.nD Cert.PleSIdeal.τ).loc Cert.PleSIdeal.main_arg0)
          ∧ r.2.mem ((c.tc : Thread Cert.PleSIdeal.nD Cert.PleSIdeal.τ).loc Cert.PleSIdeal.main_arg1) = m ((c.tc : Thread Cert.PleSIdeal.nD Cert.PleSIdeal.τ).loc Cert.PleSIdeal.main_arg1)
          ∧ r.2.mem ((c.tc : Thread Cert.PleSIdeal.nD Cert.PleSIdeal.τ).loc Cert.PleSIdeal.main_arg2) = m ((c.tc : Thread Cert.PleSIdeal.nD Cert.PleSIdeal.τ).loc Cert.PleSIdeal.main_arg2)
          ∧ r.2.mem ((c.tc : Thread Cert.PleSIdeal.nD Cert.PleSIdeal.τ).loc Cert.PleSIdeal.main_arg3) = m ((c.tc : Thread Cert.PleSIdeal.nD Cert.PleSIdeal.τ).loc Cert.PleSIdeal.main_arg3)
          ∧ r.2.mem ((c.tc : Thread Cert.PleSIdeal.nD Cert.PleSIdeal.τ).loc Cert.PleSIdeal.main_arg4) = m ((c.tc : Thread Cert.PleSIdeal.nD Cert.PleSIdeal.τ).loc Cert.PleSIdeal.main_arg4))
      ∧ θ_run (Cert.PleSRefIdeal.defs (F := Ideal)) (onTc (τ := Cert.PleSRefIdeal.τ) (Cert.PleSRefIdeal.main (F := Ideal))) ⟨m', fun _ => 0, g'⟩ (fun r => ∀ c : Dev Cert.PleSRefIdeal.nD,
          r.2.mem ((c.tc : Thread Cert.PleSRefIdeal.nD Cert.PleSRefIdeal.τ).loc Cert.PleSRefIdeal.main_v9) = v0 c
          ∧ r.2.mem ((c.tc : Thread Cert.PleSRefIdeal.nD Cert.PleSRefIdeal.τ).loc Cert.PleSRefIdeal.main_arg0) = m' ((c.tc : Thread Cert.PleSRefIdeal.nD Cert.PleSRefIdeal.τ).loc Cert.PleSRefIdeal.main_arg0)
          ∧ r.2.mem ((c.tc : Thread Cert.PleSRefIdeal.nD Cert.PleSRefIdeal.τ).loc Cert.PleSRefIdeal.main_arg1) = m' ((c.tc : Thread Cert.PleSRefIdeal.nD Cert.PleSRefIdeal.τ).loc Cert.PleSRefIdeal.main_arg1)
          ∧ r.2.mem ((c.tc : Thread Cert.PleSRefIdeal.nD Cert.PleSRefIdeal.τ).loc Cert.PleSRefIdeal.main_arg2) = m' ((c.tc : Thread Cert.PleSRefIdeal.nD Cert.PleSRefIdeal.τ).loc Cert.PleSRefIdeal.main_arg2)
          ∧ r.2.mem ((c.tc : Thread Cert.PleSRefIdeal.nD Cert.PleSRefIdeal.τ).loc Cert.PleSRefIdeal.main_arg3) = m' ((c.tc : Thread Cert.PleSRefIdeal.nD Cert.PleSRefIdeal.τ).loc Cert.PleSRefIdeal.main_arg3)
          ∧ r.2.mem ((c.tc : Thread Cert.PleSRefIdeal.nD Cert.PleSRefIdeal.τ).loc Cert.PleSRefIdeal.main_arg4) = m' ((c.tc : Thread Cert.PleSRefIdeal.nD Cert.PleSRefIdeal.τ).loc Cert.PleSRefIdeal.main_arg4))

def Claim : Prop :=
  ∃ (hDeltaStep : Cert.DeltaStep.Facts) (hDeltaStepIdeal : Cert.DeltaStepIdeal.Facts) (hDeltaStepRefIdeal : Cert.DeltaStepRefIdeal.Facts) (hFfn : Cert.Ffn.Facts) (hFfnIdeal : Cert.FfnIdeal.Facts) (hFfnRefIdeal : Cert.FfnRefIdeal.Facts) (hProjV : Cert.ProjV.Facts) (hProjVIdeal : Cert.ProjVIdeal.Facts) (hProjVRefIdeal : Cert.ProjVRefIdeal.Facts) (hProjQK : Cert.ProjQK.Facts) (hProjQKIdeal : Cert.ProjQKIdeal.Facts) (hProjQKRefIdeal : Cert.ProjQKRefIdeal.Facts) (hProjB : Cert.ProjB.Facts) (hProjBIdeal : Cert.ProjBIdeal.Facts) (hProjBRefIdeal : Cert.ProjBRefIdeal.Facts) (hProjZ : Cert.ProjZ.Facts) (hProjZIdeal : Cert.ProjZIdeal.Facts) (hProjZRefIdeal : Cert.ProjZRefIdeal.Facts) (hRope : Cert.Rope.Facts) (hRopeIdeal : Cert.RopeIdeal.Facts) (hRopeRefIdeal : Cert.RopeRefIdeal.Facts) (hOutProj : Cert.OutProj.Facts) (hOutProjIdeal : Cert.OutProjIdeal.Facts) (hOutProjRefIdeal : Cert.OutProjRefIdeal.Facts) (hPle : Cert.Ple.Facts) (hPleIdeal : Cert.PleIdeal.Facts) (hPleRefIdeal : Cert.PleRefIdeal.Facts) (hNorm : Cert.Norm.Facts) (hNormIdeal : Cert.NormIdeal.Facts) (hNormRefIdeal : Cert.NormRefIdeal.Facts) (hProjVS : Cert.ProjVS.Facts) (hProjVSIdeal : Cert.ProjVSIdeal.Facts) (hProjVSRefIdeal : Cert.ProjVSRefIdeal.Facts) (hRopeS : Cert.RopeS.Facts) (hRopeSIdeal : Cert.RopeSIdeal.Facts) (hRopeSRefIdeal : Cert.RopeSRefIdeal.Facts) (hPleS : Cert.PleS.Facts) (hPleSIdeal : Cert.PleSIdeal.Facts) (hPleSRefIdeal : Cert.PleSRefIdeal.Facts) (hPre_finite_step : Cert.Pre_finite_step.Facts) (hPre_pages_in_pool : Cert.Pre_pages_in_pool.Facts),
    quiescent_DeltaStep (hDeltaStep := hDeltaStep)
    ∧ quiescent_DeltaStepIdeal (hDeltaStepIdeal := hDeltaStepIdeal)
    ∧ quiescent_DeltaStepIdeal_pre_finite_step (hDeltaStepIdeal := hDeltaStepIdeal) (hPre_finite_step := hPre_finite_step)
    ∧ quiescent_DeltaStepRefIdeal (hDeltaStepRefIdeal := hDeltaStepRefIdeal)
    ∧ quiescent_DeltaStepRefIdeal_pre_finite_step (hDeltaStepRefIdeal := hDeltaStepRefIdeal) (hPre_finite_step := hPre_finite_step)
    ∧ quiescent_Ffn (hFfn := hFfn) (hPre_pages_in_pool := hPre_pages_in_pool)
    ∧ quiescent_FfnIdeal (hFfnIdeal := hFfnIdeal) (hPre_pages_in_pool := hPre_pages_in_pool)
    ∧ quiescent_FfnRefIdeal (hFfnRefIdeal := hFfnRefIdeal)
    ∧ quiescent_FfnRefIdeal_pre_pages_in_pool (hFfnRefIdeal := hFfnRefIdeal) (hPre_pages_in_pool := hPre_pages_in_pool)
    ∧ quiescent_ProjV (hProjV := hProjV)
    ∧ quiescent_ProjVIdeal (hProjVIdeal := hProjVIdeal)
    ∧ quiescent_ProjVRefIdeal (hProjVRefIdeal := hProjVRefIdeal)
    ∧ quiescent_ProjQK (hProjQK := hProjQK)
    ∧ quiescent_ProjQKIdeal (hProjQKIdeal := hProjQKIdeal)
    ∧ quiescent_ProjQKRefIdeal (hProjQKRefIdeal := hProjQKRefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_ProjZ (hProjZ := hProjZ)
    ∧ quiescent_ProjZIdeal (hProjZIdeal := hProjZIdeal)
    ∧ quiescent_ProjZRefIdeal (hProjZRefIdeal := hProjZRefIdeal)
    ∧ quiescent_Rope (hRope := hRope)
    ∧ quiescent_RopeIdeal (hRopeIdeal := hRopeIdeal)
    ∧ quiescent_RopeRefIdeal (hRopeRefIdeal := hRopeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Ple (hPle := hPle)
    ∧ quiescent_PleIdeal (hPleIdeal := hPleIdeal)
    ∧ quiescent_PleRefIdeal (hPleRefIdeal := hPleRefIdeal)
    ∧ quiescent_Norm (hNorm := hNorm)
    ∧ quiescent_NormIdeal (hNormIdeal := hNormIdeal)
    ∧ quiescent_NormRefIdeal (hNormRefIdeal := hNormRefIdeal)
    ∧ quiescent_ProjVS (hProjVS := hProjVS)
    ∧ quiescent_ProjVSIdeal (hProjVSIdeal := hProjVSIdeal)
    ∧ quiescent_ProjVSRefIdeal (hProjVSRefIdeal := hProjVSRefIdeal)
    ∧ quiescent_RopeS (hRopeS := hRopeS)
    ∧ quiescent_RopeSIdeal (hRopeSIdeal := hRopeSIdeal)
    ∧ quiescent_RopeSRefIdeal (hRopeSRefIdeal := hRopeSRefIdeal)
    ∧ quiescent_PleS (hPleS := hPleS)
    ∧ quiescent_PleSIdeal (hPleSIdeal := hPleSIdeal)
    ∧ quiescent_PleSRefIdeal (hPleSRefIdeal := hPleSRefIdeal)
    ∧ preserves_DeltaStep_DeltaStepIdeal
    ∧ algebraic_DeltaStepIdeal_DeltaStepRefIdeal_pre_finite_step (hDeltaStepIdeal := hDeltaStepIdeal) (hDeltaStepRefIdeal := hDeltaStepRefIdeal) (hPre_finite_step := hPre_finite_step)
    ∧ preserves_Ffn_FfnIdeal
    ∧ algebraic_FfnIdeal_FfnRefIdeal (hFfnIdeal := hFfnIdeal) (hFfnRefIdeal := hFfnRefIdeal) (hPre_pages_in_pool := hPre_pages_in_pool)
    ∧ preserves_ProjV_ProjVIdeal
    ∧ algebraic_ProjVIdeal_ProjVRefIdeal (hProjVIdeal := hProjVIdeal) (hProjVRefIdeal := hProjVRefIdeal)
    ∧ preserves_ProjQK_ProjQKIdeal
    ∧ algebraic_ProjQKIdeal_ProjQKRefIdeal (hProjQKIdeal := hProjQKIdeal) (hProjQKRefIdeal := hProjQKRefIdeal)
    ∧ preserves_ProjB_ProjBIdeal
    ∧ algebraic_ProjBIdeal_ProjBRefIdeal (hProjBIdeal := hProjBIdeal) (hProjBRefIdeal := hProjBRefIdeal)
    ∧ preserves_ProjZ_ProjZIdeal
    ∧ algebraic_ProjZIdeal_ProjZRefIdeal (hProjZIdeal := hProjZIdeal) (hProjZRefIdeal := hProjZRefIdeal)
    ∧ preserves_Rope_RopeIdeal
    ∧ algebraic_RopeIdeal_RopeRefIdeal (hRopeIdeal := hRopeIdeal) (hRopeRefIdeal := hRopeRefIdeal)
    ∧ preserves_OutProj_OutProjIdeal
    ∧ algebraic_OutProjIdeal_OutProjRefIdeal (hOutProjIdeal := hOutProjIdeal) (hOutProjRefIdeal := hOutProjRefIdeal)
    ∧ preserves_Ple_PleIdeal
    ∧ algebraic_PleIdeal_PleRefIdeal (hPleIdeal := hPleIdeal) (hPleRefIdeal := hPleRefIdeal)
    ∧ preserves_Norm_NormIdeal
    ∧ algebraic_NormIdeal_NormRefIdeal (hNormIdeal := hNormIdeal) (hNormRefIdeal := hNormRefIdeal)
    ∧ preserves_ProjVS_ProjVSIdeal
    ∧ algebraic_ProjVSIdeal_ProjVSRefIdeal (hProjVSIdeal := hProjVSIdeal) (hProjVSRefIdeal := hProjVSRefIdeal)
    ∧ preserves_RopeS_RopeSIdeal
    ∧ algebraic_RopeSIdeal_RopeSRefIdeal (hRopeSIdeal := hRopeSIdeal) (hRopeSRefIdeal := hRopeSRefIdeal)
    ∧ preserves_PleS_PleSIdeal
    ∧ algebraic_PleSIdeal_PleSRefIdeal (hPleSIdeal := hPleSIdeal) (hPleSRefIdeal := hPleSRefIdeal)
-- ==== Pre_finite_step.lean ====
abbrev S32x1x6144 : Shape := ⟨3, ![32, 1, 6144]⟩
abbrev S32x1x2048 : Shape := ⟨3, ![32, 1, 2048]⟩
abbrev S32x1x16 : Shape := ⟨3, ![32, 1, 16]⟩
abbrev S32x3x6144 : Shape := ⟨3, ![32, 3, 6144]⟩
abbrev S32x16x128x128 : Shape := ⟨4, ![32, 16, 128, 128]⟩
abbrev S4x6144 : Shape := ⟨2, ![4, 6144]⟩
abbrev S1x16 : Shape := ⟨2, ![1, 16]⟩
abbrev S1x128 : Shape := ⟨2, ![1, 128]⟩
abbrev S_ : Shape := ⟨0, ![]⟩

class Facts : Prop where
  bcast_S_S32x1x6144 : S_.BroadcastsInDim S32x1x6144 (![] : Fin 0 → Fin S32x1x6144.rank)
  reducesTo_S32x1x6144_S_d0_1_2 : S32x1x6144.ReducesTo [0, 1, 2] S_
  h_S_ : 0 < S_.numel
  bcast_S_S32x1x16 : S_.BroadcastsInDim S32x1x16 (![] : Fin 0 → Fin S32x1x16.rank)
  reducesTo_S32x1x16_S_d0_1_2 : S32x1x16.ReducesTo [0, 1, 2] S_
  bcast_S_S32x3x6144 : S_.BroadcastsInDim S32x3x6144 (![] : Fin 0 → Fin S32x3x6144.rank)
  reducesTo_S32x3x6144_S_d0_1_2 : S32x3x6144.ReducesTo [0, 1, 2] S_
  bcast_S_S32x16x128x128 : S_.BroadcastsInDim S32x16x128x128 (![] : Fin 0 → Fin S32x16x128x128.rank)
  reducesTo_S32x16x128x128_S_d0_1_2_3 : S32x16x128x128.ReducesTo [0, 1, 2, 3] S_
  bcast_S_S4x6144 : S_.BroadcastsInDim S4x6144 (![] : Fin 0 → Fin S4x6144.rank)
  reducesTo_S4x6144_S_d0_1 : S4x6144.ReducesTo [0, 1] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_arg6 : FVec F S4x6144 .f32) (main_arg7 : FVec F S1x16 .f32) (main_arg8 : FVec F S1x16 .f32) (main_v13 : IVec S_ 1) (main_v16 : IVec S32x16x128x128 1) : IVec S_ 1 :=
  let main_c_5 : IVec S_ 1 := constantI S_ 1 1#1
  let main_v17 : IVec S_ 1 := (fun x v => Host.reduce IntOp.andi x v reducesTo_S32x16x128x128_S_d0_1_2_3 h_S_) main_v16 main_c_5
  let main_v18 : IVec S_ 1 := andi main_v13 main_v17
  let main_v19 : FVec F S4x6144 .f32 := Host.absf main_arg6
  let main_cst_6 : FVec F S_ .f32 := constant S_ .f32 0x7F800000#32
  let main_v20 : FVec F S4x6144 .f32 := broadcastInDim S4x6144 ![] bcast_S_S4x6144 main_cst_6
  let main_v21 : IVec S4x6144 1 := cmpf .olt main_v19 main_v20
  let main_c_7 : IVec S_ 1 := constantI S_ 1 1#1
  let main_v22 : IVec S_ 1 := (fun x v => Host.reduce IntOp.andi x v reducesTo_S4x6144_S_d0_1 h_S_) main_v21 main_c_7
  let main_v23 : IVec S_ 1 := andi main_v18 main_v22
  let main_v24 : FVec F S1x16 .f32 := Host.absf main_arg7
  let main_cst_8 : FVec F S_ .f32 := constant S_ .f32 0x7F800000#32
  let main_v25 : FVec F S1x16 .f32 := broadcastInDim S1x16 ![] bcast_S_S1x16 main_cst_8
  let main_v26 : IVec S1x16 1 := cmpf .olt main_v24 main_v25
  let main_c_9 : IVec S_ 1 := constantI S_ 1 1#1
  let main_v27 : IVec S_ 1 := (fun x v => Host.reduce IntOp.andi x v reducesTo_S1x16_S_d0_1 h_S_) main_v26 main_c_9
  let main_v28 : IVec S_ 1 := andi main_v23 main_v27
  let main_v29 : FVec F S1x16 .f32 := Host.absf main_arg8
  let main_cst_10 : FVec F S_ .f32 := constant S_ .f32 0x7F800000#32
  let main_v30 : FVec F S1x16 .f32 := broadcastInDim S1x16 ![] bcast_S_S1x16 main_cst_10
  let main_v31 : IVec S1x16 1 := cmpf .olt main_v29 main_v30
  let main_c_11 : IVec S_ 1 := constantI S_ 1 1#1
  let main_v32 : IVec S_ 1 := (fun x v => Host.reduce IntOp.andi x v reducesTo_S1x16_S_d0_1 h_S_) main_v31 main_c_11
  let main_v33 : IVec S_ 1 := andi main_v28 main_v32
  main_v33

def fn {F : FTy → Type} [FloatOps F] (main_arg0 : FVec F S32x1x6144 .f32) (main_arg1 : FVec F S32x1x2048 .f32) (main_arg2 : FVec F S32x1x16 .f32) (main_arg3 : FVec F S32x1x16 .f32) (main_arg4 : FVec F S32x3x6144 .f32) (main_arg5 : FVec F S32x16x128x128 .f32) (main_arg6 : FVec F S4x6144 .f32) (main_arg7 : FVec F S1x16 .f32) (main_arg8 : FVec F S1x16 .f32) (main_arg9 : FVec F S1x128 .f32) : IVec S_ 1 :=
  let main_v0 : FVec F S32x1x6144 .f32 := Host.absf main_arg0
  let main_cst : FVec F S_ .f32 := constant S_ .f32 0x7F800000#32
  let main_v1 : FVec F S32x1x6144 .f32 := broadcastInDim S32x1x6144 ![] bcast_S_S32x1x6144 main_cst
  let main_v2 : IVec S32x1x6144 1 := cmpf .olt main_v0 main_v1
  let main_c : IVec S_ 1 := constantI S_ 1 1#1
  let main_v3 : IVec S_ 1 := (fun x v => Host.reduce IntOp.andi x v reducesTo_S32x1x6144_S_d0_1_2 h_S_) main_v2 main_c
  let main_v4 : FVec F S32x1x16 .f32 := Host.absf main_arg2
  let main_cst_0 : FVec F S_ .f32 := constant S_ .f32 0x7F800000#32
  let main_v5 : FVec F S32x1x16 .f32 := broadcastInDim S32x1x16 ![] bcast_S_S32x1x16 main_cst_0
  let main_v6 : IVec S32x1x16 1 := cmpf .olt main_v4 main_v5
  let main_c_1 : IVec S_ 1 := constantI S_ 1 1#1
  let main_v7 : IVec S_ 1 := (fun x v => Host.reduce IntOp.andi x v reducesTo_S32x1x16_S_d0_1_2 h_S_) main_v6 main_c_1
  let main_v8 : IVec S_ 1 := andi main_v3 main_v7
  let main_v9 : FVec F S32x3x6144 .f32 := Host.absf main_arg4
  let main_cst_2 : FVec F S_ .f32 := constant S_ .f32 0x7F800000#32
  let main_v10 : FVec F S32x3x6144 .f32 := broadcastInDim S32x3x6144 ![] bcast_S_S32x3x6144 main_cst_2
  let main_v11 : IVec S32x3x6144 1 := cmpf .olt main_v9 main_v10
  let main_c_3 : IVec S_ 1 := constantI S_ 1 1#1
  let main_v12 : IVec S_ 1 := (fun x v => Host.reduce IntOp.andi x v reducesTo_S32x3x6144_S_d0_1_2 h_S_) main_v11 main_c_3
  let main_v13 : IVec S_ 1 := andi main_v8 main_v12
  let main_v14 : FVec F S32x16x128x128 .f32 := Host.absf main_arg5
  let main_cst_4 : FVec F S_ .f32 := constant S_ .f32 0x7F800000#32
  let main_v15 : FVec F S32x16x128x128 .f32 := broadcastInDim S32x16x128x128 ![] bcast_S_S32x16x128x128 main_cst_4
  let main_v16 : IVec S32x16x128x128 1 := cmpf .olt main_v14 main_v15
  fn_part1 (F := F) main_arg6 main_arg7 main_arg8 main_v13 main_v16
-- ==== Pre_pages_in_pool.lean ====
abbrev S8192x2048 : Shape := ⟨2, ![8192, 2048]⟩
abbrev S2048x11264 : Shape := ⟨2, ![2048, 11264]⟩
abbrev S5632x2048 : Shape := ⟨2, ![5632, 2048]⟩
abbrev S1x2048 : Shape := ⟨2, ![1, 2048]⟩
abbrev S32x128 : Shape := ⟨2, ![32, 128]⟩
abbrev S1x5120x128x16x128 : Shape := ⟨5, ![1, 5120, 128, 16, 128]⟩
abbrev S_ : Shape := ⟨0, ![]⟩

class Facts : Prop where
  bcast_S_S32x128 : S_.BroadcastsInDim S32x128 (![] : Fin 0 → Fin S32x128.rank)
  reducesTo_S32x128_S_d0_1 : S32x128.ReducesTo [0, 1] S_
  h_S_ : 0 < S_.numel

variable [Facts]

def fn {F : FTy → Type} [FloatOps F] (main_arg0 : FVec F S8192x2048 .f32) (main_arg1 : FVec F S8192x2048 .f32) (main_arg2 : FVec F S2048x11264 .f32) (main_arg3 : FVec F S5632x2048 .f32) (main_arg4 : FVec F S1x2048 .f32) (main_arg5 : IVec S32x128 32) (main_arg6 : FVec F S1x5120x128x16x128 .f32) : IVec S_ 1 :=
  let main_c : IVec S_ 32 := constantI S_ 32 0#32
  let main_v0 : IVec S32x128 32 := broadcastInDim S32x128 ![] bcast_S_S32x128 main_c
  let main_v1 : IVec S32x128 1 := cmpi .sge main_arg5 main_v0
  let main_c_0 : IVec S_ 32 := constantI S_ 32 5120#32
  let main_v2 : IVec S32x128 32 := broadcastInDim S32x128 ![] bcast_S_S32x128 main_c_0
  let main_v3 : IVec S32x128 1 := cmpi .slt main_arg5 main_v2
  let main_v4 : IVec S32x128 1 := andi main_v1 main_v3
  let main_c_1 : IVec S_ 1 := constantI S_ 1 1#1
  let main_v5 : IVec S_ 1 := (fun x v => Host.reduce IntOp.andi x v reducesTo_S32x128_S_d0_1 h_S_) main_v4 main_c_1
  main_v5
-- ==== DeltaStep.lean ====
abbrev S32x1x6144 : Shape := ⟨3, ![32, 1, 6144]⟩
abbrev S32x1x2048 : Shape := ⟨3, ![32, 1, 2048]⟩
abbrev S32x1x16 : Shape := ⟨3, ![32, 1, 16]⟩
abbrev S32x3x6144 : Shape := ⟨3, ![32, 3, 6144]⟩
abbrev S32x16x128x128 : Shape := ⟨4, ![32, 16, 128, 128]⟩
abbrev S4x6144 : Shape := ⟨2, ![4, 6144]⟩
abbrev S1x16 : Shape := ⟨2, ![1, 16]⟩
abbrev S1x128 : Shape := ⟨2, ![1, 128]⟩
abbrev S32x16 : Shape := ⟨2, ![32, 16]⟩
abbrev S32x32 : Shape := ⟨2, ![32, 32]⟩
abbrev S_ : Shape := ⟨0, ![]⟩
abbrev S32x128 : Shape := ⟨2, ![32, 128]⟩
abbrev S32x6144 : Shape := ⟨2, ![32, 6144]⟩
abbrev S32x48x128 : Shape := ⟨3, ![32, 48, 128]⟩
abbrev S32x3x48x128 : Shape := ⟨4, ![32, 3, 48, 128]⟩
abbrev S4x48x128 : Shape := ⟨3, ![4, 48, 128]⟩
abbrev S32x2048 : Shape := ⟨2, ![32, 2048]⟩
abbrev S32x16x128 : Shape := ⟨3, ![32, 16, 128]⟩
abbrev S32x1x128 : Shape := ⟨3, ![32, 1, 128]⟩
abbrev S1x48x128 : Shape := ⟨3, ![1, 48, 128]⟩
abbrev S1x3x48x128 : Shape := ⟨4, ![1, 3, 48, 128]⟩
abbrev S1x16x128 : Shape := ⟨3, ![1, 16, 128]⟩
abbrev S1x1x128 : Shape := ⟨3, ![1, 1, 128]⟩
abbrev S1x16x128x128 : Shape := ⟨4, ![1, 16, 128, 128]⟩
abbrev S48x128 : Shape := ⟨2, ![48, 128]⟩
abbrev S3x48x128 : Shape := ⟨3, ![3, 48, 128]⟩
abbrev S1x1x48x128 : Shape := ⟨4, ![1, 1, 48, 128]⟩
abbrev S48 : Shape := ⟨1, ![48]⟩
abbrev S48x1 : Shape := ⟨2, ![48, 1]⟩
abbrev S16x128 : Shape := ⟨2, ![16, 128]⟩
abbrev S16x1 : Shape := ⟨2, ![16, 1]⟩
abbrev S112x128 : Shape := ⟨2, ![112, 128]⟩
abbrev S128x128 : Shape := ⟨2, ![128, 128]⟩
abbrev S1x1 : Shape := ⟨2, ![1, 1]⟩
abbrev S1x1x128x128 : Shape := ⟨4, ![1, 1, 128, 128]⟩
abbrev S128x1 : Shape := ⟨2, ![128, 1]⟩
abbrev S128 : Shape := ⟨1, ![128]⟩
abbrev S16 : Shape := ⟨1, ![16]⟩

abbrev nBuf : Space → Nat
  | .hbm => 32
  | .vmem => 20
  | .smem => 0
  | _ => 0

abbrev bufTy : (tb : Table) → Fin (tcTables nBuf tb) → BufTy
  | .hbm, ⟨0, _⟩ => ⟨S32x1x6144, .f32⟩
  | .hbm, ⟨1, _⟩ => ⟨S32x1x2048, .f32⟩
  | .hbm, ⟨2, _⟩ => ⟨S32x1x16, .f32⟩
  | .hbm, ⟨3, _⟩ => ⟨S32x1x16, .f32⟩
  | .hbm, ⟨4, _⟩ => ⟨S32x3x6144, .f32⟩
  | .hbm, ⟨5, _⟩ => ⟨S32x16x128x128, .f32⟩
  | .hbm, ⟨6, _⟩ => ⟨S4x6144, .f32⟩
  | .hbm, ⟨7, _⟩ => ⟨S1x16, .f32⟩
  | .hbm, ⟨8, _⟩ => ⟨S1x16, .f32⟩
  | .hbm, ⟨9, _⟩ => ⟨S1x128, .f32⟩
  | .hbm, ⟨10, _⟩ => ⟨S32x16, .f32⟩
  | .hbm, ⟨11, _⟩ => ⟨S32x16, .f32⟩
  | .hbm, ⟨12, _⟩ => ⟨S32x32, .f32⟩
  | .hbm, ⟨13, _⟩ => ⟨S_, .i32⟩
  | .hbm, ⟨14, _⟩ => ⟨S_, .f32⟩
  | .hbm, ⟨15, _⟩ => ⟨S32x128, .f32⟩
  | .hbm, ⟨16, _⟩ => ⟨S32x6144, .f32⟩
  | .hbm, ⟨17, _⟩ => ⟨S32x48x128, .f32⟩
  | .hbm, ⟨18, _⟩ => ⟨S32x3x48x128, .f32⟩
  | .hbm, ⟨19, _⟩ => ⟨S4x48x128, .f32⟩
  | .hbm, ⟨20, _⟩ => ⟨S32x2048, .f32⟩
  | .hbm, ⟨21, _⟩ => ⟨S32x16x128, .f32⟩
  | .hbm, ⟨22, _⟩ => ⟨S32x1x128, .f32⟩
  | .hbm, ⟨23, _⟩ => ⟨S_, .i32⟩
  | .hbm, ⟨24, _⟩ => ⟨S_, .f32⟩
  | .hbm, ⟨25, _⟩ => ⟨S1x128, .f32⟩
  | .hbm, ⟨26, _⟩ => ⟨S_, .i32⟩
  | .hbm, ⟨27, _⟩ => ⟨S_, .f32⟩
  | .hbm, ⟨28, _⟩ => ⟨S1x128, .f32⟩
  | .hbm, ⟨29, _⟩ => ⟨S32x16x128, .f32⟩
  | .hbm, ⟨30, _⟩ => ⟨S32x3x48x128, .f32⟩
  | .hbm, ⟨31, _⟩ => ⟨S32x16x128x128, .f32⟩
  | .local _ .vmem, ⟨0, _⟩ => ⟨S1x48x128, .f32⟩
  | .local _ .vmem, ⟨1, _⟩ => ⟨S1x48x128, .f32⟩
  | .local _ .vmem, ⟨2, _⟩ => ⟨S1x3x48x128, .f32⟩
  | .local _ .vmem, ⟨3, _⟩ => ⟨S1x3x48x128, .f32⟩
  | .local _ .vmem, ⟨4, _⟩ => ⟨S4x48x128, .f32⟩
  | .local _ .vmem, ⟨5, _⟩ => ⟨S1x16x128, .f32⟩
  | .local _ .vmem, ⟨6, _⟩ => ⟨S1x16x128, .f32⟩
  | .local _ .vmem, ⟨7, _⟩ => ⟨S1x1x128, .f32⟩
  | .local _ .vmem, ⟨8, _⟩ => ⟨S1x1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x16x128x128, .f32⟩
  | .local _ .vmem, ⟨13, _⟩ => ⟨S1x16x128x128, .f32⟩
  | .local _ .vmem, ⟨14, _⟩ => ⟨S1x16x128, .f32⟩
  | .local _ .vmem, ⟨15, _⟩ => ⟨S1x16x128, .f32⟩
  | .local _ .vmem, ⟨16, _⟩ => ⟨S1x3x48x128, .f32⟩
  | .local _ .vmem, ⟨17, _⟩ => ⟨S1x3x48x128, .f32⟩
  | .local _ .vmem, ⟨18, _⟩ => ⟨S1x16x128x128, .f32⟩
  | .local _ .vmem, ⟨19, _⟩ => ⟨S1x16x128x128, .f32⟩
  | _, _ => ⟨S32x1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_call1_v0 : Ref sig .tc := ⟨.hbm, 24, rfl⟩
abbrev main_v11 : Ref sig .tc := ⟨.hbm, 25, rfl⟩
abbrev main_c_1 : Ref sig .tc := ⟨.hbm, 26, rfl⟩
abbrev main_call2_v0 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v13_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x48x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x48x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x48x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x3x48x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== DeltaStepRefIdeal.lean ====
abbrev S32x1x6144 : Shape := ⟨3, ![32, 1, 6144]⟩
abbrev S32x1x2048 : Shape := ⟨3, ![32, 1, 2048]⟩
abbrev S32x1x16 : Shape := ⟨3, ![32, 1, 16]⟩
abbrev S32x3x6144 : Shape := ⟨3, ![32, 3, 6144]⟩
abbrev S32x16x128x128 : Shape := ⟨4, ![32, 16, 128, 128]⟩
abbrev S4x6144 : Shape := ⟨2, ![4, 6144]⟩
abbrev S1x16 : Shape := ⟨2, ![1, 16]⟩
abbrev S1x128 : Shape := ⟨2, ![1, 128]⟩
abbrev S32x4x6144 : Shape := ⟨3, ![32, 4, 6144]⟩
abbrev S1x6144 : Shape := ⟨2, ![1, 6144]⟩
abbrev S6144 : Shape := ⟨1, ![6144]⟩
abbrev S1x1x6144 : Shape := ⟨3, ![1, 1, 6144]⟩
abbrev S_ : Shape := ⟨0, ![]⟩
abbrev S32x1x16x128 : Shape := ⟨4, ![32, 1, 16, 128]⟩
abbrev S32x1x16x1 : Shape := ⟨4, ![32, 1, 16, 1]⟩
abbrev S16 : Shape := ⟨1, ![16]⟩
abbrev S1x1x16 : Shape := ⟨3, ![1, 1, 16]⟩
abbrev S32x16x1x128 : Shape := ⟨4, ![32, 16, 1, 128]⟩
abbrev S32x16x1 : Shape := ⟨3, ![32, 16, 1]⟩
abbrev S1x1 : Shape := ⟨2, ![1, 1]⟩
abbrev S32x16x1x1 : Shape := ⟨4, ![32, 16, 1, 1]⟩
abbrev S32x16x128 : Shape := ⟨3, ![32, 16, 128]⟩
abbrev S128 : Shape := ⟨1, ![128]⟩
abbrev S1x1x1x128 : Shape := ⟨4, ![1, 1, 1, 128]⟩
abbrev S32x3x48x128 : Shape := ⟨4, ![32, 3, 48, 128]⟩

abbrev nBuf : Space → Nat
  | .hbm => 228
  | .vmem => 0
  | .smem => 0
  | _ => 0

abbrev hbmTy0_0 (i : Nat) : BufTy := match i % 128 with
  | 0 => ⟨S32x1x6144, .f32⟩
  | 1 => ⟨S32x1x2048, .f32⟩
  | 2 => ⟨S32x1x16, .f32⟩
  | 3 => ⟨S32x1x16, .f32⟩
  | 4 => ⟨S32x3x6144, .f32⟩
  | 5 => ⟨S32x16x128x128, .f32⟩
  | 6 => ⟨S4x6144, .f32⟩
  | 7 => ⟨S1x16, .f32⟩
  | 8 => ⟨S1x16, .f32⟩
  | 9 => ⟨S1x128, .f32⟩
  | 10 => ⟨S32x4x6144, .f32⟩
  | 11 => ⟨S32x1x6144, .f32⟩
  | 12 => ⟨S1x6144, .f32⟩
  | 13 => ⟨S6144, .f32⟩
  | 14 => ⟨S1x1x6144, .f32⟩
  | 15 => ⟨S32x1x6144, .f32⟩
  | 16 => ⟨S32x1x6144, .f32⟩
  | 17 => ⟨S_, .f32⟩
  | 18 => ⟨S32x1x6144, .f32⟩
  | 19 => ⟨S32x1x6144, .f32⟩
  | 20 => ⟨S32x1x6144, .f32⟩
  | 21 => ⟨S1x6144, .f32⟩
  | 22 => ⟨S6144, .f32⟩
  | 23 => ⟨S1x1x6144, .f32⟩
  | 24 => ⟨S32x1x6144, .f32⟩
  | 25 => ⟨S32x1x6144, .f32⟩
  | 26 => ⟨S32x1x6144, .f32⟩
  | 27 => ⟨S32x1x6144, .f32⟩
  | 28 => ⟨S1x6144, .f32⟩
  | 29 => ⟨S6144, .f32⟩
  | 30 => ⟨S1x1x6144, .f32⟩
  | 31 => ⟨S32x1x6144, .f32⟩
  | 32 => ⟨S32x1x6144, .f32⟩
  | 33 => ⟨S32x1x6144, .f32⟩
  | 34 => ⟨S32x1x6144, .f32⟩
  | 35 => ⟨S1x6144, .f32⟩
  | 36 => ⟨S6144, .f32⟩
  | 37 => ⟨S1x1x6144, .f32⟩
  | 38 => ⟨S32x1x6144, .f32⟩
  | 39 => ⟨S32x1x6144, .f32⟩
  | 40 => ⟨S32x1x6144, .f32⟩
  | 41 => ⟨S32x3x6144, .f32⟩
  | 42 => ⟨S32x1x6144, .f32⟩
  | 43 => ⟨S32x1x6144, .f32⟩
  | 44 => ⟨S_, .f32⟩
  | 45 => ⟨S32x1x6144, .f32⟩
  | 46 => ⟨S32x1x6144, .f32⟩
  | 47 => ⟨S_, .f32⟩
  | 48 => ⟨S32x1x6144, .f32⟩
  | 49 => ⟨S32x1x6144, .f32⟩
  | 50 => ⟨S32x1x6144, .f32⟩
  | 51 => ⟨S32x1x2048, .f32⟩
  | 52 => ⟨S32x1x16x128, .f32⟩
  | 53 => ⟨S32x1x2048, .f32⟩
  | 54 => ⟨S32x1x16x128, .f32⟩
  | 55 => ⟨S32x1x2048, .f32⟩
  | 56 => ⟨S32x1x16x128, .f32⟩
  | 57 => ⟨S32x1x16x128, .f32⟩
  | 58 => ⟨S_, .f32⟩
  | 59 => ⟨S32x1x16, .f32⟩
  | 60 => ⟨S32x1x16x1, .f32⟩
  | 61 => ⟨S_, .f32⟩
  | 62 => ⟨S32x1x16x1, .f32⟩
  | 63 => ⟨S32x1x16x1, .f32⟩
  | 64 => ⟨S32x1x16x1, .f32⟩
  | 65 => ⟨S32x1x16x128, .f32⟩
  | 66 => ⟨S32x1x16x128, .f32⟩
  | 67 => ⟨S_, .f32⟩
  | 68 => ⟨S32x1x16x128, .f32⟩
  | 69 => ⟨S32x1x16x128, .f32⟩
  | 70 => ⟨S32x1x16x128, .f32⟩
  | 71 => ⟨S_, .f32⟩
  | 72 => ⟨S32x1x16, .f32⟩
  | 73 => ⟨S32x1x16x1, .f32⟩
  | 74 => ⟨S_, .f32⟩
  | 75 => ⟨S32x1x16x1, .f32⟩
  | 76 => ⟨S32x1x16x1, .f32⟩
  | 77 => ⟨S32x1x16x1, .f32⟩
  | 78 => ⟨S32x1x16x128, .f32⟩
  | 79 => ⟨S32x1x16x128, .f32⟩
  | 80 => ⟨S32x1x16, .f32⟩
  | 81 => ⟨S32x1x16, .f32⟩
  | 82 => ⟨S_, .f32⟩
  | 83 => ⟨S32x1x16, .f32⟩
  | 84 => ⟨S32x1x16, .f32⟩
  | 85 => ⟨S_, .f32⟩
  | 86 => ⟨S32x1x16, .f32⟩
  | 87 => ⟨S32x1x16, .f32⟩
  | 88 => ⟨S16, .f32⟩
  | 89 => ⟨S16, .f32⟩
  | 90 => ⟨S16, .f32⟩
  | 91 => ⟨S16, .f32⟩
  | 92 => ⟨S1x1x16, .f32⟩
  | 93 => ⟨S32x1x16, .f32⟩
  | 94 => ⟨S32x1x16, .f32⟩
  | 95 => ⟨S_, .f32⟩
  | 96 => ⟨S32x1x16, .f32⟩
  | 97 => ⟨S32x1x16, .f32⟩
  | 98 => ⟨S32x1x16, .f32⟩
  | 99 => ⟨S32x1x16, .f32⟩
  | 100 => ⟨S32x1x16, .i1⟩
  | 101 => ⟨S32x1x16, .f32⟩
  | 102 => ⟨S32x1x16, .f32⟩
  | 103 => ⟨S32x1x16, .f32⟩
  | 104 => ⟨S32x1x16, .f32⟩
  | 105 => ⟨S32x1x16, .f32⟩
  | 106 => ⟨S32x1x16, .f32⟩
  | 107 => ⟨S32x1x16, .f32⟩
  | 108 => ⟨S32x1x16, .f32⟩
  | 109 => ⟨S1x1x16, .f32⟩
  | 110 => ⟨S32x1x16, .f32⟩
  | 111 => ⟨S32x1x16, .f32⟩
  | 112 => ⟨S32x16x1x128, .f32⟩
  | 113 => ⟨S32x16x1x128, .f32⟩
  | 114 => ⟨S32x16x1x128, .f32⟩
  | 115 => ⟨S32x16x1, .f32⟩
  | 116 => ⟨S32x16x1, .f32⟩
  | 117 => ⟨S_, .f32⟩
  | 118 => ⟨S_, .f32⟩
  | 119 => ⟨S32x16x1, .f32⟩
  | 120 => ⟨S_, .i1⟩
  | 121 => ⟨S1x1, .i1⟩
  | 122 => ⟨S1x1, .i32⟩
  | 123 => ⟨S_, .i32⟩
  | 124 => ⟨S1x1, .i32⟩
  | 125 => ⟨S1x1, .i32⟩
  | 126 => ⟨S1x1, .i32⟩
  | 127 => ⟨S1x1, .i1⟩
  | _ => ⟨S32x1x6144, .f32⟩

abbrev hbmTy0_1 (i : Nat) : BufTy := match i % 128 with
  | 0 => ⟨S_, .i1⟩
  | 1 => ⟨S1x1, .i1⟩
  | 2 => ⟨S1x1, .i1⟩
  | 3 => ⟨S_, .i1⟩
  | 4 => ⟨S1x1, .i1⟩
  | 5 => ⟨S1x1, .i32⟩
  | 6 => ⟨S_, .i32⟩
  | 7 => ⟨S1x1, .i32⟩
  | 8 => ⟨S1x1, .i32⟩
  | 9 => ⟨S1x1, .i32⟩
  | 10 => ⟨S1x1, .i1⟩
  | 11 => ⟨S_, .i1⟩
  | 12 => ⟨S1x1, .i1⟩
  | 13 => ⟨S1x1, .i1⟩
  | 14 => ⟨S32x16x1x1, .f32⟩
  | 15 => ⟨S32x16x1x1, .f32⟩
  | 16 => ⟨S32x16x1x1, .f32⟩
  | 17 => ⟨S_, .f32⟩
  | 18 => ⟨S32x16x1x1, .f32⟩
  | 19 => ⟨S32x16x1x1, .f32⟩
  | 20 => ⟨S32x16x1x1, .f32⟩
  | 21 => ⟨S_, .f32⟩
  | 22 => ⟨S_, .f32⟩
  | 23 => ⟨S32x16x1x1, .i1⟩
  | 24 => ⟨S32x16x1x1, .f32⟩
  | 25 => ⟨S32x16x1x1, .f32⟩
  | 26 => ⟨S32x16x1x1, .f32⟩
  | 27 => ⟨S32x16x1x128, .f32⟩
  | 28 => ⟨S32x16x1x128, .f32⟩
  | 29 => ⟨S32x16x1x1, .f32⟩
  | 30 => ⟨S32x16x1x1, .f32⟩
  | 31 => ⟨S_, .f32⟩
  | 32 => ⟨S_, .f32⟩
  | 33 => ⟨S32x16x1x1, .i1⟩
  | 34 => ⟨S32x16x1x1, .f32⟩
  | 35 => ⟨S32x16x1x1, .f32⟩
  | 36 => ⟨S32x16x1x1, .f32⟩
  | 37 => ⟨S32x16x1x128, .f32⟩
  | 38 => ⟨S32x16x1x128, .f32⟩
  | 39 => ⟨S32x16x128, .f32⟩
  | 40 => ⟨S32x16x1x128, .f32⟩
  | 41 => ⟨S32x16x1, .f32⟩
  | 42 => ⟨S32x16x1x1, .f32⟩
  | 43 => ⟨S32x16x1x128, .f32⟩
  | 44 => ⟨S32x16x1x128, .f32⟩
  | 45 => ⟨S32x16x128, .f32⟩
  | 46 => ⟨S32x16x1x128, .f32⟩
  | 47 => ⟨S32x16x1x1, .f32⟩
  | 48 => ⟨S32x16x1x1, .f32⟩
  | 49 => ⟨S32x16x1x128, .f32⟩
  | 50 => ⟨S32x16x1x128, .f32⟩
  | 51 => ⟨S32x16x1, .f32⟩
  | 52 => ⟨S32x16x1x1, .f32⟩
  | 53 => ⟨S32x16x1x128, .f32⟩
  | 54 => ⟨S32x16x1x128, .f32⟩
  | 55 => ⟨S32x16x1x128, .f32⟩
  | 56 => ⟨S32x16x1x128, .f32⟩
  | 57 => ⟨S32x16x1x128, .f32⟩
  | 58 => ⟨S32x16x1, .f32⟩
  | 59 => ⟨S32x16x1x1, .f32⟩
  | 60 => ⟨S32x16x128x128, .f32⟩
  | 61 => ⟨S32x16x128x128, .f32⟩
  | 62 => ⟨S32x16x1, .f32⟩
  | 63 => ⟨S32x16x1, .f32⟩
  | 64 => ⟨S32x16x1x1, .f32⟩
  | 65 => ⟨S32x16x1x128, .f32⟩
  | 66 => ⟨S32x16x1x128, .f32⟩
  | 67 => ⟨S32x16x128x128, .f32⟩
  | 68 => ⟨S32x16x128x128, .f32⟩
  | 69 => ⟨S32x1x16x128, .f32⟩
  | 70 => ⟨S32x1x16x128, .f32⟩
  | 71 => ⟨S128, .f32⟩
  | 72 => ⟨S32x1x16x128, .f32⟩
  | 73 => ⟨S_, .f32⟩
  | 74 => ⟨S32x1x16, .f32⟩
  | 75 => ⟨S32x1x16x1, .f32⟩
  | 76 => ⟨S_, .f32⟩
  | 77 => ⟨S32x1x16x1, .f32⟩
  | 78 => ⟨S32x1x16x1, .f32⟩
  | 79 => ⟨S_, .f32⟩
  | 80 => ⟨S32x1x16x1, .f32⟩
  | 81 => ⟨S32x1x16x1, .f32⟩
  | 82 => ⟨S32x1x16x1, .f32⟩
  | 83 => ⟨S32x1x16x128, .f32⟩
  | 84 => ⟨S32x1x16x128, .f32⟩
  | 85 => ⟨S1x1x1x128, .f32⟩
  | 86 => ⟨S32x1x16x128, .f32⟩
  | 87 => ⟨S32x1x16x128, .f32⟩
  | 88 => ⟨S32x1x16x128, .f32⟩
  | 89 => ⟨S32x1x16x128, .f32⟩
  | 90 => ⟨S_, .f32⟩
  | 91 => ⟨S32x1x16x128, .f32⟩
  | 92 => ⟨S32x1x16x128, .f32⟩
  | 93 => ⟨S_, .f32⟩
  | 94 => ⟨S32x1x16x128, .f32⟩
  | 95 => ⟨S32x1x16x128, .f32⟩
  | 96 => ⟨S32x1x16x128, .f32⟩
  | 97 => ⟨S32x1x16x128, .f32⟩
  | 98 => ⟨S32x16x128, .f32⟩
  | 99 => ⟨S32x3x48x128, .f32⟩
  | _ => ⟨S32x1x6144, .f32⟩

abbrev hbmTy (i : Nat) : BufTy := match i / 128 with
  | 0 => hbmTy0_0 i
  | 1 => hbmTy0_1 i
  | _ => ⟨S32x1x6144, .f32⟩

abbrev bufTy : (tb : Table) → Fin (tcTables nBuf tb) → BufTy
  | .hbm, ⟨i, _⟩ => hbmTy i
  | _, _ => ⟨S32x1x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_0 : Ref sig .tc := ⟨.hbm, 44, rfl⟩
abbrev main_v33 : Ref sig .tc := ⟨.hbm, 45, rfl⟩
abbrev main_v34 : Ref sig .tc := ⟨.hbm, 46, rfl⟩
abbrev main_cst_1 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_2 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_4 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_5 : Ref sig .tc := ⟨.hbm, 71, rfl⟩
abbrev main_v55 : Ref sig .tc := ⟨.hbm, 72, rfl⟩
abbrev main_v56 : Ref sig .tc := ⟨.hbm, 73, rfl⟩
abbrev main_cst_6 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_7 : Ref sig .tc := ⟨.hbm, 82, rfl⟩
abbrev main_v64 : Ref sig .tc := ⟨.hbm, 83, rfl⟩
abbrev main_v65 : Ref sig .tc := ⟨.hbm, 84, rfl⟩
abbrev main_cst_8 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_call0_cst : Ref sig .tc := ⟨.hbm, 95, rfl⟩
abbrev main_call0_v0 : Ref sig .tc := ⟨.hbm, 96, rfl⟩
abbrev main_call0_v1 : Ref sig .tc := ⟨.hbm, 97, rfl⟩
abbrev main_call0_v2 : Ref sig .tc := ⟨.hbm, 98, rfl⟩
abbrev main_call0_v3 : Ref sig .tc := ⟨.hbm, 99, rfl⟩
abbrev main_call0_v4 : Ref sig .tc := ⟨.hbm, 100, rfl⟩
abbrev main_call0_v5 : Ref sig .tc := ⟨.hbm, 101, rfl⟩
abbrev main_call0_v6 : Ref sig .tc := ⟨.hbm, 102, rfl⟩
abbrev main_call0_v7 : Ref sig .tc := ⟨.hbm, 103, rfl⟩
abbrev main_call0_v8 : Ref sig .tc := ⟨.hbm, 104, rfl⟩
abbrev main_call0_v9 : Ref sig .tc := ⟨.hbm, 105, rfl⟩
abbrev main_call0_v10 : Ref sig .tc := ⟨.hbm, 106, rfl⟩
abbrev main_call0_v11 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_call1_call0_cst : Ref sig .tc := ⟨.hbm, 117, rfl⟩
abbrev main_call1_call0_v0 : Ref sig .tc := ⟨.hbm, 118, rfl⟩
abbrev main_v84 : Ref sig .tc := ⟨.hbm, 119, rfl⟩
abbrev main_c : Ref sig .tc := ⟨.hbm, 120, rfl⟩
abbrev main_v85 : Ref sig .tc := ⟨.hbm, 121, rfl⟩
abbrev main_call2_v0 : Ref sig .tc := ⟨.hbm, 122, rfl⟩
abbrev main_call2_c : Ref sig .tc := ⟨.hbm, 123, rfl⟩
abbrev main_call2_v1 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_call2_c_0 : Ref sig .tc := ⟨.hbm, 128, rfl⟩
abbrev main_call2_v5 : Ref sig .tc := ⟨.hbm, 129, rfl⟩
abbrev main_v86 : Ref sig .tc := ⟨.hbm, 130, rfl⟩
abbrev main_c_9 : Ref sig .tc := ⟨.hbm, 131, rfl⟩
abbrev main_v87 : Ref sig .tc := ⟨.hbm, 132, rfl⟩
abbrev main_call3_v0 : Ref sig .tc := ⟨.hbm, 133, rfl⟩
abbrev main_call3_c : Ref sig .tc := ⟨.hbm, 134, rfl⟩
abbrev main_call3_v1 : Ref sig .tc := ⟨.hbm, 135, rfl⟩
abbrev main_call3_v2 : Ref sig .tc := ⟨.hbm, 136, rfl⟩
abbrev main_call3_v3 : Ref sig .tc := ⟨.hbm, 137, rfl⟩
abbrev main_call3_v4 : Ref sig .tc := ⟨.hbm, 138, rfl⟩
abbrev main_call3_c_0 : Ref sig .tc := ⟨.hbm, 139, rfl⟩
abbrev main_call3_v5 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_cst_10 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_cst_11 : Ref sig .tc := ⟨.hbm, 149, rfl⟩
abbrev main_call4_v0 : Ref sig .tc := ⟨.hbm, 150, rfl⟩
abbrev main_call4_v1 : Ref sig .tc := ⟨.hbm, 151, rfl⟩
abbrev main_call4_v2 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_cst_12 : Ref sig .tc := ⟨.hbm, 159, rfl⟩
abbrev main_call5_v0 : Ref sig .tc := ⟨.hbm, 160, rfl⟩
abbrev main_call5_v1 : Ref sig .tc := ⟨.hbm, 161, rfl⟩
abbrev main_call5_v2 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_cst_13 : Ref sig .tc := ⟨.hbm, 201, rfl⟩
abbrev main_v139 : Ref sig .tc := ⟨.hbm, 202, rfl⟩
abbrev main_v140 : Ref sig .tc := ⟨.hbm, 203, rfl⟩
abbrev main_cst_14 : Ref sig .tc := ⟨.hbm, 204, rfl⟩
abbrev main_v141 : Ref sig .tc := ⟨.hbm, 205, rfl⟩
abbrev main_v142 : Ref sig .tc := ⟨.hbm, 206, rfl⟩
abbrev main_cst_15 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_cst_16 : Ref sig .tc := ⟨.hbm, 218, rfl⟩
abbrev main_v153 : Ref sig .tc := ⟨.hbm, 219, rfl⟩
abbrev main_v154 : Ref sig .tc := ⟨.hbm, 220, rfl⟩
abbrev main_cst_17 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩

abbrev nD : Nat := 1
abbrev τ : Topo := Topo.v7x

variable {F : FTy → Type} [FloatOps F]
-- ==== Ffn.lean ====
abbrev S8192x2048 : Shape := ⟨2, ![8192, 2048]⟩
abbrev S2048x11264 : Shape := ⟨2, ![2048, 11264]⟩
abbrev S5632x2048 : Shape := ⟨2, ![5632, 2048]⟩
abbrev S1x2048 : Shape := ⟨2, ![1, 2048]⟩
abbrev S32x128 : Shape := ⟨2, ![32, 128]⟩
abbrev S1x5120x128x16x128 : Shape := ⟨5, ![1, 5120, 128, 16, 128]⟩
abbrev S4096 : Shape := ⟨1, ![4096]⟩
abbrev S352x3x16x128 : Shape := ⟨4, ![352, 3, 16, 128]⟩
abbrev S512x2048 : Shape := ⟨2, ![512, 2048]⟩
abbrev S2048x256 : Shape := ⟨2, ![2048, 256]⟩
abbrev S256x2048 : Shape := ⟨2, ![256, 2048]⟩
abbrev S1x1x128x16x128 : Shape := ⟨5, ![1, 1, 128, 16, 128]⟩
abbrev S1 : Shape := ⟨1, ![1]⟩
abbrev S1x3x16x128 : Shape := ⟨4, ![1, 3, 16, 128]⟩
abbrev S512x256 : Shape := ⟨2, ![512, 256]⟩
abbrev S128x16x128 : Shape := ⟨3, ![128, 16, 128]⟩
abbrev S16x128 : Shape := ⟨2, ![16, 128]⟩
abbrev S1x1x16x128 : Shape := ⟨4, ![1, 1, 16, 128]⟩
abbrev S512 : Shape := ⟨1, ![512]⟩
abbrev S512x1 : Shape := ⟨2, ![512, 1]⟩

abbrev nBuf : Space → Nat
  | .hbm => 13
  | .vmem => 24
  | .smem => 1
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x11264, .f32⟩
  | .hbm, ⟨3, _⟩ => ⟨S5632x2048, .f32⟩
  | .hbm, ⟨4, _⟩ => ⟨S1x2048, .f32⟩
  | .hbm, ⟨5, _⟩ => ⟨S32x128, .i32⟩
  | .hbm, ⟨6, _⟩ => ⟨S1x5120x128x16x128, .f32⟩
  | .hbm, ⟨7, _⟩ => ⟨S8192x2048, .bf16⟩
  | .hbm, ⟨8, _⟩ => ⟨S2048x11264, .bf16⟩
  | .hbm, ⟨9, _⟩ => ⟨S5632x2048, .bf16⟩
  | .hbm, ⟨10, _⟩ => ⟨S8192x2048, .f32⟩
  | .hbm, ⟨11, _⟩ => ⟨S8192x2048, .bf16⟩
  | .hbm, ⟨12, _⟩ => ⟨S352x3x16x128, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S1x1x128x16x128, .f32⟩
  | .local _ .vmem, ⟨12, _⟩ => ⟨S1x1x128x16x128, .f32⟩
  | .local _ .vmem, ⟨13, _⟩ => ⟨S1x1x128x16x128, .f32⟩
  | .local _ .vmem, ⟨14, _⟩ => ⟨S1x1x128x16x128, .f32⟩
  | .local _ .vmem, ⟨15, _⟩ => ⟨S1x1x128x16x128, .f32⟩
  | .local _ .vmem, ⟨16, _⟩ => ⟨S1x1x128x16x128, .f32⟩
  | .local _ .vmem, ⟨17, _⟩ => ⟨S512x2048, .f32⟩
  | .local _ .vmem, ⟨18, _⟩ => ⟨S512x2048, .f32⟩
  | .local _ .vmem, ⟨19, _⟩ => ⟨S512x2048, .bf16⟩
  | .local _ .vmem, ⟨20, _⟩ => ⟨S512x2048, .bf16⟩
  | .local _ .vmem, ⟨21, _⟩ => ⟨S1x3x16x128, .f32⟩
  | .local _ .vmem, ⟨22, _⟩ => ⟨S1x3x16x128, .f32⟩
  | .local _ .vmem, ⟨23, _⟩ => ⟨S512x2048, .f32⟩
  | .local _ .smem, ⟨0, _⟩ => ⟨S4096, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![16, 22], ![false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_0 : BitVec 32) : Fin 1 → Nat :=
  let c0_i32 : BitVec 32 := 0#32
  let arg0 : BitVec 32 := BitVec.ofNat 32 (i 0).val
  let c22_i32 : BitVec 32 := 22#32
  let v0 : BitVec 32 := Scalar.muli arg0 c22_i32
  let arg1 : BitVec 32 := BitVec.ofNat 32 (i 1).val
  let v1 : BitVec 32 := Scalar.addi v0 arg1
  let c3_i32 : BitVec 32 := 3#32
  let v2 : BitVec 32 := Scalar.muli v1 c3_i32
  let v3 : BitVec 32 := Scalar.addi c0_i32 v2
  let v4 : BitVec 32 := Scalar.addi v3 c0_i32_0
  let c4095_i32 : BitVec 32 := 4095#32
  let v5 : BitVec 32 := Scalar.minsi v4 c4095_i32
  let v6 : Index := Scalar.indexCast v5
  ![v6.toNat]
def k0_cond2 (i : grid0.Coords) : BitVec 1 :=
  let arg1 : BitVec 32 := BitVec.ofNat 32 (i 1).val
  let c21_i32 : BitVec 32 := 21#32
  let v41 : BitVec 1 := Scalar.cmpi .eq arg1 c21_i32
  let v42 : BitVec 32 := Scalar.extui v41
  let c0_i32_42 : BitVec 32 := 0#32
  let v43 : BitVec 1 := Scalar.cmpi .ne v42 c0_i32_42
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (k0_off1_inb : ∀ i : grid0.Coords, ∀ (r : Fin 3), ∀ a, (k0_off1 i (BitVec.ofNat 32 r.val)) a + S1.size a ≤ S4096.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c22_i32 : BitVec 32 := 22#32
  let v0 : BitVec 32 := Scalar.muli arg0 c22_i32
  let v1 : BitVec 32 := Scalar.addi v0 arg1
  let c3_i32 : BitVec 32 := 3#32
  let v2 : BitVec 32 := Scalar.muli v1 c3_i32
  let c0_i32 : BitVec 32 := 0#32
  let v3 : BitVec 32 := Scalar.addi c0_i32 v2
  let c0_i32_0 : BitVec 32 := 0#32
  let v4 : BitVec 32 := Scalar.addi v3 c0_i32_0
  let c4095_i32 : BitVec 32 := 4095#32
  let v5 : BitVec 32 := Scalar.minsi v4 c4095_i32
  let v6 : Index := Scalar.indexCast v5
  let v7 : BitVec 32 := pf.at 0 (Rect.unit (s := S4096) ![v6.toNat] S1.size (k0_off1_inb i 0)) numel1_S1
  let c0_i32_1 : BitVec 32 := 0#32
  let c0_i32_2 : BitVec 32 := 0#32
  let c0_i32_3 : BitVec 32 := 0#32
  let c0_i32_4 : BitVec 32 := 0#32
  let c0_i32_5 : BitVec 32 := 0#32
  ![c0_i32_1.toNat, v7.toNat, c0_i32_2.toNat, c0_i32_3.toNat, c0_i32_4.toNat]

def cc0_transform_7 (k0_off1_inb : ∀ i : grid0.Coords, ∀ (r : Fin 3), ∀ a, (k0_off1 i (BitVec.ofNat 32 r.val)) a + S1.size a ≤ S4096.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c22_i32 : BitVec 32 := 22#32
  let v0 : BitVec 32 := Scalar.muli arg0 c22_i32
  let v1 : BitVec 32 := Scalar.addi v0 arg1
  let c3_i32 : BitVec 32 := 3#32
  let v2 : BitVec 32 := Scalar.muli v1 c3_i32
  let c0_i32 : BitVec 32 := 0#32
  let v3 : BitVec 32 := Scalar.addi c0_i32 v2
  let c1_i32 : BitVec 32 := 1#32
  let v4 : BitVec 32 := Scalar.addi v3 c1_i32
  let c4095_i32 : BitVec 32 := 4095#32
  let v5 : BitVec 32 := Scalar.minsi v4 c4095_i32
  let v6 : Index := Scalar.indexCast v5
  let v7 : BitVec 32 := pf.at 0 (Rect.unit (s := S4096) ![v6.toNat] S1.size (k0_off1_inb i 1)) numel1_S1
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32_0.toNat, v7.toNat, c0_i32_1.toNat, c0_i32_2.toNat, c0_i32_3.toNat]

def cc0_transform_8 (k0_off1_inb : ∀ i : grid0.Coords, ∀ (r : Fin 3), ∀ a, (k0_off1 i (BitVec.ofNat 32 r.val)) a + S1.size a ≤ S4096.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c22_i32 : BitVec 32 := 22#32
  let v0 : BitVec 32 := Scalar.muli arg0 c22_i32
  let v1 : BitVec 32 := Scalar.addi v0 arg1
  let c3_i32 : BitVec 32 := 3#32
  let v2 : BitVec 32 := Scalar.muli v1 c3_i32
  let c0_i32 : BitVec 32 := 0#32
  let v3 : BitVec 32 := Scalar.addi c0_i32 v2
  let c2_i32 : BitVec 32 := 2#32
  let v4 : BitVec 32 := Scalar.addi v3 c2_i32
  let c4095_i32 : BitVec 32 := 4095#32
  let v5 : BitVec 32 := Scalar.minsi v4 c4095_i32
  let v6 : Index := Scalar.indexCast v5
  let v7 : BitVec 32 := pf.at 0 (Rect.unit (s := S4096) ![v6.toNat] S1.size (k0_off1_inb i 2)) numel1_S1
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32_0.toNat, v7.toNat, c0_i32_1.toNat, c0_i32_2.toNat, c0_i32_3.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let arg1 : BitVec 32 := BitVec.ofNat 32 (i 1).val
  let c22_i32 : BitVec 32 := 22#32
  let v0 : BitVec 32 := Scalar.muli arg0 c22_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x128x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x3x16x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FfnRefIdeal.lean ====
abbrev S8192x2048 : Shape := ⟨2, ![8192, 2048]⟩
abbrev S2048x11264 : Shape := ⟨2, ![2048, 11264]⟩
abbrev S5632x2048 : Shape := ⟨2, ![5632, 2048]⟩
abbrev S1x2048 : Shape := ⟨2, ![1, 2048]⟩
abbrev S32x128 : Shape := ⟨2, ![32, 128]⟩
abbrev S1x5120x128x16x128 : Shape := ⟨5, ![1, 5120, 128, 16, 128]⟩
abbrev S8192x11264 : Shape := ⟨2, ![8192, 11264]⟩
abbrev S8192x5632 : Shape := ⟨2, ![8192, 5632]⟩
abbrev S_ : Shape := ⟨0, ![]⟩
abbrev S5120x128x16x128 : Shape := ⟨4, ![5120, 128, 16, 128]⟩
abbrev S5120x16x128 : Shape := ⟨3, ![5120, 16, 128]⟩
abbrev S4096 : Shape := ⟨1, ![4096]⟩
abbrev S1056 : Shape := ⟨1, ![1056]⟩
abbrev S1056x1 : Shape := ⟨2, ![1056, 1]⟩
abbrev S1056x16x128 : Shape := ⟨3, ![1056, 16, 128]⟩
abbrev S8192 : Shape := ⟨1, ![8192]⟩
abbrev S8192x1 : Shape := ⟨2, ![8192, 1]⟩
abbrev S352x3x16x128 : Shape := ⟨4, ![352, 3, 16, 128]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x11264, .f32⟩
  | .hbm, ⟨3, _⟩ => ⟨S5632x2048, .f32⟩
  | .hbm, ⟨4, _⟩ => ⟨S1x2048, .f32⟩
  | .hbm, ⟨5, _⟩ => ⟨S32x128, .i32⟩
  | .hbm, ⟨6, _⟩ => ⟨S1x5120x128x16x128, .f32⟩
  | .hbm, ⟨7, _⟩ => ⟨S8192x11264, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S5120x128x16x128, .f32⟩
  | .hbm, ⟨26, _⟩ => ⟨S_, .f32⟩
  | .hbm, ⟨27, _⟩ => ⟨S5120x16x128, .f32⟩
  | .hbm, ⟨28, _⟩ => ⟨S4096, .i32⟩
  | .hbm, ⟨29, _⟩ => ⟨S1056, .i32⟩
  | .hbm, ⟨30, _⟩ => ⟨S_, .i32⟩
  | .hbm, ⟨31, _⟩ => ⟨S1056, .i32⟩
  | .hbm, ⟨32, _⟩ => ⟨S1056, .i1⟩
  | .hbm, ⟨33, _⟩ => ⟨S_, .i32⟩
  | .hbm, ⟨34, _⟩ => ⟨S1056, .i32⟩
  | .hbm, ⟨35, _⟩ => ⟨S1056, .i32⟩
  | .hbm, ⟨36, _⟩ => ⟨S1056, .i32⟩
  | .hbm, ⟨37, _⟩ => ⟨S1056x1, .i32⟩
  | .hbm, ⟨38, _⟩ => ⟨S1056x16x128, .f32⟩
  | .hbm, ⟨39, _⟩ => ⟨S8192x2048, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .bf16⟩
  | .hbm, ⟨55, _⟩ => ⟨S352x3x16x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== ProjV.lean ====
abbrev S8192x2048 : Shape := ⟨2, ![8192, 2048]⟩
abbrev S2048x2048 : Shape := ⟨2, ![2048, 2048]⟩
abbrev S2048x8192 : Shape := ⟨2, ![2048, 8192]⟩
abbrev S512x2048 : Shape := ⟨2, ![512, 2048]⟩
abbrev S2048x1024 : Shape := ⟨2, ![2048, 1024]⟩
abbrev S512x1024 : Shape := ⟨2, ![512, 1024]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .hbm, ⟨5, _⟩ => ⟨S2048x8192, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S1024x512, .bf16⟩
  | .local _ .vmem, ⟨7, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjVRefIdeal.lean ====
abbrev S8192x2048 : Shape := ⟨2, ![8192, 2048]⟩
abbrev S2048x2048 : Shape := ⟨2, ![2048, 2048]⟩
abbrev S2048x8192 : Shape := ⟨2, ![2048, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048x8192, .f32⟩
  | .hbm, ⟨4, _⟩ => ⟨S2048x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjQK.lean ====
abbrev S8192x2048 : Shape := ⟨2, ![8192, 2048]⟩
abbrev S2048x4096 : Shape := ⟨2, ![2048, 4096]⟩
abbrev S8192x4096 : Shape := ⟨2, ![8192, 4096]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x2048, .bf16⟩
  | .hbm, ⟨3, _⟩ => ⟨S2048x4096, .bf16⟩
  | .hbm, ⟨4, _⟩ => ⟨S8192x4096, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjQKIdeal.lean ====
abbrev S8192x2048 : Shape := ⟨2, ![8192, 2048]⟩
abbrev S2048x4096 : Shape := ⟨2, ![2048, 4096]⟩
abbrev S8192x4096 : Shape := ⟨2, ![8192, 4096]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x2048, .bf16⟩
  | .hbm, ⟨3, _⟩ => ⟨S2048x4096, .bf16⟩
  | .hbm, ⟨4, _⟩ => ⟨S8192x4096, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjQKRefIdeal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ProjB.lean ====
abbrev S8192x2048 : Shape := ⟨2, ![8192, 2048]⟩
abbrev S2048x6144 : Shape := ⟨2, ![2048, 6144]⟩
abbrev S8192x6144 : Shape := ⟨2, ![8192, 6144]⟩
abbrev S512x2048 : Shape := ⟨2, ![512, 2048]⟩
abbrev S2048x1024 : Shape := ⟨2, ![2048, 1024]⟩
abbrev S512x1024 : Shape := ⟨2, ![512, 1024]⟩
abbrev S3x6144 : Shape := ⟨2, ![3, 6144]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x6144, .f32⟩
  | .hbm, ⟨2, _⟩ => ⟨S8192x2048, .bf16⟩
  | .hbm, ⟨3, _⟩ => ⟨S2048x6144, .bf16⟩
  | .hbm, ⟨4, _⟩ => ⟨S8192x6144, .f32⟩
  | .hbm, ⟨5, _⟩ => ⟨S3x6144, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjBRefIdeal.lean ====
abbrev S8192x2048 : Shape := ⟨2, ![8192, 2048]⟩
abbrev S2048x6144 : Shape := ⟨2, ![2048, 6144]⟩
abbrev S8192x6144 : Shape := ⟨2, ![8192, 6144]⟩
abbrev S_ : Shape := ⟨0, ![]⟩
abbrev S3x6144 : Shape := ⟨2, ![3, 6144]⟩
abbrev S8195x6144 : Shape := ⟨2, ![8195, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6144, .f32⟩
  | .hbm, ⟨2, _⟩ => ⟨S8192x6144, .f32⟩
  | .hbm, ⟨3, _⟩ => ⟨S_, .f32⟩
  | .hbm, ⟨4, _⟩ => ⟨S3x6144, .f32⟩
  | .hbm, ⟨5, _⟩ => ⟨S8195x6144, .f32⟩
  | .hbm, ⟨6, _⟩ => ⟨S3x6144, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjZ.lean ====
abbrev S8192x2048 : Shape := ⟨2, ![8192, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjZIdeal.lean ====
abbrev S8192x2048 : Shape := ⟨2, ![8192, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjZRefIdeal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Rope.lean ====
abbrev S8192x4096 : Shape := ⟨2, ![8192, 4096]⟩
abbrev S1x128 : Shape := ⟨2, ![1, 128]⟩
abbrev S8192 : Shape := ⟨1, ![8192]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S2048x8192 : Shape := ⟨2, ![2048, 8192]⟩
abbrev S8192x2048 : Shape := ⟨2, ![8192, 2048]⟩
abbrev S32x2048 : Shape := ⟨2, ![32, 2048]⟩
abbrev S2048x128 : Shape := ⟨2, ![2048, 128]⟩
abbrev S128x2048 : Shape := ⟨2, ![128, 2048]⟩
abbrev S8x128 : Shape := ⟨2, ![8, 128]⟩
abbrev S2048 : Shape := ⟨1, ![2048]⟩
abbrev S2048x1 : Shape := ⟨2, ![2048, 1]⟩
abbrev S8x256x128 : Shape := ⟨3, ![8, 256, 128]⟩

abbrev nBuf : Space → Nat
  | .hbm => 27
  | .vmem => 18
  | .smem => 0
  | _ => 0

abbrev bufTy : (tb : Table) → Fin (tcTables nBuf tb) → BufTy
  | .hbm, ⟨0, _⟩ => ⟨S8192x4096, .f32⟩
  | .hbm, ⟨1, _⟩ => ⟨S1x128, .f32⟩
  | .hbm, ⟨2, _⟩ => ⟨S1x128, .f32⟩
  | .hbm, ⟨3, _⟩ => ⟨S8192, .i32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S8192, .f32⟩
  | .hbm, ⟨13, _⟩ => ⟨S8192x1, .f32⟩
  | .hbm, ⟨14, _⟩ => ⟨S1x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S8192x64, .f32⟩
  | .hbm, ⟨19, _⟩ => ⟨S8192x64, .f32⟩
  | .hbm, ⟨20, _⟩ => ⟨S8192x128, .f32⟩
  | .hbm, ⟨21, _⟩ => ⟨S8192x64, .f32⟩
  | .hbm, ⟨22, _⟩ => ⟨S8192x128, .f32⟩
  | .hbm, ⟨23, _⟩ => ⟨S2048x8192, .f32⟩
  | .hbm, ⟨24, _⟩ => ⟨S8192x2048, .f32⟩
  | .hbm, ⟨25, _⟩ => ⟨S8192x2048, .bf16⟩
  | .hbm, ⟨26, _⟩ => ⟨S32x2048, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S128x2048, .f32⟩
  | .local _ .vmem, ⟨11, _⟩ => ⟨S128x2048, .f32⟩
  | .local _ .vmem, ⟨12, _⟩ => ⟨S2048x128, .f32⟩
  | .local _ .vmem, ⟨13, _⟩ => ⟨S2048x128, .f32⟩
  | .local _ .vmem, ⟨14, _⟩ => ⟨S2048x128, .bf16⟩
  | .local _ .vmem, ⟨15, _⟩ => ⟨S2048x128, .bf16⟩
  | .local _ .vmem, ⟨16, _⟩ => ⟨S8x128, .f32⟩
  | .local _ .vmem, ⟨17, _⟩ => ⟨S8x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18_0 : Ref sig .tc := ⟨.hbm, 23, rfl⟩
abbrev main_v18_1 : Ref sig .tc := ⟨.hbm, 24, rfl⟩
abbrev main_v18_2 : Ref sig .tc := ⟨.hbm, 25, rfl⟩
abbrev main_v18_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RopeRefIdeal.lean ====
abbrev S8192x4096 : Shape := ⟨2, ![8192, 4096]⟩
abbrev S1x128 : Shape := ⟨2, ![1, 128]⟩
abbrev S8192 : Shape := ⟨1, ![8192]⟩
abbrev S8192x2048 : Shape := ⟨2, ![8192, 2048]⟩
abbrev S1x8192x16x128 : Shape := ⟨4, ![1, 8192, 16, 128]⟩
abbrev S128 : Shape := ⟨1, ![128]⟩
abbrev S_ : Shape := ⟨0, ![]⟩
abbrev S1x8192x16 : Shape := ⟨3, ![1, 8192, 16]⟩
abbrev S1x8192x16x1 : Shape := ⟨4, ![1, 8192, 16, 1]⟩
abbrev S1x1x1x128 : Shape := ⟨4, ![1, 1, 1, 128]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x16x64 : Shape := ⟨4, ![1, 8192, 16, 64]⟩
abbrev S1x32x256x16x128 : Shape := ⟨5, ![1, 32, 256, 16, 128]⟩
abbrev S1x32x16x128 : Shape := ⟨4, ![1, 32, 16, 128]⟩
abbrev S2048x8192 : Shape := ⟨2, ![2048, 8192]⟩
abbrev S32x2048 : Shape := ⟨2, ![32, 2048]⟩

abbrev nBuf : Space → Nat
  | .hbm => 115
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x128, .f32⟩
  | .hbm, ⟨2, _⟩ => ⟨S1x128, .f32⟩
  | .hbm, ⟨3, _⟩ => ⟨S8192, .i32⟩
  | .hbm, ⟨4, _⟩ => ⟨S8192x2048, .f32⟩
  | .hbm, ⟨5, _⟩ => ⟨S8192x2048, .f32⟩
  | .hbm, ⟨6, _⟩ => ⟨S1x8192x16x128, .f32⟩
  | .hbm, ⟨7, _⟩ => ⟨S128, .f32⟩
  | .hbm, ⟨8, _⟩ => ⟨S1x8192x16x128, .f32⟩
  | .hbm, ⟨9, _⟩ => ⟨S_, .f32⟩
  | .hbm, ⟨10, _⟩ => ⟨S1x8192x16, .f32⟩
  | .hbm, ⟨11, _⟩ => ⟨S1x8192x16x1, .f32⟩
  | .hbm, ⟨12, _⟩ => ⟨S_, .f32⟩
  | .hbm, ⟨13, _⟩ => ⟨S1x8192x16x1, .f32⟩
  | .hbm, ⟨14, _⟩ => ⟨S1x8192x16x1, .f32⟩
  | .hbm, ⟨15, _⟩ => ⟨S_, .f32⟩
  | .hbm, ⟨16, _⟩ => ⟨S1x8192x16x1, .f32⟩
  | .hbm, ⟨17, _⟩ => ⟨S1x8192x16x1, .f32⟩
  | .hbm, ⟨18, _⟩ => ⟨S1x8192x16x1, .f32⟩
  | .hbm, ⟨19, _⟩ => ⟨S1x8192x16x128, .f32⟩
  | .hbm, ⟨20, _⟩ => ⟨S1x8192x16x128, .f32⟩
  | .hbm, ⟨21, _⟩ => ⟨S1x1x1x128, .f32⟩
  | .hbm, ⟨22, _⟩ => ⟨S1x8192x16x128, .f32⟩
  | .hbm, ⟨23, _⟩ => ⟨S1x8192x16x128, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S8192, .f32⟩
  | .hbm, ⟨33, _⟩ => ⟨S8192x1, .f32⟩
  | .hbm, ⟨34, _⟩ => ⟨S1x64, .f32⟩
  | .hbm, ⟨35, _⟩ => ⟨S8192x64, .f32⟩
  | .hbm, ⟨36, _⟩ => ⟨S8192x64, .f32⟩
  | .hbm, ⟨37, _⟩ => ⟨S8192x64, .f32⟩
  | .hbm, ⟨38, _⟩ => ⟨S8192x64, .f32⟩
  | .hbm, ⟨39, _⟩ => ⟨S1x8192x1x64, .f32⟩
  | .hbm, ⟨40, _⟩ => ⟨S8192x64, .f32⟩
  | .hbm, ⟨41, _⟩ => ⟨S1x8192x1x64, .f32⟩
  | .hbm, ⟨42, _⟩ => ⟨S1x8192x16x64, .f32⟩
  | .hbm, ⟨43, _⟩ => ⟨S1x8192x16x64, .f32⟩
  | .hbm, ⟨44, _⟩ => ⟨S1x8192x16x64, .f32⟩
  | .hbm, ⟨45, _⟩ => ⟨S1x8192x16x64, .f32⟩
  | .hbm, ⟨46, _⟩ => ⟨S1x8192x16x64, .f32⟩
  | .hbm, ⟨47, _⟩ => ⟨S1x8192x16x64, .f32⟩
  | .hbm, ⟨48, _⟩ => ⟨S1x8192x16x64, .f32⟩
  | .hbm, ⟨49, _⟩ => ⟨S1x8192x16x64, .f32⟩
  | .hbm, ⟨50, _⟩ => ⟨S1x8192x16x64, .f32⟩
  | .hbm, ⟨51, _⟩ => ⟨S1x8192x16x64, .f32⟩
  | .hbm, ⟨52, _⟩ => ⟨S1x8192x16x64, .f32⟩
  | .hbm, ⟨53, _⟩ => ⟨S1x8192x16x64, .f32⟩
  | .hbm, ⟨54, _⟩ => ⟨S1x8192x16x128, .f32⟩
  | .hbm, ⟨55, _⟩ => ⟨S1x8192x16x128, .f32⟩
  | .hbm, ⟨56, _⟩ => ⟨S128, .f32⟩
  | .hbm, ⟨57, _⟩ => ⟨S1x8192x16x128, .f32⟩
  | .hbm, ⟨58, _⟩ => ⟨S_, .f32⟩
  | .hbm, ⟨59, _⟩ => ⟨S1x8192x16, .f32⟩
  | .hbm, ⟨60, _⟩ => ⟨S1x8192x16x1, .f32⟩
  | .hbm, ⟨61, _⟩ => ⟨S_, .f32⟩
  | .hbm, ⟨62, _⟩ => ⟨S1x8192x16x1, .f32⟩
  | .hbm, ⟨63, _⟩ => ⟨S1x8192x16x1, .f32⟩
  | .hbm, ⟨64, _⟩ => ⟨S_, .f32⟩
  | .hbm, ⟨65, _⟩ => ⟨S1x8192x16x1, .f32⟩
  | .hbm, ⟨66, _⟩ => ⟨S1x8192x16x1, .f32⟩
  | .hbm, ⟨67, _⟩ => ⟨S1x8192x16x1, .f32⟩
  | .hbm, ⟨68, _⟩ => ⟨S1x8192x16x128, .f32⟩
  | .hbm, ⟨69, _⟩ => ⟨S1x8192x16x128, .f32⟩
  | .hbm, ⟨70, _⟩ => ⟨S1x1x1x128, .f32⟩
  | .hbm, ⟨71, _⟩ => ⟨S1x8192x16x128, .f32⟩
  | .hbm, ⟨72, _⟩ => ⟨S1x8192x16x128, .f32⟩
  | .hbm, ⟨73, _⟩ => ⟨S64, .f32⟩
  | .hbm, ⟨74, _⟩ => ⟨S64, .f32⟩
  | .hbm, ⟨75, _⟩ => ⟨S_, .f32⟩
  | .hbm, ⟨76, _⟩ => ⟨S64, .f32⟩
  | .hbm, ⟨77, _⟩ => ⟨S64, .f32⟩
  | .hbm, ⟨78, _⟩ => ⟨S_, .f32⟩
  | .hbm, ⟨79, _⟩ => ⟨S64, .f32⟩
  | .hbm, ⟨80, _⟩ => ⟨S64, .f32⟩
  | .hbm, ⟨81, _⟩ => ⟨S8192, .f32⟩
  | .hbm, ⟨82, _⟩ => ⟨S8192x1, .f32⟩
  | .hbm, ⟨83, _⟩ => ⟨S1x64, .f32⟩
  | .hbm, ⟨84, _⟩ => ⟨S8192x64, .f32⟩
  | .hbm, ⟨85, _⟩ => ⟨S8192x64, .f32⟩
  | .hbm, ⟨86, _⟩ => ⟨S8192x64, .f32⟩
  | .hbm, ⟨87, _⟩ => ⟨S8192x64, .f32⟩
  | .hbm, ⟨88, _⟩ => ⟨S1x8192x1x64, .f32⟩
  | .hbm, ⟨89, _⟩ => ⟨S8192x64, .f32⟩
  | .hbm, ⟨90, _⟩ => ⟨S1x8192x1x64, .f32⟩
  | .hbm, ⟨91, _⟩ => ⟨S1x8192x16x64, .f32⟩
  | .hbm, ⟨92, _⟩ => ⟨S1x8192x16x64, .f32⟩
  | .hbm, ⟨93, _⟩ => ⟨S1x8192x16x64, .f32⟩
  | .hbm, ⟨94, _⟩ => ⟨S1x8192x16x64, .f32⟩
  | .hbm, ⟨95, _⟩ => ⟨S1x8192x16x64, .f32⟩
  | .hbm, ⟨96, _⟩ => ⟨S1x8192x16x64, .f32⟩
  | .hbm, ⟨97, _⟩ => ⟨S1x8192x16x64, .f32⟩
  | .hbm, ⟨98, _⟩ => ⟨S1x8192x16x64, .f32⟩
  | .hbm, ⟨99, _⟩ => ⟨S1x8192x16x64, .f32⟩
  | .hbm, ⟨100, _⟩ => ⟨S1x8192x16x64, .f32⟩
  | .hbm, ⟨101, _⟩ => ⟨S1x8192x16x64, .f32⟩
  | .hbm, ⟨102, _⟩ => ⟨S1x8192x16x64, .f32⟩
  | .hbm, ⟨103, _⟩ => ⟨S1x8192x16x128, .f32⟩
  | .hbm, ⟨104, _⟩ => ⟨S1x32x256x16x128, .f32⟩
  | .hbm, ⟨105, _⟩ => ⟨S_, .f32⟩
  | .hbm, ⟨106, _⟩ => ⟨S1x32x16x128, .f32⟩
  | .hbm, ⟨107, _⟩ => ⟨S_, .f32⟩
  | .hbm, ⟨108, _⟩ => ⟨S1x32x16x128, .f32⟩
  | .hbm, ⟨109, _⟩ => ⟨S1x32x16x128, .f32⟩
  | .hbm, ⟨110, _⟩ => ⟨S8192x2048, .f32⟩
  | .hbm, ⟨111, _⟩ => ⟨S8192x2048, .f32⟩
  | .hbm, ⟨112, _⟩ => ⟨S2048x8192, .f32⟩
  | .hbm, ⟨113, _⟩ => ⟨S8192x2048, .bf16⟩
  | .hbm, ⟨114, _⟩ => ⟨S32x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_4 : Ref sig .tc := ⟨.hbm, 58, rfl⟩
abbrev main_v50 : Ref sig .tc := ⟨.hbm, 59, rfl⟩
abbrev main_v51 : Ref sig .tc := ⟨.hbm, 60, rfl⟩
abbrev main_cst_5 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_7 : Ref sig .tc := ⟨.hbm, 75, rfl⟩
abbrev main_v64 : Ref sig .tc := ⟨.hbm, 76, rfl⟩
abbrev main_v65 : Ref sig .tc := ⟨.hbm, 77, rfl⟩
abbrev main_cst_8 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_cst_9 : Ref sig .tc := ⟨.hbm, 105, rfl⟩
abbrev main_v92 : Ref sig .tc := ⟨.hbm, 106, rfl⟩
abbrev main_cst_10 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩

abbrev nD : Nat := 1
abbrev τ : Topo := Topo.v7x

variable {F : FTy → Type} [FloatOps F]
-- ==== OutProj.lean ====
abbrev S8192x2048 : Shape := ⟨2, ![8192, 2048]⟩
abbrev S8192x4096 : Shape := ⟨2, ![8192, 4096]⟩
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x4096, .f32⟩
  | .hbm, ⟨4, _⟩ => ⟨S2048x2048, .f32⟩
  | .hbm, ⟨5, _⟩ => ⟨S1x2048, .f32⟩
  | .hbm, ⟨6, _⟩ => ⟨S2048x2048, .bf16⟩
  | .hbm, ⟨7, _⟩ => ⟨S8192x2048, .f32⟩
  | .hbm, ⟨8, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S2048x2048, .bf16⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutProjRefIdeal.lean ====
abbrev S8192x2048 : Shape := ⟨2, ![8192, 2048]⟩
abbrev S8192x4096 : Shape := ⟨2, ![8192, 4096]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x4096, .f32⟩
  | .hbm, ⟨4, _⟩ => ⟨S2048x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Ple.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S512x1024 : Shape := ⟨2, ![512, 1024]⟩
abbrev S512x2048 : Shape := ⟨2, ![512, 2048]⟩
abbrev S512x256 : Shape := ⟨2, ![512, 256]⟩
abbrev S2048x1024 : Shape := ⟨2, ![2048, 1024]⟩
abbrev S256x1024 : Shape := ⟨2, ![256, 1024]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x256, .f32⟩
  | .hbm, ⟨3, _⟩ => ⟨S2048x2048, .f32⟩
  | .hbm, ⟨4, _⟩ => ⟨S256x2048, .f32⟩
  | .hbm, ⟨5, _⟩ => ⟨S8192x2048, .bf16⟩
  | .hbm, ⟨6, _⟩ => ⟨S8192x256, .bf16⟩
  | .hbm, ⟨7, _⟩ => ⟨S2048x2048, .bf16⟩
  | .hbm, ⟨8, _⟩ => ⟨S256x2048, .bf16⟩
  | .hbm, ⟨9, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x256, .bf16⟩
  | .local _ .vmem, ⟨5, _⟩ => ⟨S512x256, .bf16⟩
  | .local _ .vmem, ⟨6, _⟩ => ⟨S2048x1024, .bf16⟩
  | .local _ .vmem, ⟨7, _⟩ => ⟨S2048x1024, .bf16⟩
  | .local _ .vmem, ⟨8, _⟩ => ⟨S256x1024, .bf16⟩
  | .local _ .vmem, ⟨9, _⟩ => ⟨S256x1024, .bf16⟩
  | .local _ .vmem, ⟨10, _⟩ => ⟨S512x1024, .f32⟩
  | .local _ .vmem, ⟨11, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PleIdeal.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S512x1024 : Shape := ⟨2, ![512, 1024]⟩
abbrev S512x2048 : Shape := ⟨2, ![512, 2048]⟩
abbrev S512x256 : Shape := ⟨2, ![512, 256]⟩
abbrev S2048x1024 : Shape := ⟨2, ![2048, 1024]⟩
abbrev S256x1024 : Shape := ⟨2, ![256, 1024]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x256, .f32⟩
  | .hbm, ⟨3, _⟩ => ⟨S2048x2048, .f32⟩
  | .hbm, ⟨4, _⟩ => ⟨S256x2048, .f32⟩
  | .hbm, ⟨5, _⟩ => ⟨S8192x2048, .bf16⟩
  | .hbm, ⟨6, _⟩ => ⟨S8192x256, .bf16⟩
  | .hbm, ⟨7, _⟩ => ⟨S2048x2048, .bf16⟩
  | .hbm, ⟨8, _⟩ => ⟨S256x2048, .bf16⟩
  | .hbm, ⟨9, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x256, .bf16⟩
  | .local _ .vmem, ⟨5, _⟩ => ⟨S512x256, .bf16⟩
  | .local _ .vmem, ⟨6, _⟩ => ⟨S2048x1024, .bf16⟩
  | .local _ .vmem, ⟨7, _⟩ => ⟨S2048x1024, .bf16⟩
  | .local _ .vmem, ⟨8, _⟩ => ⟨S256x1024, .bf16⟩
  | .local _ .vmem, ⟨9, _⟩ => ⟨S256x1024, .bf16⟩
  | .local _ .vmem, ⟨10, _⟩ => ⟨S512x1024, .f32⟩
  | .local _ .vmem, ⟨11, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PleRefIdeal.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x256, .f32⟩
  | .hbm, ⟨3, _⟩ => ⟨S2048x2048, .f32⟩
  | .hbm, ⟨4, _⟩ => ⟨S256x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Norm.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ProjVS.lean ====
abbrev S32x2048 : Shape := ⟨2, ![32, 2048]⟩
abbrev S2048x2048 : Shape := ⟨2, ![2048, 2048]⟩
abbrev S2048x1024 : Shape := ⟨2, ![2048, 1024]⟩
abbrev S32x1024 : Shape := ⟨2, ![32, 1024]⟩

abbrev nBuf : Space → Nat
  | .hbm => 5
  | .vmem => 5
  | .smem => 0
  | _ => 0

abbrev bufTy : (tb : Table) → Fin (tcTables nBuf tb) → BufTy
  | .hbm, ⟨0, _⟩ => ⟨S32x2048, .f32⟩
  | .hbm, ⟨1, _⟩ => ⟨S2048x2048, .f32⟩
  | .hbm, ⟨2, _⟩ => ⟨S32x2048, .bf16⟩
  | .hbm, ⟨3, _⟩ => ⟨S2048x2048, .bf16⟩
  | .hbm, ⟨4, _⟩ => ⟨S32x2048, .f32⟩
  | .local _ .vmem, ⟨0, _⟩ => ⟨S32x2048, .bf16⟩
  | .local _ .vmem, ⟨1, _⟩ => ⟨S2048x1024, .bf16⟩
  | .local _ .vmem, ⟨2, _⟩ => ⟨S2048x1024, .bf16⟩
  | .local _ .vmem, ⟨3, _⟩ => ⟨S32x1024, .f32⟩
  | .local _ .vmem, ⟨4, _⟩ => ⟨S32x1024, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjVSRefIdeal.lean ====
abbrev S32x2048 : Shape := ⟨2, ![32, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048x2048, .f32⟩
  | .hbm, ⟨2, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== RopeS.lean ====
abbrev S32x4096 : Shape := ⟨2, ![32, 4096]⟩
abbrev S1x128 : Shape := ⟨2, ![1, 128]⟩
abbrev S_ : Shape := ⟨0, ![]⟩
abbrev S32 : Shape := ⟨1, ![32]⟩
abbrev S64 : Shape := ⟨1, ![64]⟩
abbrev S32x1 : Shape := ⟨2, ![32, 1]⟩
abbrev S1x64 : Shape := ⟨2, ![1, 64]⟩
abbrev S32x64 : Shape := ⟨2, ![32, 64]⟩
abbrev S32x128 : Shape := ⟨2, ![32, 128]⟩
abbrev S32x2048 : Shape := ⟨2, ![32, 2048]⟩

abbrev nBuf : Space → Nat
  | .hbm => 26
  | .vmem => 12
  | .smem => 0
  | _ => 0

abbrev bufTy : (tb : Table) → Fin (tcTables nBuf tb) → BufTy
  | .hbm, ⟨0, _⟩ => ⟨S32x4096, .f32⟩
  | .hbm, ⟨1, _⟩ => ⟨S1x128, .f32⟩
  | .hbm, ⟨2, _⟩ => ⟨S1x128, .f32⟩
  | .hbm, ⟨3, _⟩ => ⟨S_, .i32⟩
  | .hbm, ⟨4, _⟩ => ⟨S32, .i32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S32, .f32⟩
  | .hbm, ⟨14, _⟩ => ⟨S32x1, .f32⟩
  | .hbm, ⟨15, _⟩ => ⟨S1x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x128, .f32⟩
  | .hbm, ⟨22, _⟩ => ⟨S32x64, .f32⟩
  | .hbm, ⟨23, _⟩ => ⟨S32x128, .f32⟩
  | .hbm, ⟨24, _⟩ => ⟨S32x2048, .f32⟩
  | .hbm, ⟨25, _⟩ => ⟨S32x2048, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S1x128, .f32⟩
  | .local _ .vmem, ⟨5, _⟩ => ⟨S1x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RopeSRefIdeal.lean ====
abbrev S32x4096 : Shape := ⟨2, ![32, 4096]⟩
abbrev S1x128 : Shape := ⟨2, ![1, 128]⟩
abbrev S1 : Shape := ⟨1, ![1]⟩
abbrev S_ : Shape := ⟨0, ![]⟩
abbrev S32x2048 : Shape := ⟨2, ![32, 2048]⟩
abbrev S32x1x16x128 : Shape := ⟨4, ![32, 1, 16, 128]⟩
abbrev S128 : Shape := ⟨1, ![128]⟩
abbrev S32x1x16 : Shape := ⟨3, ![32, 1, 16]⟩
abbrev S32x1x16x1 : Shape := ⟨4, ![32, 1, 16, 1]⟩
abbrev S1x1x1x128 : Shape := ⟨4, ![1, 1, 1, 128]⟩
abbrev S64 : Shape := ⟨1, ![64]⟩
abbrev S1x1 : Shape := ⟨2, ![1, 1]⟩
abbrev S1x64 : Shape := ⟨2, ![1, 64]⟩
abbrev S1x1x1x64 : Shape := ⟨4, ![1, 1, 1, 64]⟩
abbrev S32x1x16x64 : Shape := ⟨4, ![32, 1, 16, 64]⟩

abbrev nBuf : Space → Nat
  | .hbm => 107
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S1x128, .f32⟩
  | .hbm, ⟨2, _⟩ => ⟨S1x128, .f32⟩
  | .hbm, ⟨3, _⟩ => ⟨S1, .i32⟩
  | .hbm, ⟨4, _⟩ => ⟨S_, .i32⟩
  | .hbm, ⟨5, _⟩ => ⟨S1, .i32⟩
  | .hbm, ⟨6, _⟩ => ⟨S1, .i32⟩
  | .hbm, ⟨7, _⟩ => ⟨S32x2048, .f32⟩
  | .hbm, ⟨8, _⟩ => ⟨S32x2048, .f32⟩
  | .hbm, ⟨9, _⟩ => ⟨S32x1x16x128, .f32⟩
  | .hbm, ⟨10, _⟩ => ⟨S128, .f32⟩
  | .hbm, ⟨11, _⟩ => ⟨S32x1x16x128, .f32⟩
  | .hbm, ⟨12, _⟩ => ⟨S_, .f32⟩
  | .hbm, ⟨13, _⟩ => ⟨S32x1x16, .f32⟩
  | .hbm, ⟨14, _⟩ => ⟨S32x1x16x1, .f32⟩
  | .hbm, ⟨15, _⟩ => ⟨S_, .f32⟩
  | .hbm, ⟨16, _⟩ => ⟨S32x1x16x1, .f32⟩
  | .hbm, ⟨17, _⟩ => ⟨S32x1x16x1, .f32⟩
  | .hbm, ⟨18, _⟩ => ⟨S_, .f32⟩
  | .hbm, ⟨19, _⟩ => ⟨S32x1x16x1, .f32⟩
  | .hbm, ⟨20, _⟩ => ⟨S32x1x16x1, .f32⟩
  | .hbm, ⟨21, _⟩ => ⟨S32x1x16x1, .f32⟩
  | .hbm, ⟨22, _⟩ => ⟨S32x1x16x128, .f32⟩
  | .hbm, ⟨23, _⟩ => ⟨S32x1x16x128, .f32⟩
  | .hbm, ⟨24, _⟩ => ⟨S1x1x1x128, .f32⟩
  | .hbm, ⟨25, _⟩ => ⟨S32x1x16x128, .f32⟩
  | .hbm, ⟨26, _⟩ => ⟨S32x1x16x128, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S1, .f32⟩
  | .hbm, ⟨36, _⟩ => ⟨S1x1, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S1x64, .f32⟩
  | .hbm, ⟨41, _⟩ => ⟨S1x1x1x64, .f32⟩
  | .hbm, ⟨42, _⟩ => ⟨S1x64, .f32⟩
  | .hbm, ⟨43, _⟩ => ⟨S1x1x1x64, .f32⟩
  | .hbm, ⟨44, _⟩ => ⟨S32x1x16x64, .f32⟩
  | .hbm, ⟨45, _⟩ => ⟨S32x1x16x64, .f32⟩
  | .hbm, ⟨46, _⟩ => ⟨S32x1x16x64, .f32⟩
  | .hbm, ⟨47, _⟩ => ⟨S32x1x16x64, .f32⟩
  | .hbm, ⟨48, _⟩ => ⟨S32x1x16x64, .f32⟩
  | .hbm, ⟨49, _⟩ => ⟨S32x1x16x64, .f32⟩
  | .hbm, ⟨50, _⟩ => ⟨S32x1x16x64, .f32⟩
  | .hbm, ⟨51, _⟩ => ⟨S32x1x16x64, .f32⟩
  | .hbm, ⟨52, _⟩ => ⟨S32x1x16x64, .f32⟩
  | .hbm, ⟨53, _⟩ => ⟨S32x1x16x64, .f32⟩
  | .hbm, ⟨54, _⟩ => ⟨S32x1x16x64, .f32⟩
  | .hbm, ⟨55, _⟩ => ⟨S32x1x16x64, .f32⟩
  | .hbm, ⟨56, _⟩ => ⟨S32x1x16x128, .f32⟩
  | .hbm, ⟨57, _⟩ => ⟨S32x1x16x128, .f32⟩
  | .hbm, ⟨58, _⟩ => ⟨S128, .f32⟩
  | .hbm, ⟨59, _⟩ => ⟨S32x1x16x128, .f32⟩
  | .hbm, ⟨60, _⟩ => ⟨S_, .f32⟩
  | .hbm, ⟨61, _⟩ => ⟨S32x1x16, .f32⟩
  | .hbm, ⟨62, _⟩ => ⟨S32x1x16x1, .f32⟩
  | .hbm, ⟨63, _⟩ => ⟨S_, .f32⟩
  | .hbm, ⟨64, _⟩ => ⟨S32x1x16x1, .f32⟩
  | .hbm, ⟨65, _⟩ => ⟨S32x1x16x1, .f32⟩
  | .hbm, ⟨66, _⟩ => ⟨S_, .f32⟩
  | .hbm, ⟨67, _⟩ => ⟨S32x1x16x1, .f32⟩
  | .hbm, ⟨68, _⟩ => ⟨S32x1x16x1, .f32⟩
  | .hbm, ⟨69, _⟩ => ⟨S32x1x16x1, .f32⟩
  | .hbm, ⟨70, _⟩ => ⟨S32x1x16x128, .f32⟩
  | .hbm, ⟨71, _⟩ => ⟨S32x1x16x128, .f32⟩
  | .hbm, ⟨72, _⟩ => ⟨S1x1x1x128, .f32⟩
  | .hbm, ⟨73, _⟩ => ⟨S32x1x16x128, .f32⟩
  | .hbm, ⟨74, _⟩ => ⟨S32x1x16x128, .f32⟩
  | .hbm, ⟨75, _⟩ => ⟨S64, .f32⟩
  | .hbm, ⟨76, _⟩ => ⟨S64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S_, .f32⟩
  | .hbm, ⟨81, _⟩ => ⟨S64, .f32⟩
  | .hbm, ⟨82, _⟩ => ⟨S64, .f32⟩
  | .hbm, ⟨83, _⟩ => ⟨S1, .f32⟩
  | .hbm, ⟨84, _⟩ => ⟨S1x1, .f32⟩
  | .hbm, ⟨85, _⟩ => ⟨S1x64, .f32⟩
  | .hbm, ⟨86, _⟩ => ⟨S1x64, .f32⟩
  | .hbm, ⟨87, _⟩ => ⟨S1x64, .f32⟩
  | .hbm, ⟨88, _⟩ => ⟨S1x64, .f32⟩
  | .hbm, ⟨89, _⟩ => ⟨S1x1x1x64, .f32⟩
  | .hbm, ⟨90, _⟩ => ⟨S1x64, .f32⟩
  | .hbm, ⟨91, _⟩ => ⟨S1x1x1x64, .f32⟩
  | .hbm, ⟨92, _⟩ => ⟨S32x1x16x64, .f32⟩
  | .hbm, ⟨93, _⟩ => ⟨S32x1x16x64, .f32⟩
  | .hbm, ⟨94, _⟩ => ⟨S32x1x16x64, .f32⟩
  | .hbm, ⟨95, _⟩ => ⟨S32x1x16x64, .f32⟩
  | .hbm, ⟨96, _⟩ => ⟨S32x1x16x64, .f32⟩
  | .hbm, ⟨97, _⟩ => ⟨S32x1x16x64, .f32⟩
  | .hbm, ⟨98, _⟩ => ⟨S32x1x16x64, .f32⟩
  | .hbm, ⟨99, _⟩ => ⟨S32x1x16x64, .f32⟩
  | .hbm, ⟨100, _⟩ => ⟨S32x1x16x64, .f32⟩
  | .hbm, ⟨101, _⟩ => ⟨S32x1x16x64, .f32⟩
  | .hbm, ⟨102, _⟩ => ⟨S32x1x16x64, .f32⟩
  | .hbm, ⟨103, _⟩ => ⟨S32x1x16x64, .f32⟩
  | .hbm, ⟨104, _⟩ => ⟨S32x1x16x128, .f32⟩
  | .hbm, ⟨105, _⟩ => ⟨S32x2048, .f32⟩
  | .hbm, ⟨106, _⟩ => ⟨S32x2048, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_4 : Ref sig .tc := ⟨.hbm, 60, rfl⟩
abbrev main_v51 : Ref sig .tc := ⟨.hbm, 61, rfl⟩
abbrev main_v52 : Ref sig .tc := ⟨.hbm, 62, rfl⟩
abbrev main_cst_5 : Ref sig .tc := ⟨.hbm, 63, rfl⟩
abbrev main_v53 : Ref sig .tc := ⟨.hbm, 64, rfl⟩
abbrev main_v54 : Ref sig .tc := ⟨.hbm, 65, rfl⟩
abbrev main_cst_6 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_7 : Ref sig .tc := ⟨.hbm, 77, rfl⟩
abbrev main_v65 : Ref sig .tc := ⟨.hbm, 78, rfl⟩
abbrev main_v66 : Ref sig .tc := ⟨.hbm, 79, rfl⟩
abbrev main_cst_8 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩

abbrev nD : Nat := 1
abbrev τ : Topo := Topo.v7x

variable {F : FTy → Type} [FloatOps F]
-- ==== PleS.lean ====
abbrev S32x2048 : Shape := ⟨2, ![32, 2048]⟩
abbrev S32x256 : Shape := ⟨2, ![32, 256]⟩
abbrev S2048x2048 : Shape := ⟨2, ![2048, 2048]⟩
abbrev S256x2048 : Shape := ⟨2, ![256, 2048]⟩
abbrev S32x1024 : Shape := ⟨2, ![32, 1024]⟩
abbrev S2048x1024 : Shape := ⟨2, ![2048, 1024]⟩
abbrev S256x1024 : Shape := ⟨2, ![256, 1024]⟩

abbrev nBuf : Space → Nat
  | .hbm => 10
  | .vmem => 10
  | .smem => 0
  | _ => 0

abbrev bufTy : (tb : Table) → Fin (tcTables nBuf tb) → BufTy
  | .hbm, ⟨0, _⟩ => ⟨S32x2048, .f32⟩
  | .hbm, ⟨1, _⟩ => ⟨S32x2048, .f32⟩
  | .hbm, ⟨2, _⟩ => ⟨S32x256, .f32⟩
  | .hbm, ⟨3, _⟩ => ⟨S2048x2048, .f32⟩
  | .hbm, ⟨4, _⟩ => ⟨S256x2048, .f32⟩
  | .hbm, ⟨5, _⟩ => ⟨S32x2048, .bf16⟩
  | .hbm, ⟨6, _⟩ => ⟨S32x256, .bf16⟩
  | .hbm, ⟨7, _⟩ => ⟨S2048x2048, .bf16⟩
  | .hbm, ⟨8, _⟩ => ⟨S256x2048, .bf16⟩
  | .hbm, ⟨9, _⟩ => ⟨S32x2048, .f32⟩
  | .local _ .vmem, ⟨0, _⟩ => ⟨S32x1024, .f32⟩
  | .local _ .vmem, ⟨1, _⟩ => ⟨S32x1024, .f32⟩
  | .local _ .vmem, ⟨2, _⟩ => ⟨S32x2048, .bf16⟩
  | .local _ .vmem, ⟨3, _⟩ => ⟨S32x256, .bf16⟩
  | .local _ .vmem, ⟨4, _⟩ => ⟨S2048x1024, .bf16⟩
  | .local _ .vmem, ⟨5, _⟩ => ⟨S2048x1024, .bf16⟩
  | .local _ .vmem, ⟨6, _⟩ => ⟨S256x1024, .bf16⟩
  | .local _ .vmem, ⟨7, _⟩ => ⟨S256x1024, .bf16⟩
  | .local _ .vmem, ⟨8, _⟩ => ⟨S32x1024, .f32⟩
  | .local _ .vmem, ⟨9, _⟩ => ⟨S32x1024, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S32x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PleSRefIdeal.lean ====
abbrev S32x2048 : Shape := ⟨2, ![32, 2048]⟩
abbrev S32x256 : Shape := ⟨2, ![32, 256]⟩
abbrev S2048x2048 : Shape := ⟨2, ![2048, 2048]⟩
abbrev S256x2048 : Shape := ⟨2, ![256, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x2048, .f32⟩
  | .hbm, ⟨2, _⟩ => ⟨S32x256, .f32⟩
  | .hbm, ⟨3, _⟩ => ⟨S2048x2048, .f32⟩
  | .hbm, ⟨4, _⟩ => ⟨S256x2048, .f32⟩
  | .hbm, ⟨5, _⟩ => ⟨S32x2048, .f32⟩
  | .hbm, ⟨6, _⟩ => ⟨S32x2048, .f32⟩
  | .hbm, ⟨7, _⟩ => ⟨S32x2048, .f32⟩
  | .hbm, ⟨8, _⟩ => ⟨S_, .f32⟩
  | .hbm, ⟨9, _⟩ => ⟨S32x2048, .f32⟩
  | .hbm, ⟨10, _⟩ => ⟨S32x2048, .f32⟩
  | .hbm, ⟨11, _⟩ => ⟨S_, .f32⟩
  | .hbm, ⟨12, _⟩ => ⟨S32x2048, .f32⟩
  | .hbm, ⟨13, _⟩ => ⟨S32x2048, .f32⟩
  | .hbm, ⟨14, _⟩ => ⟨S32x2048, .f32⟩
  | .hbm, ⟨15, _⟩ => ⟨S32x2048, .f32⟩
  | .hbm, ⟨16, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Proof.DeltaStepKernel.lean ====
/- One step of the gated delta rule: what the kernel's body leaves in its output blocks, index by index. -/
module

public import proofs.«01_k».proof.Proof.Gen.DeltaStepIdeal.Frame
public import Idealize.ShloMosaic.Lib.Pipeline.ValueKit
public import Idealize.ShloMosaic.Lib.Pointwise
public import Idealize.ShloMosaic.Lib.Claim

@[expose] public section

set_option maxRecDepth 16384

noncomputable section

namespace Cert.DeltaStepVal

open Idealize.ShloMosaic Idealize.ShloMosaic.TcCoe Idealize.SL.Sem
open Cert.DeltaStepIdeal Cert.DeltaStepIdeal.Gen

/-- One head's next state at a row and a column, from its key column, value row, gates and state. -/
def headS (k : Fin 128 → EReal) (v : Fin 128 → EReal) (g b : EReal) (s : Fin 128 → Fin 128 → EReal) (r c : Fin 128) : EReal :=
  s r c * Ideal.exp g + k r * ((v c - ∑ j : Fin 128, k j * (s j c * Ideal.exp g)) * b)

/-- A head's lane. -/
def lane (i : Fin 16) : Fin 128 := ⟨i.val, by omega⟩
/-- A head's lane in the second sixteen. -/
def lane16 (i : Fin 16) : Fin 128 := ⟨16 + i.val, by omega⟩

/-- The next state the body writes, head by head. -/
theorem out11_apply (x0 : Vec Ideal S1x48x128 .f32) (x1 : Vec Ideal S1x3x48x128 .f32) (x2 : Vec Ideal S4x48x128 .f32) (x3 : Vec Ideal S1x16x128 .f32) (x4 : Vec Ideal S1x1x128 .f32) (x5 : Vec Ideal S1x128 .f32) (x6 : Vec Ideal S1x128 .f32) (x7 : Vec Ideal S1x128 .f32) (x8 : Vec Ideal S1x16x128x128 .f32)
    (v58 : Vec Ideal S16x128 .f32) (v77 v78 : Vec Ideal S1x128 .f32) (v81 : Vec Ideal S128x128 .f32)
    (h58 : k0_pay91 x0 x1 x2 x3 x4 x5 x6 x7 x8 = v58) (h77 : k0_pay92 x0 x1 x2 x3 x4 x5 x6 x7 x8 = v77)
    (h78 : k0_pay93 x0 x1 x2 x3 x4 x5 x6 x7 x8 = v78) (h81 : k0_pay95 x0 x1 x2 x3 x4 x5 x6 x7 x8 = v81)
    (a : Fin 1) (i : Fin 16) (r c : Fin 128) :
    out0_11 x0 x1 x2 x3 x4 x5 x6 x7 x8 (ix4 a i r c)
      = headS (fun r => v81 (ix2 r (lane i))) (fun c => v58 (ix2 i c)) (v77 (ix2 0 (lane i)))
         (v78 (ix2 0 (lane16 i))) (fun r c => x8 (ix4 0 i r c)) r c := by
  unfold out0_11 k0_pay117 k0_pay116 k0_pay115 k0_pay114 k0_pay113 k0_pay112 k0_pay111 k0_pay110 k0_pay109 k0_pay108 k0_pay107 k0_pay106 k0_pay105 k0_pay104 k0_pay103 k0_pay102 k0_pay101 k0_pay100 k0_pay99 k0_pay98 k0_pay97
  unfold k0_pay95 at h81 ⊢
  simp only [h58, h77, h78]
  canon_tiles x h
  all_goals
    simp only [k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, h81]
    pointwise
    have z : (x 1 : ℕ) = 0 := by omega
    replace h1 : i.val = _ := h1
    have e2 : x 2 = r := Fin.ext h2.symm
    have e3 : x 3 = c := Fin.ext h3.symm
    rw [z] at h1
    simp only [headS, e2, e3]
    obtain ⟨i, hi⟩ := i
    dsimp only at h1
    subst h1
    rfl

/-- One head's output at a column: the query against the next state. -/
def headO (q : Fin 128 → EReal) (k : Fin 128 → EReal) (v : Fin 128 → EReal) (g b : EReal) (s : Fin 128 → Fin 128 → EReal) (c : Fin 128) : EReal :=
  ∑ j : Fin 128, q j * headS k v g b s j c

/-- The gated root-mean-square norm of one row at a column. -/
def gated (o : Fin 128 → EReal) (gain z : EReal) (c : Fin 128) : EReal :=
  o c * Ideal.rsqrt (Ideal.div (∑ j : Fin 128, o j * o j) (Scalar.ofBits (F := Ideal) .f32 0x43000000#32) + Scalar.ofBits (F := Ideal) .f32 0x358637BD#32) * gain
    * (z * Ideal.logistic z)

/-- The output the body writes, head by head. -/
theorem out9_apply (x0 : Vec Ideal S1x48x128 .f32) (x1 : Vec Ideal S1x3x48x128 .f32) (x2 : Vec Ideal S4x48x128 .f32) (x3 : Vec Ideal S1x16x128 .f32) (x4 : Vec Ideal S1x1x128 .f32) (x5 : Vec Ideal S1x128 .f32) (x6 : Vec Ideal S1x128 .f32) (x7 : Vec Ideal S1x128 .f32) (x8 : Vec Ideal S1x16x128x128 .f32)
    (v58 : Vec Ideal S16x128 .f32) (v77 v78 : Vec Ideal S1x128 .f32) (v81 v83 : Vec Ideal S128x128 .f32)
    (h58 : k0_pay91 x0 x1 x2 x3 x4 x5 x6 x7 x8 = v58) (h77 : k0_pay92 x0 x1 x2 x3 x4 x5 x6 x7 x8 = v77)
    (h78 : k0_pay93 x0 x1 x2 x3 x4 x5 x6 x7 x8 = v78) (h81 : k0_pay95 x0 x1 x2 x3 x4 x5 x6 x7 x8 = v81) (h83 : k0_pay96 x0 x1 x2 x3 x4 x5 x6 x7 x8 = v83)
    (a : Fin 1) (i : Fin 16) (c : Fin 128) :
    out0_9 x0 x1 x2 x3 x4 x5 x6 x7 x8 (ix3 a i c)
      = gated (headO (fun r => v83 (ix2 r (lane i))) (fun r => v81 (ix2 r (lane i))) (fun c => v58 (ix2 i c))
          (v77 (ix2 0 (lane i))) (v78 (ix2 0 (lane16 i))) (fun r c => x8 (ix4 0 i r c))) (x7 (ix2 0 c)) (x3 (ix3 0 i c)) c := by
  unfold out0_9 k0_pay117 k0_pay116 k0_pay115 k0_pay114 k0_pay113 k0_pay112 k0_pay111 k0_pay110 k0_pay109 k0_pay108 k0_pay107 k0_pay106 k0_pay105 k0_pay104 k0_pay103 k0_pay102 k0_pay101 k0_pay100 k0_pay99 k0_pay98 k0_pay97
  unfold k0_pay95 at h81 ⊢
  unfold k0_pay96 at h83 ⊢
  simp only [h58, h77, h78, h81, h83]
  canon_tiles x h
  unfold k0_pay1 k0_pay87
  dsimp only
  generalize hW : concatenate S16x128 _ _ _ = W
  have hO : ∀ (i : Fin 16) (c : Fin 128), W (ix2 i c) = headO (fun r => v83 (ix2 r (lane i))) (fun r => v81 (ix2 r (lane i))) (fun c => v58 (ix2 i c))
          (v77 (ix2 0 (lane i))) (v78 (ix2 0 (lane16 i))) (fun r c => x8 (ix4 0 i r c)) c := by
    intro i c
    subst hW
    concat_tiles x h
    all_goals
      simp only [k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, h81, h83]
      pointwise
      have e1 : x 1 = c := Fin.ext h1
      replace h : i.val = _ := h
      simp only [headO, headS, e1]
      obtain ⟨i, hi⟩ := i
      dsimp only at h
      subst h
      rfl
  clear hW
  pointwise
  have e1 : x 1 = i := Fin.ext h1.symm
  have e2 : x 2 = c := Fin.ext h2.symm
  simp only [gated, hO, e1, e2]
  rfl

/-- The convolution of a row of a block, through the sigmoid-weighted unit. -/
def actB (x0 : Vec Ideal S1x48x128 .f32) (x1 : Vec Ideal S1x3x48x128 .f32) (x2 : Vec Ideal S4x48x128 .f32) (i : Fin 48) (j : Fin 128) : EReal :=
  (x0 (ix3 0 i j) * x2 (ix3 3 i j) + x1 (ix4 0 0 i j) * x2 (ix3 0 i j) + x1 (ix4 0 1 i j) * x2 (ix3 1 i j) + x1 (ix4 0 2 i j) * x2 (ix3 2 i j))
    * Ideal.logistic (x0 (ix3 0 i j) * x2 (ix3 3 i j) + x1 (ix4 0 0 i j) * x2 (ix3 0 i j) + x1 (ix4 0 1 i j) * x2 (ix3 1 i j) + x1 (ix4 0 2 i j) * x2 (ix3 2 i j))

/-- A row over its Euclidean norm. -/
def unitRow (a : Fin 128 → EReal) (j : Fin 128) : EReal :=
  a j * Ideal.rsqrt (∑ r : Fin 128, a r * a r + Ideal.ofBits FTy.f32 0x358637BD#32)

/-- The values' payload. -/
theorem pay91_apply (x0 : Vec Ideal S1x48x128 .f32) (x1 : Vec Ideal S1x3x48x128 .f32) (x2 : Vec Ideal S4x48x128 .f32) (x3 : Vec Ideal S1x16x128 .f32) (x4 : Vec Ideal S1x1x128 .f32) (x5 : Vec Ideal S1x128 .f32) (x6 : Vec Ideal S1x128 .f32) (x7 : Vec Ideal S1x128 .f32) (x8 : Vec Ideal S1x16x128x128 .f32) (i : Fin 16) (j : Fin 128) :
    k0_pay91 x0 x1 x2 x3 x4 x5 x6 x7 x8 (ix2 i j) = actB x0 x1 x2 ⟨32 + i.val, by omega⟩ j := by
  open_payloads
  pointwise
  rfl

/-- The logarithm of the decay. -/
theorem pay92_apply (x0 : Vec Ideal S1x48x128 .f32) (x1 : Vec Ideal S1x3x48x128 .f32) (x2 : Vec Ideal S4x48x128 .f32) (x3 : Vec Ideal S1x16x128 .f32) (x4 : Vec Ideal S1x1x128 .f32) (x5 : Vec Ideal S1x128 .f32) (x6 : Vec Ideal S1x128 .f32) (x7 : Vec Ideal S1x128 .f32) (x8 : Vec Ideal S1x16x128x128 .f32) (j : Fin 128) :
    k0_pay92 x0 x1 x2 x3 x4 x5 x6 x7 x8 (ix2 0 j) = (0 - Ideal.exp (x5 (ix2 0 j))) * (max (x4 (ix3 0 0 j) + x6 (ix2 0 j)) 0 +
        Ideal.log1p (Ideal.exp (0 - FloatOps.absf (F := Ideal) (φ := .f32) (x4 (ix3 0 0 j) + x6 (ix2 0 j))))) := by
  open_payloads
  pointwise

/-- The gate of the delta rule. -/
theorem pay93_apply (x0 : Vec Ideal S1x48x128 .f32) (x1 : Vec Ideal S1x3x48x128 .f32) (x2 : Vec Ideal S4x48x128 .f32) (x3 : Vec Ideal S1x16x128 .f32) (x4 : Vec Ideal S1x1x128 .f32) (x5 : Vec Ideal S1x128 .f32) (x6 : Vec Ideal S1x128 .f32) (x7 : Vec Ideal S1x128 .f32) (x8 : Vec Ideal S1x16x128x128 .f32) (j : Fin 128) :
    k0_pay93 x0 x1 x2 x3 x4 x5 x6 x7 x8 (ix2 0 j) = Ideal.logistic (x4 (ix3 0 0 j)) := by
  open_payloads
  pointwise

/-- The keys' payload, a head to a column. -/
theorem pay95_apply (x0 : Vec Ideal S1x48x128 .f32) (x1 : Vec Ideal S1x3x48x128 .f32) (x2 : Vec Ideal S4x48x128 .f32) (x3 : Vec Ideal S1x16x128 .f32) (x4 : Vec Ideal S1x1x128 .f32) (x5 : Vec Ideal S1x128 .f32) (x6 : Vec Ideal S1x128 .f32) (x7 : Vec Ideal S1x128 .f32) (x8 : Vec Ideal S1x16x128x128 .f32) (r : Fin 128) (i : Fin 16) :
    k0_pay95 x0 x1 x2 x3 x4 x5 x6 x7 x8 (ix2 r (lane i)) = unitRow (actB x0 x1 x2 ⟨16 + i.val, by omega⟩) r := by
  open_payloads
  pointwise
  rw [dif_pos (show (lane i).val < 16 from i.isLt)]
  rfl

/-- The queries' payload, a head to a column. -/
theorem pay96_apply (x0 : Vec Ideal S1x48x128 .f32) (x1 : Vec Ideal S1x3x48x128 .f32) (x2 : Vec Ideal S4x48x128 .f32) (x3 : Vec Ideal S1x16x128 .f32) (x4 : Vec Ideal S1x1x128 .f32) (x5 : Vec Ideal S1x128 .f32) (x6 : Vec Ideal S1x128 .f32) (x7 : Vec Ideal S1x128 .f32) (x8 : Vec Ideal S1x16x128x128 .f32) (r : Fin 128) (i : Fin 16) :
    k0_pay96 x0 x1 x2 x3 x4 x5 x6 x7 x8 (ix2 r (lane i)) = unitRow (actB x0 x1 x2 ⟨i.val, by omega⟩) r * Ideal.ofBits FTy.f32 0x3DB504F3#32 := by
  open_payloads
  pointwise
  rw [dif_pos (show (lane i).val < 16 from i.isLt)]
  rfl

/-- The convolution's next state: the last two rows of the old one and the new row. -/
theorem out10_apply (x0 : Vec Ideal S1x48x128 .f32) (x1 : Vec Ideal S1x3x48x128 .f32) (x2 : Vec Ideal S4x48x128 .f32) (x3 : Vec Ideal S1x16x128 .f32) (x4 : Vec Ideal S1x1x128 .f32) (x5 : Vec Ideal S1x128 .f32) (x6 : Vec Ideal S1x128 .f32) (x7 : Vec Ideal S1x128 .f32) (x8 : Vec Ideal S1x16x128x128 .f32) (a : Fin 1) (t : Fin 3) (h : Fin 48) (j : Fin 128) :
    out0_10 x0 x1 x2 x3 x4 x5 x6 x7 x8 (ix4 a t h j) = if h' : 1 + t.val < 3 then x1 (ix4 0 ⟨1 + t.val, by omega⟩ h j) else x0 (ix3 0 h j) := by
  unfold out0_10
  canon_tiles x g
  all_goals
    open_payloads
    pointwise
    have e2 : x 2 = h := Fin.ext g2.symm
    have e3 : x 3 = j := Fin.ext g3.symm
    replace g1 : t.val = _ := g1
    rw [e2, e3]
    have z : (x 1 : ℕ) = 0 := by omega
    rw [z] at g1
    obtain ⟨t, ht⟩ := t
    dsimp only at g1
    subst g1
    rfl

end Cert.DeltaStepVal

end
-- ==== Proof.DeltaStepBlocks.lean ====
/- One step of the gated delta rule: what the kernel's blocks hold, in the arrays the program is given. -/
module

public import proofs.«01_k».proof.Proof.DeltaStepKernel

@[expose] public section

set_option maxRecDepth 16384

noncomputable section

namespace Cert.DeltaStepVal
open Idealize.ShloMosaic Idealize.ShloMosaic.TcCoe Idealize.SL.Sem
open Cert.DeltaStepIdeal Cert.DeltaStepIdeal.Gen

variable (m : (ℓ : Loc nD τ sig) → Buf (Elt Ideal) ℓ) (c : Dev nD)

/-- The projected channels as the call takes them, by heads. -/
theorem e5 (b : Fin 32) (h : Fin 48) (j : Fin 128) : V m c main_v5 (ix3 b h j)
    = m ((c : Thread nD τ).loc main_arg0) (ix3 b 0 ⟨h.val * 128 + j.val, by omega⟩) := by
  dsimp only [V, hostOps0, hostOps0_1, hostOps0_2, hostOps0_3, hostOps0_4, hostOps0_5, List.flatten_cons, List.flatten_nil, List.cons_append, List.nil_append, List.append_nil]
  entry_read
  pointwise

/-- The window of channels before them. -/
theorem e6 (b : Fin 32) (t : Fin 3) (h : Fin 48) (j : Fin 128) : V m c main_v6 (ix4 b t h j)
    = m ((c : Thread nD τ).loc main_arg4) (ix3 b t ⟨h.val * 128 + j.val, by omega⟩) := by
  dsimp only [V, hostOps0, hostOps0_1, hostOps0_2, hostOps0_3, hostOps0_4, hostOps0_5, List.flatten_cons, List.flatten_nil, List.cons_append, List.nil_append, List.append_nil]
  entry_read
  pointwise

/-- The convolution's weights. -/
theorem e7 (t : Fin 4) (h : Fin 48) (j : Fin 128) : V m c main_v7 (ix3 t h j)
    = m ((c : Thread nD τ).loc main_arg6) (ix2 t ⟨h.val * 128 + j.val, by omega⟩) := by
  dsimp only [V, hostOps0, hostOps0_1, hostOps0_2, hostOps0_3, hostOps0_4, hostOps0_5, List.flatten_cons, List.flatten_nil, List.cons_append, List.nil_append, List.append_nil]
  entry_read
  pointwise

/-- The gate. -/
theorem e9 (b : Fin 32) (h : Fin 16) (j : Fin 128) : V m c main_v9 (ix3 b h j)
    = m ((c : Thread nD τ).loc main_arg1) (ix3 b 0 ⟨h.val * 128 + j.val, by omega⟩) := by
  dsimp only [V, hostOps0, hostOps0_1, hostOps0_2, hostOps0_3, hostOps0_4, hostOps0_5, List.flatten_cons, List.flatten_nil, List.cons_append, List.nil_append, List.append_nil]
  entry_read
  pointwise

/-- The decay's inputs are the first lanes of one array. -/
theorem e10a (b : Fin 32) (h : Fin 16) : V m c main_v10 (ix3 b 0 (lane h))
    = m ((c : Thread nD τ).loc main_arg2) (ix3 b 0 h) := by
  dsimp only [V, hostOps0, hostOps0_1, hostOps0_2, hostOps0_3, hostOps0_4, hostOps0_5, List.flatten_cons, List.flatten_nil, List.cons_append, List.nil_append, List.append_nil]
  entry_read
  simp only [StableHlo.TRef.toBuf, StableHlo.TRef.ofBuf, cast_eq, eq_mpr_eq_cast]
  pointwise
  rw [dif_pos (by have := h.isLt; simp only [lane]; omega), dif_pos (by have := h.isLt; simp only [lane]; omega)]
  rfl

/-- The update's logits are the next lanes of it. -/
theorem e10b (b : Fin 32) (h : Fin 16) : V m c main_v10 (ix3 b 0 (lane16 h))
    = m ((c : Thread nD τ).loc main_arg3) (ix3 b 0 h) := by
  dsimp only [V, hostOps0, hostOps0_1, hostOps0_2, hostOps0_3, hostOps0_4, hostOps0_5, List.flatten_cons, List.flatten_nil, List.cons_append, List.nil_append, List.append_nil]
  entry_read
  simp only [StableHlo.TRef.toBuf, StableHlo.TRef.ofBuf, cast_eq, eq_mpr_eq_cast]
  pointwise
  rw [dif_pos (by have := h.isLt; simp only [lane16]; omega), dif_neg (by have := h.isLt; simp only [lane16]; omega)]
  blk_ext [lane16]

/-- The rates, padded to a row of lanes. -/
theorem e11 (h : Fin 16) : V m c main_v11 (ix2 0 (lane h)) = m ((c : Thread nD τ).loc main_arg7) (ix2 0 h) := by
  dsimp only [V, hostOps0, hostOps0_1, hostOps0_2, hostOps0_3, hostOps0_4, hostOps0_5, List.flatten_cons, List.flatten_nil, List.cons_append, List.nil_append, List.append_nil]
  entry_read
  simp only [StableHlo.TRef.toBuf, StableHlo.TRef.ofBuf, cast_eq, eq_mpr_eq_cast]
  pointwise
  rw [dif_pos (by have := h.isLt; simp only [lane]; omega)]
  rfl

/-- The shifts, padded to a row of lanes. -/
theorem e12 (h : Fin 16) : V m c main_v12 (ix2 0 (lane h)) = m ((c : Thread nD τ).loc main_arg8) (ix2 0 h) := by
  dsimp only [V, hostOps0, hostOps0_1, hostOps0_2, hostOps0_3, hostOps0_4, hostOps0_5, List.flatten_cons, List.flatten_nil, List.cons_append, List.nil_append, List.append_nil]
  entry_read
  pointwise
  simp only [StableHlo.TRef.toBuf, StableHlo.TRef.ofBuf, cast_eq, eq_mpr_eq_cast]
  pointwise
  rw [dif_pos (by have := h.isLt; simp only [lane]; omega)]
  rfl

/-- The block index of every window at every point of the grid. -/
theorem idx : ∀ t : Fin cfg0.N, win0_0.index t = ![t.val, 0, 0] ∧ win0_1.index t = ![t.val, 0, 0, 0] ∧ win0_2.index t = ![0, 0, 0]
    ∧ win0_3.index t = ![t.val, 0, 0] ∧ win0_4.index t = ![t.val, 0, 0] ∧ win0_5.index t = ![0, 0] ∧ win0_6.index t = ![0, 0]
    ∧ win0_7.index t = ![0, 0] ∧ win0_8.index t = ![t.val, 0, 0, 0] ∧ win0_9.index t = ![t.val, 0, 0] ∧ win0_10.index t = ![t.val, 0, 0, 0]
    ∧ win0_11.index t = ![t.val, 0, 0, 0] := by
  decide +kernel

/-- A point of the grid as a sequence. -/
def seq (t : Fin cfg0.N) : Fin 32 := ⟨t.val, t.isLt⟩

/-- The block of projected channels of one sequence. -/
theorem b0 (t : Fin cfg0.N) (h : Fin 48) (j : Fin 128) : iblk m c 0 t (ix3 0 h j)
    = m ((c : Thread nD τ).loc main_arg0) (ix3 (seq t) 0 ⟨h.val * 128 + j.val, by omega⟩) := by
  have e := idx t
  rw [← e5 m c]
  blk_ext [iblk, e, seq]

/-- The block of its window. -/
theorem b1 (t : Fin cfg0.N) (k : Fin 3) (h : Fin 48) (j : Fin 128) : iblk m c 1 t (ix4 0 k h j)
    = m ((c : Thread nD τ).loc main_arg4) (ix3 (seq t) k ⟨h.val * 128 + j.val, by omega⟩) := by
  have e := idx t
  rw [← e6 m c]
  blk_ext [iblk, e, seq]

/-- The convolution's weights, whole. -/
theorem b2 (t : Fin cfg0.N) (k : Fin 4) (h : Fin 48) (j : Fin 128) : iblk m c 2 t (ix3 k h j)
    = m ((c : Thread nD τ).loc main_arg6) (ix2 k ⟨h.val * 128 + j.val, by omega⟩) := by
  have e := idx t
  rw [← e7 m c]
  blk_ext [iblk, e, seq]

/-- The block of its gate. -/
theorem b3 (t : Fin cfg0.N) (h : Fin 16) (j : Fin 128) : iblk m c 3 t (ix3 0 h j)
    = m ((c : Thread nD τ).loc main_arg1) (ix3 (seq t) 0 ⟨h.val * 128 + j.val, by omega⟩) := by
  have e := idx t
  rw [← e9 m c]
  blk_ext [iblk, e, seq]

/-- The block of its decay's inputs. -/
theorem b4a (t : Fin cfg0.N) (h : Fin 16) : iblk m c 4 t (ix3 0 0 (lane h)) = m ((c : Thread nD τ).loc main_arg2) (ix3 (seq t) 0 h) := by
  have e := idx t
  rw [← e10a m c]
  blk_ext [iblk, e, seq]

/-- The block of its update's logits. -/
theorem b4b (t : Fin cfg0.N) (h : Fin 16) : iblk m c 4 t (ix3 0 0 (lane16 h)) = m ((c : Thread nD τ).loc main_arg3) (ix3 (seq t) 0 h) := by
  have e := idx t
  rw [← e10b m c]
  blk_ext [iblk, e, seq]

/-- The rates, whole. -/
theorem b5 (t : Fin cfg0.N) (h : Fin 16) : iblk m c 5 t (ix2 0 (lane h)) = m ((c : Thread nD τ).loc main_arg7) (ix2 0 h) := by
  have e := idx t
  rw [← e11 m c]
  blk_ext [iblk, e, seq]

/-- The shifts, whole. -/
theorem b6 (t : Fin cfg0.N) (h : Fin 16) : iblk m c 6 t (ix2 0 (lane h)) = m ((c : Thread nD τ).loc main_arg8) (ix2 0 h) := by
  have e := idx t
  rw [← e12 m c]
  blk_ext [iblk, e, seq]

/-- The norm's gain, whole. -/
theorem b7 (t : Fin cfg0.N) (j : Fin 128) : iblk m c 7 t (ix2 0 j) = m ((c : Thread nD τ).loc main_arg9) (ix2 0 j) := by
  have e := idx t
  rw [← V_main_arg9 m c]
  blk_ext [iblk, e, seq]

/-- The block of its state. -/
theorem b8 (t : Fin cfg0.N) (h : Fin 16) (r j : Fin 128) : iblk m c 8 t (ix4 0 h r j)
    = m ((c : Thread nD τ).loc main_arg5) (ix4 (seq t) h r j) := by
  have e := idx t
  rw [← V_main_arg5 m c]
  blk_ext [iblk, e, seq]

end Cert.DeltaStepVal

end
-- ==== Proof.DeltaStepMath.lean ====
/- One step of the gated delta rule over finite numbers: the step as it is written for one token, and the chunked form
   at a chunk of one token, are equal. -/
module

public import proofs.«01_k».proof.Proof.DeltaStepKernel

@[expose] public section

set_option maxRecDepth 16384

noncomputable section

namespace Cert.DeltaStepVal
open Idealize.ShloMosaic

/-- The extended real is a real. -/
def Re (x : EReal) : Prop := ∃ r : ℝ, x = (r : EReal)

/-- A real is one. -/
theorem Re.coe (r : ℝ) : Re (r : EReal) := ⟨r, rfl⟩
/-- Zero is a real. -/
theorem Re.zero : Re 0 := ⟨0, rfl⟩
/-- A sum of reals is a real. -/
theorem Re.add {x y : EReal} : Re x → Re y → Re (x + y) := fun ⟨a, ha⟩ ⟨b, hb⟩ => ⟨a + b, by rw [ha, hb, EReal.coe_add]⟩
/-- So is a product. -/
theorem Re.mul {x y : EReal} : Re x → Re y → Re (x * y) := fun ⟨a, ha⟩ ⟨b, hb⟩ => ⟨a * b, by rw [ha, hb, EReal.coe_mul]⟩
/-- So is a difference. -/
theorem Re.sub {x y : EReal} : Re x → Re y → Re (x - y) := fun ⟨a, ha⟩ ⟨b, hb⟩ => ⟨a - b, by rw [ha, hb, EReal.coe_sub]⟩
/-- So is a negative. -/
theorem Re.neg {x : EReal} : Re x → Re (-x) := fun ⟨a, ha⟩ => ⟨-a, by rw [ha, EReal.coe_neg]⟩
/-- So is the greater of two. -/
theorem Re.max {x y : EReal} (hx : Re x) (hy : Re y) : Re (max x y) := by
  rcases max_choice x y with h | h <;> rw [h] <;> assumption
/-- So is an exponential. -/
theorem Re.exp {x : EReal} : Re x → Re (Ideal.exp x) := fun ⟨a, ha⟩ => ⟨Real.exp a, by rw [ha, Ideal.exp_coe]⟩

/-- The logistic function of anything is a real. -/
theorem Re.logistic (x : EReal) : Re (Ideal.logistic x) := by
  induction x with
  | bot => exact ⟨0, Ideal.logistic_bot⟩
  | top => exact ⟨1, Ideal.logistic_top⟩
  | coe r => exact ⟨_, Ideal.logistic_coe (r := r)⟩

/-- The logarithm of one plus an exponential is a real. -/
theorem Re.log1p_exp {x : EReal} : Re x → Re (Ideal.log1p (Ideal.exp x)) := fun ⟨a, ha⟩ =>
  ⟨Real.log (1 + Real.exp a), by
    have h : ¬ (1 + Real.exp a ≤ 0) := not_le.mpr (by positivity)
    rw [ha, Ideal.exp_coe]
    unfold Ideal.log1p
    rw [← EReal.coe_one, ← EReal.coe_add, Ideal.log_coe, if_neg h]⟩

/-- A sum of reals is the sum, taken in the reals. -/
theorem sum_coe {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- So is a finite sum. -/
theorem Re.sum {ι : Type} (s : Finset ι) {f : ι → EReal} (h : ∀ i, Re (f i)) : Re (∑ i ∈ s, f i) := by
  choose g hg using h
  exact ⟨∑ i ∈ s, g i, by rw [← sum_coe]; exact Finset.sum_congr rfl fun i _ => hg i⟩

/-- A row of reals over its norm is a row of reals. -/
theorem Re.unitRow {a : Fin 128 → EReal} (h : ∀ i, Re (a i)) (j : Fin 128) : Re (unitRow a j) := by
  choose g hg using h
  unfold Cert.DeltaStepVal.unitRow
  refine (Re.mul ⟨g j, hg j⟩ ?_)
  have e : ∑ r : Fin 128, a r * a r = ((∑ r : Fin 128, g r * g r : ℝ) : EReal) := by
    rw [← sum_coe]
    exact Finset.sum_congr rfl fun i _ => by rw [hg i, EReal.coe_mul]
  have hp : 0 ≤ ∑ r : Fin 128, g r * g r := Finset.sum_nonneg fun i _ => mul_self_nonneg _
  obtain ⟨p, hp0, hp1⟩ : ∃ p : ℝ, 0 < p ∧ Ideal.ofBits FTy.f32 0x358637BD#32 = (p : EReal) := by
    refine ⟨_, ?_, by simp [Ideal.ofBits, Ideal.ieee, -EReal.coe_mul]; rfl⟩
    norm_num
  rw [e, hp1, ← EReal.coe_add, Ideal.rsqrt_coe, if_neg (by linarith), if_neg (by linarith)]
  exact ⟨_, rfl⟩

/-- The next state, in the chunked form's order of operations. -/
theorem headS_eq {k v : Fin 128 → EReal} {g b : EReal} {s : Fin 128 → Fin 128 → EReal} (hk : ∀ i, Re (k i)) (hv : ∀ i, Re (v i))
    (hg : Re g) (hb : Re b) (hs : ∀ i j, Re (s i j)) (r c : Fin 128) :
    headS k v g b s r c = s r c * Ideal.exp g + k r * Ideal.exp (g - g) * (v c * b - ∑ x : Fin 128, k x * b * Ideal.exp g * s x c) := by
  choose k' hk using hk
  choose v' hv using hv
  choose s' hs using hs
  obtain ⟨g', rfl⟩ := hg
  obtain ⟨b', rfl⟩ := hb
  unfold headS
  simp only [hk, hv, hs, ← EReal.coe_sub, sub_self, Ideal.exp_coe, Real.exp_zero, ← EReal.coe_mul, sum_coe, ← EReal.coe_add, mul_one, EReal.coe_eq_coe_iff]
  rw [sub_mul, Finset.sum_mul]
  congr 3
  refine Finset.sum_congr rfl fun j _ => ?_
  ring

/-- The output, in the chunked form's order of operations. -/
theorem headO_eq {q k v : Fin 128 → EReal} {g b : EReal} {s : Fin 128 → Fin 128 → EReal} (hq : ∀ i, Re (q i)) (hk : ∀ i, Re (k i)) (hv : ∀ i, Re (v i))
    (hg : Re g) (hb : Re b) (hs : ∀ i j, Re (s i j)) (c : Fin 128) :
    headO q k v g b s c = ∑ x : Fin 128, q x * Ideal.exp g * s x c
      + (∑ x : Fin 128, q x * k x) * Ideal.exp (min (g - g) 0) * (v c * b - ∑ x : Fin 128, k x * b * Ideal.exp g * s x c) := by
  have e : min (g - g) 0 = g - g := by
    obtain ⟨g', rfl⟩ := hg
    rw [← EReal.coe_sub, sub_self]
    exact min_self _
  unfold headO
  simp only [headS_eq hk hv hg hb hs]
  rw [e]
  choose q' hq using hq
  choose k' hk using hk
  choose v' hv using hv
  choose s' hs using hs
  obtain ⟨g', rfl⟩ := hg
  obtain ⟨b', rfl⟩ := hb
  simp only [hq, hk, hv, hs, ← EReal.coe_sub, sub_self, Ideal.exp_coe, Real.exp_zero, ← EReal.coe_mul, sum_coe, ← EReal.coe_add, mul_one, EReal.coe_eq_coe_iff]
  rw [Finset.sum_mul, ← Finset.sum_add_distrib]
  refine Finset.sum_congr rfl fun j _ => ?_
  ring

end Cert.DeltaStepVal

end
-- ==== Proof.DeltaStepPre.lean ====
/- One step of the gated delta rule: the precondition read back, an array at a time, as "every element is a real". -/
module

public import proofs.«01_k».proof.Proof.DeltaStepMath
public import proofs.«01_k».proof.Defs
public import Idealize.ShloMosaic.Lib.ReduceAll

@[expose] public section

set_option maxRecDepth 16384

noncomputable section

namespace Cert.DeltaStepVal
open Idealize.ShloMosaic Idealize.ShloMosaic.TcCoe Idealize.SL.Sem

/-- An extended real below infinity in absolute value is a real. -/
theorem Re.of_abs_lt {x : EReal} (h : Max.max x (-x) < ⊤) : Re x := by
  induction x with
  | bot => exact absurd h (by simp)
  | top => exact absurd h (by simp)
  | coe r => exact ⟨r, rfl⟩

/-- The pattern of plus infinity. -/
theorem ofBits_inf : Ideal.ofBits FTy.f32 0x7F800000#32 = ⊤ := by
  simp [Ideal.ofBits, Ideal.ieee]

/-- An element's test for finiteness, passed. -/
theorem Re.of_test {s : Shape} (x : FVec Ideal s .f32) (i : s.Idx)
    (h : cmpf .olt (Host.absf x) (fun _ => Ideal.ofBits FTy.f32 0x7F800000#32 : FVec Ideal s .f32) i = 1#1) : Re (x i) := by
  have e : BitVec.ofBool (decide (Max.max (x i) (-(x i)) < Ideal.ofBits FTy.f32 0x7F800000#32)) = 1#1 := h
  rw [ofBits_inf] at e
  refine Re.of_abs_lt ?_
  by_contra hn
  rw [decide_eq_false hn] at e
  exact absurd e (by decide)

/-- An array without axes has one index. -/
instance : Subsingleton Cert.Pre_finite_step.S_.Idx := ⟨fun a b => funext fun i => i.elim0⟩

variable [Cert.Pre_finite_step.Facts]

/-- The precondition's arrays are arrays of reals. -/
theorem pre_re (x0 : FVec Ideal Cert.Pre_finite_step.S32x1x6144 .f32) (x1 : FVec Ideal Cert.Pre_finite_step.S32x1x2048 .f32)
    (x2 x3 : FVec Ideal Cert.Pre_finite_step.S32x1x16 .f32) (x4 : FVec Ideal Cert.Pre_finite_step.S32x3x6144 .f32)
    (x5 : FVec Ideal Cert.Pre_finite_step.S32x16x128x128 .f32) (x6 : FVec Ideal Cert.Pre_finite_step.S4x6144 .f32)
    (x7 x8 : FVec Ideal Cert.Pre_finite_step.S1x16 .f32) (x9 : FVec Ideal Cert.Pre_finite_step.S1x128 .f32) (j : Cert.Pre_finite_step.S_.Idx)
    (h : Cert.Pre_finite_step.fn x0 x1 x2 x3 x4 x5 x6 x7 x8 x9 j = 1#1) :
    (∀ i, Re (x0 i)) ∧ (∀ i, Re (x2 i)) ∧ (∀ i, Re (x4 i)) ∧ (∀ i, Re (x5 i)) ∧ (∀ i, Re (x6 i)) ∧ (∀ i, Re (x7 i)) ∧ (∀ i, Re (x8 i)) := by
  dsimp only [Cert.Pre_finite_step.fn, Cert.Pre_finite_step.fn_part1] at h
  simp only [andi, IntOp.andi_eq_one] at h
  obtain ⟨⟨⟨⟨⟨⟨h0, h2⟩, h4⟩, h5⟩, h6⟩, h7⟩, h8⟩ := h
  refine ⟨fun i => ?_, fun i => ?_, fun i => ?_, fun i => ?_, fun i => ?_, fun i => ?_, fun i => ?_⟩
  · exact Re.of_test _ i (Host.reduce_andi_all _ _ _ _ _ h0 i)
  · exact Re.of_test _ i (Host.reduce_andi_all _ _ _ _ _ h2 i)
  · exact Re.of_test _ i (Host.reduce_andi_all _ _ _ _ _ h4 i)
  · exact Re.of_test _ i (Host.reduce_andi_all _ _ _ _ _ h5 i)
  · exact Re.of_test _ i (Host.reduce_andi_all _ _ _ _ _ h6 i)
  · exact Re.of_test _ i (Host.reduce_andi_all _ _ _ _ _ h7 i)
  · exact Re.of_test _ i (Host.reduce_andi_all _ _ _ _ _ h8 i)

end Cert.DeltaStepVal

end
-- ==== Proof.DeltaStepRefV.lean ====
/- One step of the gated delta rule: what the reference's arrays hold at an index, in its arguments. -/
module
public import proofs.«01_k».proof.Proof.Gen.DeltaStepRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.DeltaStepRefVal
open Idealize.ShloMosaic Idealize.ShloMosaic.TcCoe Idealize.SL.Sem
open Cert.DeltaStepRefIdeal Cert.DeltaStepRefIdeal.Read

variable (x0 : (⟨S32x1x6144, .f32⟩ : BufTy).Contents (Elt Ideal)) (x1 : (⟨S32x1x2048, .f32⟩ : BufTy).Contents (Elt Ideal)) (x2 x3 : (⟨S32x1x16, .f32⟩ : BufTy).Contents (Elt Ideal))
  (x4 : (⟨S32x3x6144, .f32⟩ : BufTy).Contents (Elt Ideal)) (x5 : (⟨S32x16x128x128, .f32⟩ : BufTy).Contents (Elt Ideal))
  (x6 : (⟨S4x6144, .f32⟩ : BufTy).Contents (Elt Ideal)) (x7 x8 : (⟨S1x16, .f32⟩ : BufTy).Contents (Elt Ideal)) (x9 : (⟨S1x128, .f32⟩ : BufTy).Contents (Elt Ideal))

/-- The convolution of a channel. -/
def conv (x0 : Fin 32 → Fin 6144 → EReal) (x4 : Fin 32 → Fin 3 → Fin 6144 → EReal) (w : Fin 4 → Fin 6144 → EReal) (b : Fin 32) (r : Fin 6144) : EReal :=
  0 + x4 b 0 r * w 0 r + x4 b 1 r * w 1 r + x4 b 2 r * w 2 r + x0 b r * w 3 r

/-- The reference's convolution at a channel. -/
theorem s29 (b : Fin 32) (z : Fin 1) (r : Fin 6144) : val_main_v29 x0 x4 x6 (ix3 b z r)
    = conv (fun b r => x0 (ix3 b 0 r)) (fun b t r => x4 (ix3 b t r)) (fun t r => x6 (ix2 t r)) b r := by
  unfold val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst conv
  pointwise

/-- Its activation: a channel times its logistic. -/
theorem s37 (i : S32x1x6144.Idx) : val_main_v37 x0 x4 x6 i = val_main_v29 x0 x4 x6 i * Ideal.logistic (val_main_v29 x0 x4 x6 i) := by
  unfold val_main_v37 val_main_v36 val_main_v35 val_main_v34 val_main_v33 val_main_v32 val_main_v31 val_main_cst_0 val_main_cst_1
  generalize val_main_v29 x0 x4 x6 = u
  pointwise
  rfl

/-- The queries are the first 2048 activated channels. -/
theorem s39 (b : Fin 32) (z : Fin 1) (h : Fin 16) (j : Fin 128) : val_main_v39 x0 x4 x6 (ix4 b z h j)
    = val_main_v37 x0 x4 x6 (ix3 b 0 ⟨0 + (h.val * 128 + j.val), by omega⟩) := by
  unfold val_main_v39 val_main_v38
  generalize val_main_v37 x0 x4 x6 = u
  pointwise
  try simp only [Nat.zero_add]

/-- The keys are the next 2048. -/
theorem s41 (b : Fin 32) (z : Fin 1) (h : Fin 16) (j : Fin 128) : val_main_v41 x0 x4 x6 (ix4 b z h j)
    = val_main_v37 x0 x4 x6 (ix3 b 0 ⟨2048 + (h.val * 128 + j.val), by omega⟩) := by
  unfold val_main_v41 val_main_v40
  generalize val_main_v37 x0 x4 x6 = u
  pointwise
  try simp only [Nat.zero_add]

/-- The values are the last 2048. -/
theorem s43 (b : Fin 32) (z : Fin 1) (h : Fin 16) (j : Fin 128) : val_main_v43 x0 x4 x6 (ix4 b z h j)
    = val_main_v37 x0 x4 x6 (ix3 b 0 ⟨4096 + (h.val * 128 + j.val), by omega⟩) := by
  unfold val_main_v43 val_main_v42
  generalize val_main_v37 x0 x4 x6 = u
  pointwise
  try simp only [Nat.zero_add]

/-- A query over its length, times the scale. -/
theorem s53 (b : Fin 32) (z : Fin 1) (h : Fin 16) (j : Fin 128) : val_main_v53 x0 x4 x6 (ix4 b z h j)
    = val_main_v39 x0 x4 x6 (ix4 b 0 h j) * Ideal.rsqrt (∑ r : Fin 128, val_main_v39 x0 x4 x6 (ix4 b 0 h r) * val_main_v39 x0 x4 x6 (ix4 b 0 h r) + Ideal.ofBits FTy.f32 0x358637BD#32)
        * Ideal.ofBits FTy.f32 0x3DB504F3#32 := by
  obtain rfl := Subsingleton.elim z 0
  unfold val_main_v53 val_main_v52 val_main_v51 val_main_v50 val_main_v49 val_main_v48 val_main_v47 val_main_v46 val_main_v45 val_main_v44 val_main_cst_2 val_main_cst_3 val_main_cst_4
  generalize val_main_v39 x0 x4 x6 = u
  pointwise
  try rfl

/-- A key over its length. -/
theorem s61 (b : Fin 32) (z : Fin 1) (h : Fin 16) (j : Fin 128) : val_main_v61 x0 x4 x6 (ix4 b z h j)
    = val_main_v41 x0 x4 x6 (ix4 b 0 h j) * Ideal.rsqrt (∑ r : Fin 128, val_main_v41 x0 x4 x6 (ix4 b 0 h r) * val_main_v41 x0 x4 x6 (ix4 b 0 h r) + Ideal.ofBits FTy.f32 0x358637BD#32) := by
  obtain rfl := Subsingleton.elim z 0
  unfold val_main_v61 val_main_v60 val_main_v59 val_main_v58 val_main_v57 val_main_v56 val_main_v55 val_main_v54 val_main_cst_5 val_main_cst_6
  generalize val_main_v41 x0 x4 x6 = u
  pointwise
  try rfl

/-- The weight of the update is the logistic of its logit. -/
theorem s67 (i : S32x1x16.Idx) : val_main_v67 x3 i = Ideal.logistic (x3 i) := by
  unfold val_main_v67 val_main_v66 val_main_v65 val_main_v64 val_main_v63 val_main_v62 val_main_cst_7 val_main_cst_8
  pointwise
  try rfl

/-- The logarithm of the decay: minus the exponential of the rate, times the softplus of the shifted input. -/
theorem s78 (b : Fin 32) (z : Fin 1) (h : Fin 16) : val_main_v78 x2 x7 x8 (ix3 b z h)
    = -Ideal.exp (x7 (ix2 0 h)) * (max (x2 (ix3 b 0 h) + x8 (ix2 0 h)) 0 + Ideal.log1p (Ideal.exp (-FloatOps.absf (F := Ideal) (φ := .f32) (x2 (ix3 b 0 h) + x8 (ix2 0 h))))) := by
  obtain rfl := Subsingleton.elim z 0
  simp only [val_main_v78, val_main_v77, val_main_v76, val_main_v75, val_main_v74, val_main_v73, val_main_v72, val_main_v71, val_main_v70, val_main_v69, val_main_v68, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst]
  pointwise
  rw [if_neg (not_not.mpr rfl)]

/-- Its running sum over a chunk of one token is itself. -/
theorem s84 (b : Fin 32) (h : Fin 16) (z : Fin 1) : val_main_v84 x2 x7 x8 (ix3 b h z) = val_main_v78 x2 x7 x8 (ix3 b 0 h) := by
  obtain rfl := Subsingleton.elim z 0
  unfold val_main_v84 val_main_v82 val_main_call1_call0_v0 val_main_call1_call0_cst
  generalize val_main_v78 x2 x7 x8 = u
  have e : List.finRange (Shape.numel ⟨S32x16x1.rank, ![1, 1, 1]⟩) = [⟨0, by decide⟩] := by decide
  simp only [Host.reduceWindowAdd, Ideal.hostReduceWindowAdd_def, Ideal.hostReduceWindowAdd, Host.reduceWindow]
  erw [e]
  simp only [List.foldl_cons, List.foldl_nil]
  have hz : ∀ a : Fin 3, (((⟨3, ![1, 1, 1]⟩ : Shape).rowMajor.symm ⟨0, by decide⟩) a).val = 0 := by decide
  rw [dif_pos (by
    intro a
    rw [hz a]
    match a with
    | ⟨0, _⟩ => exact ⟨by simp, by show b.val * 1 + 0 - 0 < 32; omega⟩
    | ⟨1, _⟩ => exact ⟨by simp, by show h.val * 1 + 0 - 0 < 16; omega⟩
    | ⟨2, _⟩ => exact ⟨by simp, by show 0 * 1 + 0 - 0 < 1; omega⟩)]
  refine (congrArg₂ (· + ·) (?_ : _ = (0 : EReal)) (congrArg (transpose S32x16x1 [0, 2, 1] u Gen.transposes_S32x1x16_S32x16x1_0_2_1) (?_ : _ = ix3 b h 0))).trans ?_
  · pointwise
  · funext a
    refine Fin.ext ?_
    show _ * _ + _ - _ = _
    rw [hz a]
    match a with
    | ⟨0, _⟩ => show b.val * 1 + 0 - 0 = b.val; omega
    | ⟨1, _⟩ => show h.val * 1 + 0 - 0 = h.val; omega
    | ⟨2, _⟩ => rfl
  · show (0 : EReal) + _ = _
    rw [zero_add]
    pointwise

/-- The decay inside the chunk of one token. -/
theorem s95 (b : Fin 32) (h : Fin 16) (z y : Fin 1) : val_main_v95 x2 x7 x8 (ix4 b h z y)
    = Ideal.exp (min (val_main_v84 x2 x7 x8 (ix3 b h 0) - val_main_v84 x2 x7 x8 (ix3 b h 0)) 0) := by
  obtain rfl := Subsingleton.elim z 0
  obtain rfl := Subsingleton.elim y 0
  unfold val_main_v95 val_main_call4_v2 val_main_call4_v1 val_main_call4_v0 val_main_v94 val_main_v93 val_main_v92 val_main_v91 val_main_v90 val_main_v89 val_main_v86 val_main_v85 val_main_cst_11 val_main_cst_10 val_main_call2_v5 val_main_call2_v4 val_main_call2_v3 val_main_call2_v2 val_main_call2_v1 val_main_call2_v0 val_main_call2_c val_main_call2_c_0 val_main_c
  generalize val_main_v84 x2 x7 x8 = u
  pointwise
  rfl

/-- What the update writes: the weighted value, less what the decayed state holds at the weighted key. -/
theorem s116 (b : Fin 32) (h : Fin 16) (z : Fin 1) (j : Fin 128) : val_main_v116 x0 x2 x3 x4 x5 x6 x7 x8 (ix4 b h z j)
    = val_main_v43 x0 x4 x6 (ix4 b 0 h j) * val_main_v67 x3 (ix3 b 0 h) -
      ∑ x : Fin 128, val_main_v61 x0 x4 x6 (ix4 b 0 h x) * val_main_v67 x3 (ix3 b 0 h) * Ideal.exp (val_main_v84 x2 x7 x8 (ix3 b h 0)) * x5 (ix4 b h x j) := by
  unfold val_main_v116 val_main_v115 val_main_v112 val_main_v111 val_main_v110 val_main_v109 val_main_v108 val_main_v107 val_main_v106 val_main_v105 val_main_v104 val_main_v103 val_main_v102 val_main_v98 val_main_v97 val_main_v96 val_main_v81 val_main_v80 val_main_v83
  generalize val_main_v61 x0 x4 x6 = k
  generalize val_main_v43 x0 x4 x6 = v
  generalize val_main_v67 x3 = be
  generalize val_main_v84 x2 x7 x8 = g
  pointwise

/-- What the query reads: from the decayed state, and from what the update writes. -/
theorem s123 (b : Fin 32) (h : Fin 16) (z : Fin 1) (j : Fin 128) : val_main_v123 x0 x2 x3 x4 x5 x6 x7 x8 (ix4 b h z j)
    = ∑ x : Fin 128, val_main_v53 x0 x4 x6 (ix4 b 0 h x) * Ideal.exp (val_main_v84 x2 x7 x8 (ix3 b h 0)) * x5 (ix4 b h x j)
      + (∑ x : Fin 128, val_main_v53 x0 x4 x6 (ix4 b 0 h x) * val_main_v61 x0 x4 x6 (ix4 b 0 h x)) * val_main_v95 x2 x7 x8 (ix4 b h 0 0)
        * val_main_v116 x0 x2 x3 x4 x5 x6 x7 x8 (ix4 b h 0 j) := by
  obtain rfl := Subsingleton.elim z 0
  unfold val_main_v123 val_main_v122 val_main_v121 val_main_v120 val_main_v119 val_main_v118 val_main_v117 val_main_v114 val_main_v113 val_main_v80 val_main_v79
  generalize val_main_v61 x0 x4 x6 = k
  generalize val_main_v53 x0 x4 x6 = q
  generalize val_main_v116 x0 x2 x3 x4 x5 x6 x7 x8 = v
  generalize val_main_v95 x2 x7 x8 = d
  generalize val_main_v84 x2 x7 x8 = g
  pointwise
  congr 1
  exact Fin.sum_univ_one _

/-- The state after the step: decayed, and the update added at the key. -/
theorem s134 (b : Fin 32) (h : Fin 16) (r c : Fin 128) : val_main_v134 x0 x2 x3 x4 x5 x6 x7 x8 (ix4 b h r c)
    = x5 (ix4 b h r c) * Ideal.exp (val_main_v84 x2 x7 x8 (ix3 b h 0)) +
      val_main_v61 x0 x4 x6 (ix4 b 0 h r) * Ideal.exp (val_main_v84 x2 x7 x8 (ix3 b h 0) - val_main_v84 x2 x7 x8 (ix3 b h 0))
        * val_main_v116 x0 x2 x3 x4 x5 x6 x7 x8 (ix4 b h 0 c) := by
  unfold val_main_v134 val_main_v133 val_main_v132 val_main_v131 val_main_v130 val_main_v129 val_main_v128 val_main_v127 val_main_v126 val_main_v125 val_main_v124 val_main_v80
  generalize val_main_v61 x0 x4 x6 = k
  generalize val_main_v116 x0 x2 x3 x4 x5 x6 x7 x8 = v
  generalize val_main_v84 x2 x7 x8 = g
  pointwise
  congr 1
  exact Fin.sum_univ_one _

/-- The first result: the reading, normed over its head, times its gain and its activated gate. -/
theorem s159 (b : Fin 32) (h : Fin 16) (j : Fin 128) : val_main_v159 x0 x1 x2 x3 x4 x5 x6 x7 x8 x9 (ix3 b h j)
    = val_main_v123 x0 x2 x3 x4 x5 x6 x7 x8 (ix4 b h 0 j) * Ideal.rsqrt (Ideal.div
        (∑ r : Fin 128, val_main_v123 x0 x2 x3 x4 x5 x6 x7 x8 (ix4 b h 0 r) * val_main_v123 x0 x2 x3 x4 x5 x6 x7 x8 (ix4 b h 0 r))
          (Ideal.ofBits FTy.f32 0x43000000#32) + Ideal.ofBits FTy.f32 0x358637BD#32) * x9 (ix2 0 j)
      * (x1 (ix3 b 0 ⟨h.val * 128 + j.val, by omega⟩) * Ideal.logistic (x1 (ix3 b 0 ⟨h.val * 128 + j.val, by omega⟩))) := by
  unfold val_main_v159 val_main_v158 val_main_v157 val_main_v156 val_main_v155 val_main_v154 val_main_v153 val_main_v152 val_main_v151 val_main_v150 val_main_v149 val_main_v148 val_main_v147 val_main_v146 val_main_v145 val_main_v144 val_main_v143 val_main_v142 val_main_v141 val_main_v140 val_main_v139 val_main_v138 val_main_v137 val_main_v136 val_main_v135 val_main_cst_13 val_main_cst_14 val_main_cst_15 val_main_cst_16 val_main_cst_17
  generalize val_main_v123 x0 x2 x3 x4 x5 x6 x7 x8 = o
  pointwise
  rfl

/-- The second result: the window moved on by one token. -/
theorem s160 (b : Fin 32) (t : Fin 3) (h : Fin 48) (j : Fin 128) : val_main_v160 x0 x4 (ix4 b t h j)
    = if h' : 1 + t.val < 3 then x4 (ix3 b ⟨1 + t.val, by omega⟩ ⟨h.val * 128 + j.val, by omega⟩)
      else x0 (ix3 b ⟨1 + t.val - 3, by omega⟩ ⟨h.val * 128 + j.val, by omega⟩) := by
  unfold val_main_v160 val_main_v30 val_main_v0
  pointwise

end Cert.DeltaStepRefVal

end
-- ==== Proof.DeltaStepVal.lean ====
/- One step of the gated delta rule: the kernel's three arrays are the reference's, on finite arrays. -/
module

public import proofs.«01_k».proof.Proof.DeltaStepBlocks
public import proofs.«01_k».proof.Proof.DeltaStepMath
public import proofs.«01_k».proof.Proof.DeltaStepPre
public import proofs.«01_k».proof.Proof.DeltaStepRefV
public import proofs.«01_k».proof.Proof.Gen.DeltaStepRefIdeal.Run

@[expose] public section

set_option maxRecDepth 16384

noncomputable section

namespace Cert.DeltaStepVal
open Idealize.ShloMosaic Idealize.ShloMosaic.TcCoe Idealize.SL.Sem
open Cert.DeltaStepIdeal Cert.DeltaStepIdeal.Gen Cert.DeltaStepRefVal
open Cert.DeltaStepRefIdeal.Read (val_main_v29 val_main_v37 val_main_v39 val_main_v41 val_main_v43 val_main_v53 val_main_v61 val_main_v67 val_main_v78 val_main_v84 val_main_v95 val_main_v116 val_main_v123 val_main_v134 val_main_v159 val_main_v160)

variable (m : (ℓ : Loc nD τ sig) → Buf (Elt Ideal) ℓ) (c : Dev nD)

/-- The convolved row of a block is the reference's, the channels in the heads' order. -/
theorem actB_eq (t : Fin cfg0.N) (i : Fin 48) (j : Fin 128) : actB (iblk m c 0 t) (iblk m c 1 t) (iblk m c 2 t) i j
    = val_main_v37 (F := Ideal) (m ((c : Thread nD τ).loc main_arg0)) (m ((c : Thread nD τ).loc main_arg4)) (m ((c : Thread nD τ).loc main_arg6))
        (ix3 (seq t) 0 ⟨i.val * 128 + j.val, by omega⟩) := by
  rw [s37, s29]
  unfold actB conv
  simp only [b0, b1, b2]
  have e : ∀ p q r s : EReal, p + q + r + s = 0 + q + r + s + p := fun p q r s => by rw [zero_add]; ac_rfl
  rw [e]

/-- Equal rows have equal unit rows. -/
theorem unitRow_congr {a b : Fin 128 → EReal} (h : ∀ j, a j = b j) (r : Fin 128) : unitRow a r = unitRow b r := by
  rw [show a = b from funext h]

/-- The values. -/
theorem v_eq (t : Fin cfg0.N) (i : Fin 16) (j : Fin 128) :
    k0_pay91 (iblk m c 0 t) (iblk m c 1 t) (iblk m c 2 t) (iblk m c 3 t) (iblk m c 4 t) (iblk m c 5 t) (iblk m c 6 t) (iblk m c 7 t) (iblk m c 8 t) (ix2 i j)
    = val_main_v43 (F := Ideal) (m ((c : Thread nD τ).loc main_arg0)) (m ((c : Thread nD τ).loc main_arg4)) (m ((c : Thread nD τ).loc main_arg6)) (ix4 (seq t) 0 i j) := by
  rw [pay91_apply, actB_eq, s43]
  congr 2
  exact Fin.ext (by show (32 + i.val) * 128 + j.val = 4096 + (i.val * 128 + j.val); omega)

/-- The keys. -/
theorem k_eq (t : Fin cfg0.N) (i : Fin 16) (r : Fin 128) :
    k0_pay95 (iblk m c 0 t) (iblk m c 1 t) (iblk m c 2 t) (iblk m c 3 t) (iblk m c 4 t) (iblk m c 5 t) (iblk m c 6 t) (iblk m c 7 t) (iblk m c 8 t) (ix2 r (lane i))
    = val_main_v61 (F := Ideal) (m ((c : Thread nD τ).loc main_arg0)) (m ((c : Thread nD τ).loc main_arg4)) (m ((c : Thread nD τ).loc main_arg6)) (ix4 (seq t) 0 i r) := by
  rw [pay95_apply, s61]
  refine unitRow_congr (b := fun j => val_main_v41 (F := Ideal) (m ((c : Thread nD τ).loc main_arg0)) (m ((c : Thread nD τ).loc main_arg4)) (m ((c : Thread nD τ).loc main_arg6)) (ix4 (seq t) 0 i j)) (fun j => ?_) r
  rw [actB_eq, s41]
  congr 2
  exact Fin.ext (by show (16 + i.val) * 128 + j.val = 2048 + (i.val * 128 + j.val); omega)

/-- The queries. -/
theorem q_eq (t : Fin cfg0.N) (i : Fin 16) (r : Fin 128) :
    k0_pay96 (iblk m c 0 t) (iblk m c 1 t) (iblk m c 2 t) (iblk m c 3 t) (iblk m c 4 t) (iblk m c 5 t) (iblk m c 6 t) (iblk m c 7 t) (iblk m c 8 t) (ix2 r (lane i))
    = val_main_v53 (F := Ideal) (m ((c : Thread nD τ).loc main_arg0)) (m ((c : Thread nD τ).loc main_arg4)) (m ((c : Thread nD τ).loc main_arg6)) (ix4 (seq t) 0 i r) := by
  rw [pay96_apply, s53]
  refine congrArg (· * _) (unitRow_congr (b := fun j => val_main_v39 (F := Ideal) (m ((c : Thread nD τ).loc main_arg0)) (m ((c : Thread nD τ).loc main_arg4)) (m ((c : Thread nD τ).loc main_arg6)) (ix4 (seq t) 0 i j)) (fun j => ?_) r)
  rw [actB_eq, s39]
  congr 2
  exact Fin.ext (by show i.val * 128 + j.val = 0 + (i.val * 128 + j.val); omega)

/-- The writing strength. -/
theorem beta_eq (t : Fin cfg0.N) (i : Fin 16) :
    k0_pay93 (iblk m c 0 t) (iblk m c 1 t) (iblk m c 2 t) (iblk m c 3 t) (iblk m c 4 t) (iblk m c 5 t) (iblk m c 6 t) (iblk m c 7 t) (iblk m c 8 t) (ix2 0 (lane16 i))
    = val_main_v67 (F := Ideal) (m ((c : Thread nD τ).loc main_arg3)) (ix3 (seq t) 0 i) := by
  rw [pay93_apply, b4b, s67]

/-- The decay's logarithm. -/
theorem g_eq (t : Fin cfg0.N) (i : Fin 16) :
    k0_pay92 (iblk m c 0 t) (iblk m c 1 t) (iblk m c 2 t) (iblk m c 3 t) (iblk m c 4 t) (iblk m c 5 t) (iblk m c 6 t) (iblk m c 7 t) (iblk m c 8 t) (ix2 0 (lane i))
    = val_main_v84 (F := Ideal) (m ((c : Thread nD τ).loc main_arg2)) (m ((c : Thread nD τ).loc main_arg7)) (m ((c : Thread nD τ).loc main_arg8)) (ix3 (seq t) i 0) := by
  rw [pay92_apply, b4a, b5, b6, s84, s78, zero_sub, zero_sub]

/-- The arrays are arrays of reals, but for those the step is linear in or squashes. -/
structure Finite : Prop where
  a0 : ∀ i, Re (m ((c : Thread nD τ).loc main_arg0) i)
  a2 : ∀ i, Re (m ((c : Thread nD τ).loc main_arg2) i)
  a4 : ∀ i, Re (m ((c : Thread nD τ).loc main_arg4) i)
  a5 : ∀ i, Re (m ((c : Thread nD τ).loc main_arg5) i)
  a6 : ∀ i, Re (m ((c : Thread nD τ).loc main_arg6) i)
  a7 : ∀ i, Re (m ((c : Thread nD τ).loc main_arg7) i)
  a8 : ∀ i, Re (m ((c : Thread nD τ).loc main_arg8) i)

variable {m c}

/-- A convolved channel is a real. -/
theorem Finite.act (f : Finite m c) (t : Fin cfg0.N) (i : Fin 48) (j : Fin 128) : Re (actB (iblk m c 0 t) (iblk m c 1 t) (iblk m c 2 t) i j) := by
  unfold actB
  simp only [b0, b1, b2]
  exact (((((f.a0 _).mul (f.a6 _)).add ((f.a4 _).mul (f.a6 _))).add ((f.a4 _).mul (f.a6 _))).add ((f.a4 _).mul (f.a6 _))).mul (Re.logistic _)

/-- A value is a real. -/
theorem Finite.v (f : Finite m c) (t : Fin cfg0.N) (i : Fin 16) (j : Fin 128) :
    Re (val_main_v43 (F := Ideal) (m ((c : Thread nD τ).loc main_arg0)) (m ((c : Thread nD τ).loc main_arg4)) (m ((c : Thread nD τ).loc main_arg6)) (ix4 (seq t) 0 i j)) := by
  rw [← v_eq, pay91_apply]
  exact f.act t _ j

/-- An entry of a unit key is a real. -/
theorem Finite.k (f : Finite m c) (t : Fin cfg0.N) (i : Fin 16) (r : Fin 128) :
    Re (val_main_v61 (F := Ideal) (m ((c : Thread nD τ).loc main_arg0)) (m ((c : Thread nD τ).loc main_arg4)) (m ((c : Thread nD τ).loc main_arg6)) (ix4 (seq t) 0 i r)) := by
  rw [← k_eq, pay95_apply]
  exact Re.unitRow (f.act t _) r

/-- An entry of a scaled unit query is a real. -/
theorem Finite.q (f : Finite m c) (t : Fin cfg0.N) (i : Fin 16) (r : Fin 128) :
    Re (val_main_v53 (F := Ideal) (m ((c : Thread nD τ).loc main_arg0)) (m ((c : Thread nD τ).loc main_arg4)) (m ((c : Thread nD τ).loc main_arg6)) (ix4 (seq t) 0 i r)) := by
  rw [← q_eq, pay96_apply]
  have hc : ∃ p : ℝ, Ideal.ofBits FTy.f32 0x3DB504F3#32 = (p : EReal) := ⟨_, by simp [Ideal.ofBits, Ideal.ieee, -EReal.coe_mul]; rfl⟩
  exact (Re.unitRow (f.act t _) r).mul hc

/-- The update's weight is a real. -/
theorem Finite.beta (i : S32x1x16.Idx) : Re (val_main_v67 (F := Ideal) (m ((c : Thread nD τ).loc main_arg3)) i) := by
  rw [s67]
  exact Re.logistic _

/-- The decay's logarithm is a real. -/
theorem Finite.g (f : Finite m c) (b : Fin 32) (i : Fin 16) :
    Re (val_main_v84 (F := Ideal) (m ((c : Thread nD τ).loc main_arg2)) (m ((c : Thread nD τ).loc main_arg7)) (m ((c : Thread nD τ).loc main_arg8)) (ix3 b i 0)) := by
  rw [s84, s78]
  have h := (f.a2 (ix3 b 0 i)).add (f.a8 (ix2 0 i))
  exact (f.a7 _).exp.neg.mul ((h.max Re.zero).add (Re.log1p_exp (Re.neg (h.max h.neg))))

/-- The state's block is the reference's. -/
theorem state_eq (f : Finite m c) (t : Fin cfg0.N) (a : Fin 1) (i : Fin 16) (r q : Fin 128) :
    out0_11 (iblk m c 0 t) (iblk m c 1 t) (iblk m c 2 t) (iblk m c 3 t) (iblk m c 4 t) (iblk m c 5 t) (iblk m c 6 t) (iblk m c 7 t) (iblk m c 8 t) (ix4 a i r q)
    = val_main_v134 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix4 (seq t) i r q) := by
  rw [out11_apply _ _ _ _ _ _ _ _ _ _ _ _ _ rfl rfl rfl rfl, s134, s116]
  simp only [v_eq, k_eq, beta_eq, g_eq, b8]
  exact headS_eq (f.k t i) (f.v t i) (f.g _ i) (Finite.beta _) (fun _ _ => f.a5 _) r q

/-- The head's output, before it is gated, is the reference's. -/
theorem o_eq (f : Finite m c) (t : Fin cfg0.N) (i : Fin 16) (q : Fin 128) :
    headO (fun r => val_main_v53 (F := Ideal) (m ((c : Thread nD τ).loc main_arg0)) (m ((c : Thread nD τ).loc main_arg4)) (m ((c : Thread nD τ).loc main_arg6)) (ix4 (seq t) 0 i r))
      (fun r => val_main_v61 (F := Ideal) (m ((c : Thread nD τ).loc main_arg0)) (m ((c : Thread nD τ).loc main_arg4)) (m ((c : Thread nD τ).loc main_arg6)) (ix4 (seq t) 0 i r))
      (fun r => val_main_v43 (F := Ideal) (m ((c : Thread nD τ).loc main_arg0)) (m ((c : Thread nD τ).loc main_arg4)) (m ((c : Thread nD τ).loc main_arg6)) (ix4 (seq t) 0 i r))
      (val_main_v84 (F := Ideal) (m ((c : Thread nD τ).loc main_arg2)) (m ((c : Thread nD τ).loc main_arg7)) (m ((c : Thread nD τ).loc main_arg8)) (ix3 (seq t) i 0))
      (val_main_v67 (F := Ideal) (m ((c : Thread nD τ).loc main_arg3)) (ix3 (seq t) 0 i))
      (fun r q => m ((c : Thread nD τ).loc main_arg5) (ix4 (seq t) i r q)) q
    = val_main_v123 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix4 (seq t) i 0 q) := by
  rw [s123, s116, s95]
  exact headO_eq (f.q t i) (f.k t i) (f.v t i) (f.g _ i) (Finite.beta _) (fun _ _ => f.a5 _) q

/-- The gated output's block is the reference's. -/
theorem out_eq (f : Finite m c) (t : Fin cfg0.N) (a : Fin 1) (i : Fin 16) (q : Fin 128) :
    out0_9 (iblk m c 0 t) (iblk m c 1 t) (iblk m c 2 t) (iblk m c 3 t) (iblk m c 4 t) (iblk m c 5 t) (iblk m c 6 t) (iblk m c 7 t) (iblk m c 8 t) (ix3 a i q)
    = val_main_v159 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix3 (seq t) i q) := by
  rw [out9_apply _ _ _ _ _ _ _ _ _ _ _ _ _ _ rfl rfl rfl rfl rfl, s159]
  simp only [v_eq, k_eq, q_eq, beta_eq, g_eq, b8, b7, b3]
  unfold gated
  simp only [o_eq f]
  rfl

/-- The convolution window's block is the reference's. -/
theorem win_eq (t : Fin cfg0.N) (a : Fin 1) (k : Fin 3) (h : Fin 48) (j : Fin 128) :
    out0_10 (iblk m c 0 t) (iblk m c 1 t) (iblk m c 2 t) (iblk m c 3 t) (iblk m c 4 t) (iblk m c 5 t) (iblk m c 6 t) (iblk m c 7 t) (iblk m c 8 t) (ix4 a k h j)
    = val_main_v160 (F := Ideal) (m ((c : Thread nD τ).loc main_arg0)) (m ((c : Thread nD τ).loc main_arg4)) (ix4 (seq t) k h j) := by
  rw [out10_apply, s160]
  simp only [b0, b1]
  split_ifs with h'
  · rfl
  · congr 2
    exact Subsingleton.elim (α := Fin 1) _ _

variable (m c)

/-- The kernel's first array. -/
theorem arr9 (f : Finite m c) : (dats m 0 c).arrAt 9 cfg0.N = val_main_v159 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 9 _ (by decide +kernel) fun t hf y => ?_
  blk_simp
  rw [after0_9]
  have e := idx t
  idx_vars y
  refine (out_eq f t _ _ _).trans ?_
  congr 1
  blk_ext [e, seq]

/-- The kernel's second array. -/
theorem arr10 : (dats m 0 c).arrAt 10 cfg0.N = val_main_v160 (F := Ideal) (m ((c : Thread nD τ).loc main_arg0)) (m ((c : Thread nD τ).loc main_arg4)) := by
  refine (dats m 0 c).arrAt_eq_of_covers 10 _ (by decide +kernel) fun t hf y => ?_
  blk_simp
  rw [after0_10]
  have e := idx t
  idx_vars y
  refine (win_eq t _ _ _ _).trans ?_
  congr 1
  blk_ext [e, seq]

/-- The kernel's third array. -/
theorem arr11 (f : Finite m c) : (dats m 0 c).arrAt 11 cfg0.N = val_main_v134 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t hf y => ?_
  blk_simp
  rw [after0_11]
  have e := idx t
  idx_vars y
  refine (state_eq f t _ _ _ _).trans ?_
  congr 1
  blk_ext [e, seq]

/-- The precondition says that the arrays are finite. -/
theorem finite_of_pre [Cert.Pre_finite_step.Facts] (h : Cert.Pre_DeltaStepIdeal_finite_step m) : Finite m c := by
  have e := congrFun (h c) (fun i => i.elim0)
  obtain ⟨h0, h2, h4, h5, h6, h7, h8⟩ := pre_re _ _ _ _ _ _ _ _ _ _ _ e
  exact ⟨h0, h2, h4, h5, h6, h7, h8⟩

/-- The two programs end with equal results at the ideal instance, of finite arrays. -/
theorem algebraic [Cert.Pre_finite_step.Facts] : Cert.algebraic_DeltaStepIdeal_DeltaStepRefIdeal_pre_finite_step := by
  intro m g m' g' hpre hagree
  refine ⟨fun c => (dats m 0 c).arrAt 9 cfg0.N, fun c => (dats m 0 c).arrAt 10 cfg0.N, fun c => (dats m 0 c).arrAt 11 cfg0.N, ?_, ?_⟩
  · exact (θ_run defs _ _).mono (fun r h c => ⟨(h.1 c).1 9, (h.1 c).1 10, (h.1 c).1 11, h.2 c⟩) (θ_run_and (run_main m g) (unchanged m g))
  · have f : ∀ c, Finite m c := fun c => finite_of_pre m c hpre
    refine (θ_run Cert.DeltaStepRefIdeal.defs _ _).mono (fun r h c => ?_) (Cert.DeltaStepRefIdeal.Value.run (F := Ideal) m' g')
    obtain ⟨e0, e1, e2, e3, e4, e5, e6, e7, e8, e9⟩ := hagree c
    have k9 : val_main_v159 (F := Ideal) (m' ((c : Thread Cert.DeltaStepRefIdeal.nD Cert.DeltaStepRefIdeal.τ).loc Cert.DeltaStepRefIdeal.main_arg0)) (m' ((c : Thread Cert.DeltaStepRefIdeal.nD Cert.DeltaStepRefIdeal.τ).loc Cert.DeltaStepRefIdeal.main_arg1)) (m' ((c : Thread Cert.DeltaStepRefIdeal.nD Cert.DeltaStepRefIdeal.τ).loc Cert.DeltaStepRefIdeal.main_arg2)) (m' ((c : Thread Cert.DeltaStepRefIdeal.nD Cert.DeltaStepRefIdeal.τ).loc Cert.DeltaStepRefIdeal.main_arg3)) (m' ((c : Thread Cert.DeltaStepRefIdeal.nD Cert.DeltaStepRefIdeal.τ).loc Cert.DeltaStepRefIdeal.main_arg4)) (m' ((c : Thread Cert.DeltaStepRefIdeal.nD Cert.DeltaStepRefIdeal.τ).loc Cert.DeltaStepRefIdeal.main_arg5)) (m' ((c : Thread Cert.DeltaStepRefIdeal.nD Cert.DeltaStepRefIdeal.τ).loc Cert.DeltaStepRefIdeal.main_arg6)) (m' ((c : Thread Cert.DeltaStepRefIdeal.nD Cert.DeltaStepRefIdeal.τ).loc Cert.DeltaStepRefIdeal.main_arg7)) (m' ((c : Thread Cert.DeltaStepRefIdeal.nD Cert.DeltaStepRefIdeal.τ).loc Cert.DeltaStepRefIdeal.main_arg8)) (m' ((c : Thread Cert.DeltaStepRefIdeal.nD Cert.DeltaStepRefIdeal.τ).loc Cert.DeltaStepRefIdeal.main_arg9)) = (dats m 0 c).arrAt 9 cfg0.N := by
      rw [arr9 m c (f c), e0, e1, e2, e3, e4, e5, e6, e7, e8, e9]
    have k10 : val_main_v160 (F := Ideal) (m' ((c : Thread Cert.DeltaStepRefIdeal.nD Cert.DeltaStepRefIdeal.τ).loc Cert.DeltaStepRefIdeal.main_arg0)) (m' ((c : Thread Cert.DeltaStepRefIdeal.nD Cert.DeltaStepRefIdeal.τ).loc Cert.DeltaStepRefIdeal.main_arg4)) = (dats m 0 c).arrAt 10 cfg0.N := by
      rw [arr10 m c, e0, e4]
    have k11 : val_main_v134 (F := Ideal) (m' ((c : Thread Cert.DeltaStepRefIdeal.nD Cert.DeltaStepRefIdeal.τ).loc Cert.DeltaStepRefIdeal.main_arg0)) (m' ((c : Thread Cert.DeltaStepRefIdeal.nD Cert.DeltaStepRefIdeal.τ).loc Cert.DeltaStepRefIdeal.main_arg2)) (m' ((c : Thread Cert.DeltaStepRefIdeal.nD Cert.DeltaStepRefIdeal.τ).loc Cert.DeltaStepRefIdeal.main_arg3)) (m' ((c : Thread Cert.DeltaStepRefIdeal.nD Cert.DeltaStepRefIdeal.τ).loc Cert.DeltaStepRefIdeal.main_arg4)) (m' ((c : Thread Cert.DeltaStepRefIdeal.nD Cert.DeltaStepRefIdeal.τ).loc Cert.DeltaStepRefIdeal.main_arg5)) (m' ((c : Thread Cert.DeltaStepRefIdeal.nD Cert.DeltaStepRefIdeal.τ).loc Cert.DeltaStepRefIdeal.main_arg6)) (m' ((c : Thread Cert.DeltaStepRefIdeal.nD Cert.DeltaStepRefIdeal.τ).loc Cert.DeltaStepRefIdeal.main_arg7)) (m' ((c : Thread Cert.DeltaStepRefIdeal.nD Cert.DeltaStepRefIdeal.τ).loc Cert.DeltaStepRefIdeal.main_arg8)) = (dats m 0 c).arrAt 11 cfg0.N := by
      rw [arr11 m c (f c), e0, e2, e3, e4, e5, e6, e7, e8]
    exact ⟨((h c).1.trans (Cert.DeltaStepRefIdeal.Read.val_main_v159_eq _)).trans k9, ((h c).2.1.trans (Cert.DeltaStepRefIdeal.Read.val_main_v160_eq _)).trans k10,
      ((h c).2.2.1.trans (Cert.DeltaStepRefIdeal.Read.val_main_v134_eq _)).trans k11, (h c).2.2.2⟩

/-- The reference's frame. -/
theorem ref_frame : Cert.quiescent_DeltaStepRefIdeal := fun m ρ _ =>
  (θ_run Cert.DeltaStepRefIdeal.defs _ _).mono
    (fun r h => ⟨fun c => ⟨(h c).2.2.2.1, (h c).2.2.2.2⟩, sem_eq_zero_of_no_sems (by decide) r.2⟩)
    (Cert.DeltaStepRefIdeal.Value.run (F := Ideal) m ρ)

/-- The reference's frame, of finite arrays. -/
theorem ref_frame_finite [Cert.Pre_finite_step.Facts] : Cert.quiescent_DeltaStepRefIdeal_pre_finite_step := fun m ρ _ => ref_frame m ρ trivial

end Cert.DeltaStepVal

end
-- ==== Proof.FfnRun.lean ====
/- The feed-forward kernel: its run point by point. The grid visits 16 blocks of rows and, for each, 22 blocks of the hidden
   width; the accumulator is reset at the first of the 22, stepped at every one, and the rows' results are written at the last.
   The three cases' triples of the body are taken from the modules on the body's runs; here are what each case leaves, the
   recursion along the points, the pipeline's proof data, the body's obligation, and the run of the whole program. -/
module

public import proofs.«01_k».proof.Proof.Gen.FfnIdeal.Frame.RunC
public import Idealize.ShloMosaic.Lib.Claim

@[expose] public section

set_option maxRecDepth 16384

noncomputable section

namespace Cert.FfnIdeal.Run
open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves: the rows' result, the rows' normalised result, the page sums, the accumulator. -/
abbrev Left (F : FTy → Type) [FloatOps F] : Type :=
  Vec F S512x2048 .f32 × Vec F S512x2048 .bf16 × Vec F S1x3x16x128 .f32 × Vec F S512x2048 .f32

/-- The body's run at the first of a row block's points (the accumulator reset, then stepped). -/
def runA (hO : Ok m) (c : Dev nD) (t : Fin (cfgM m hO).N) (h0 : t.val % 22 = 0) (h1 : ¬t.val % 22 = 21) :=
  kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _)
    ((hcond0_0 t).mpr h0) (fun h => h1 ((hcond0_1 t).mp h))
    (iblk m hO c 0 t) (iblk m hO c 1 t) (iblk m hO c 2 t) (iblk m hO c 3 t) (iblk m hO c 4 t) (iblk m hO c 5 t) (iblk m hO c 6 t) (iblk m hO c 7 t) (iblk m hO c 8 t) (tbl m 0)

/-- What that run leaves. -/
def leftA (hO : Ok m) (c : Dev nD) (t : Fin (cfgM m hO).N) (h0 : t.val % 22 = 0) (h1 : ¬t.val % 22 = 21) : Left F :=
  (VO0_9.read (Elt F) (VO0_9.writes (Elt F) VO0_9.junk (runA m hO c t h0 h1).1),
    VO0_10.read (Elt F) (VO0_10.writes (Elt F) VO0_10.junk (runA m hO c t h0 h1).2.1),
    VO0_11.read (Elt F) (VO0_11.writes (Elt F) VO0_11.junk (runA m hO c t h0 h1).2.2.1),
    VS0_0.read (Elt F) (VS0_0.writes (Elt F) VS0_0.junk (runA m hO c t h0 h1).2.2.2.1))

/-- The stores of that run into the page sums cover it. -/
theorem coverA_11 (hO : Ok m) (c : Dev nD) (t : Fin (cfgM m hO).N) (h0 : t.val % 22 = 0) (h1 : ¬t.val % 22 = 21) (y : S1x3x16x128.Idx) :
    ∃ pc ∈ (runA m hO c t h0 h1).2.2.1, y ∈ pc.1.set :=
  View.cover_of_tiledL (runA m hO c t h0 h1).2.2.1 S1x1x16x128.size (by sl_kernel_rfl) y

/-- The stores of that run into the accumulator cover it. -/
theorem coverA_s (hO : Ok m) (c : Dev nD) (t : Fin (cfgM m hO).N) (h0 : t.val % 22 = 0) (h1 : ¬t.val % 22 = 21) (y : S512x2048.Idx) :
    ∃ pc ∈ (runA m hO c t h0 h1).2.2.2.1, y ∈ pc.1.set :=
  View.cover_of_tiledL (runA m hO c t h0 h1).2.2.2.1 S512x2048.size (by sl_kernel_rfl) y

/-- The body's run at a middle point (the accumulator stepped). -/
def runB (hO : Ok m) (c : Dev nD) (t : Fin (cfgM m hO).N) (h0 : ¬t.val % 22 = 0) (h1 : ¬t.val % 22 = 21) (xs : Vec F S512x2048 .f32) :=
  kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _)
    (fun h => h0 ((hcond0_0 t).mp h)) (fun h => h1 ((hcond0_1 t).mp h))
    (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) xs

/-- What that run leaves. -/
def leftB (hO : Ok m) (c : Dev nD) (t : Fin (cfgM m hO).N) (h0 : ¬t.val % 22 = 0) (h1 : ¬t.val % 22 = 21) (xs : Vec F S512x2048 .f32) : Left F :=
  (VO0_9.read (Elt F) (VO0_9.writes (Elt F) VO0_9.junk (runB m hO c t h0 h1 xs).1),
    VO0_10.read (Elt F) (VO0_10.writes (Elt F) VO0_10.junk (runB m hO c t h0 h1 xs).2.1),
    VO0_11.read (Elt F) (VO0_11.writes (Elt F) VO0_11.junk (runB m hO c t h0 h1 xs).2.2.1),
    VS0_0.read (Elt F) (VS0_0.writes (Elt F) VS0_0.junk (runB m hO c t h0 h1 xs).2.2.2.1))

/-- The stores of that run into the page sums cover it. -/
theorem coverB_11 (hO : Ok m) (c : Dev nD) (t : Fin (cfgM m hO).N) (h0 : ¬t.val % 22 = 0) (h1 : ¬t.val % 22 = 21) (xs : Vec F S512x2048 .f32) (y : S1x3x16x128.Idx) :
    ∃ pc ∈ (runB m hO c t h0 h1 xs).2.2.1, y ∈ pc.1.set :=
  View.cover_of_tiledL (runB m hO c t h0 h1 xs).2.2.1 S1x1x16x128.size (by sl_kernel_rfl) y

/-- The stores of that run into the accumulator cover it. -/
theorem coverB_s (hO : Ok m) (c : Dev nD) (t : Fin (cfgM m hO).N) (h0 : ¬t.val % 22 = 0) (h1 : ¬t.val % 22 = 21) (xs : Vec F S512x2048 .f32) (y : S512x2048.Idx) :
    ∃ pc ∈ (runB m hO c t h0 h1 xs).2.2.2.1, y ∈ pc.1.set :=
  View.cover_of_tiledL (runB m hO c t h0 h1 xs).2.2.2.1 S512x2048.size (by sl_kernel_rfl) y

/-- The body's run at a row block's last point (the accumulator stepped, the results written). -/
def runC (hO : Ok m) (c : Dev nD) (t : Fin (cfgM m hO).N) (h0 : ¬t.val % 22 = 0) (h1 : t.val % 22 = 21) (xs : Vec F S512x2048 .f32) :=
  kernelRun0_C c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _)
    (fun h => h0 ((hcond0_0 t).mp h)) ((hcond0_1 t).mpr h1)
    (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) xs

/-- What that run leaves. -/
def leftC (hO : Ok m) (c : Dev nD) (t : Fin (cfgM m hO).N) (h0 : ¬t.val % 22 = 0) (h1 : t.val % 22 = 21) (xs : Vec F S512x2048 .f32) : Left F :=
  (VO0_9.read (Elt F) (VO0_9.writes (Elt F) VO0_9.junk (runC m hO c t h0 h1 xs).1),
    VO0_10.read (Elt F) (VO0_10.writes (Elt F) VO0_10.junk (runC m hO c t h0 h1 xs).2.1),
    VO0_11.read (Elt F) (VO0_11.writes (Elt F) VO0_11.junk (runC m hO c t h0 h1 xs).2.2.1),
    VS0_0.read (Elt F) (VS0_0.writes (Elt F) VS0_0.junk (runC m hO c t h0 h1 xs).2.2.2.1))

/-- The stores of that run into the rows' result cover it. -/
theorem coverC_9 (hO : Ok m) (c : Dev nD) (t : Fin (cfgM m hO).N) (h0 : ¬t.val % 22 = 0) (h1 : t.val % 22 = 21) (xs : Vec F S512x2048 .f32) (y : S512x2048.Idx) :
    ∃ pc ∈ (runC m hO c t h0 h1 xs).1, y ∈ pc.1.set :=
  View.cover_of_tiledL (runC m hO c t h0 h1 xs).1 S512x2048.size (by sl_kernel_rfl) y

/-- The stores of that run into the normalised result cover it. -/
theorem coverC_10 (hO : Ok m) (c : Dev nD) (t : Fin (cfgM m hO).N) (h0 : ¬t.val % 22 = 0) (h1 : t.val % 22 = 21) (xs : Vec F S512x2048 .f32) (y : S512x2048.Idx) :
    ∃ pc ∈ (runC m hO c t h0 h1 xs).2.1, y ∈ pc.1.set :=
  View.cover_of_tiledL (runC m hO c t h0 h1 xs).2.1 S512x2048.size (by sl_kernel_rfl) y

/-- The stores of that run into the page sums cover it. -/
theorem coverC_11 (hO : Ok m) (c : Dev nD) (t : Fin (cfgM m hO).N) (h0 : ¬t.val % 22 = 0) (h1 : t.val % 22 = 21) (xs : Vec F S512x2048 .f32) (y : S1x3x16x128.Idx) :
    ∃ pc ∈ (runC m hO c t h0 h1 xs).2.2.1, y ∈ pc.1.set :=
  View.cover_of_tiledL (runC m hO c t h0 h1 xs).2.2.1 S1x1x16x128.size (by sl_kernel_rfl) y

/-- The stores of that run into the accumulator cover it. -/
theorem coverC_s (hO : Ok m) (c : Dev nD) (t : Fin (cfgM m hO).N) (h0 : ¬t.val % 22 = 0) (h1 : t.val % 22 = 21) (xs : Vec F S512x2048 .f32) (y : S512x2048.Idx) :
    ∃ pc ∈ (runC m hO c t h0 h1 xs).2.2.2.1, y ∈ pc.1.set :=
  View.cover_of_tiledL (runC m hO c t h0 h1 xs).2.2.2.1 S512x2048.size (by sl_kernel_rfl) y

/-- What the points leave, one after another: the accumulator is carried from each to the next, except into the first point of
    a row block. -/
def left (hO : Ok m) (c : Dev nD) : (n : ℕ) → n < (cfgM m hO).N → Left F
  | 0, hn => leftA m hO c ⟨0, hn⟩ (Nat.zero_mod _) (by show ¬0 % 22 = 21; decide)
  | n + 1, hn =>
    if h0 : (n + 1) % 22 = 0 then leftA m hO c ⟨n + 1, hn⟩ h0 (by show ¬(n + 1) % 22 = 21; omega)
    else if h1 : (n + 1) % 22 = 21 then leftC m hO c ⟨n + 1, hn⟩ h0 h1 (left hO c n (Nat.lt_of_succ_lt hn)).2.2.2
    else leftB m hO c ⟨n + 1, hn⟩ h0 h1 (left hO c n (Nat.lt_of_succ_lt hn)).2.2.2

/-- At the first point of a row block. -/
theorem left_A (hO : Ok m) (c : Dev nD) (t : Fin (cfgM m hO).N) (h0 : t.val % 22 = 0) (h1 : ¬t.val % 22 = 21) :
    left m hO c t.val t.isLt = leftA m hO c t h0 h1 := by
  obtain ⟨n, hn⟩ := t
  cases n with
  | zero => rfl
  | succ n => exact dif_pos h0

/-- At a middle point. -/
theorem left_B (hO : Ok m) (c : Dev nD) (t : Fin (cfgM m hO).N) (h0 : ¬t.val % 22 = 0) (h1 : ¬t.val % 22 = 21) :
    left m hO c t.val t.isLt = leftB m hO c t h0 h1 (left m hO c (t.val - 1) (Nat.lt_of_le_of_lt (Nat.sub_le _ _) t.isLt)).2.2.2 := by
  obtain ⟨n, hn⟩ := t
  cases n with
  | zero => exact absurd (Nat.zero_mod _) h0
  | succ n => exact (dif_neg h0).trans (dif_neg h1)

/-- At the last point of a row block. -/
theorem left_C (hO : Ok m) (c : Dev nD) (t : Fin (cfgM m hO).N) (h0 : ¬t.val % 22 = 0) (h1 : t.val % 22 = 21) :
    left m hO c t.val t.isLt = leftC m hO c t h0 h1 (left m hO c (t.val - 1) (Nat.lt_of_le_of_lt (Nat.sub_le _ _) t.isLt)).2.2.2 := by
  obtain ⟨n, hn⟩ := t
  cases n with
  | zero => exact absurd (Nat.zero_mod _) h0
  | succ n => exact (dif_neg h0).trans (dif_pos h1)

/-- The invariant before position `n`: before the first point the accumulator at anything, afterwards at what the point before
    left in it; beside it the generator register and the page table. -/
def Inv (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((left m hO c n hn).2.2.2)) ∗ (∃ r, prngReg c r)) ∗ Pipeline.ΦT pre0 (tbl m) c)

/-- Before a point that is not the first. -/
theorem Inv_pos (hO : Ok m) (c : Dev nD) (n : ℕ) (h : n ≤ (cfgM m hO).N) (hz : n ≠ 0) :
    Inv m hO c n h = iprop(iprop(iprop(owns (c : Thread nD τ) scM0_0 fullShare ((left m hO c (n - 1) (by omega)).2.2.2)) ∗ (∃ r, prngReg c r)) ∗ Pipeline.ΦT pre0 (tbl m) c) := by
  cases n with
  | zero => exact absurd rfl hz
  | succ n => rfl

/-- Before any point the accumulator is held at something. -/
theorem Inv_some (hO : Ok m) (c : Dev nD) (n : ℕ) (h : n ≤ (cfgM m hO).N) :
    Inv m hO c n h ⊢ iprop(iprop(iprop(∃ d, owns (c : Thread nD τ) scM0_0 fullShare d) ∗ (∃ r, prngReg c r)) ∗ Pipeline.ΦT pre0 (tbl m) c) := by
  cases n with
  | zero =>
    rw [show Inv m hO c 0 h = iprop(Pipeline.ΦA spec0 c ∗ Pipeline.ΦT pre0 (tbl m) c) from rfl, PhiA0_eq]
  | succ n =>
    rw [Inv_pos m hO c (n + 1) h (Nat.succ_ne_zero n)]
    iintro ⟨⟨HS0, Hg⟩, HT0⟩
    isplitl [HS0 Hg]
    · isplitl [HS0]
      · iexists _; iexact HS0
      iexact Hg
    iexact HT0

/-- The pipeline's proof data: every input window at its block, the outputs at what the point leaves. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => (left m hO c t.val t.isLt).1
    | ⟨10, _⟩ => (left m hO c t.val t.isLt).2.1
    | ⟨11, _⟩ => (left m hO c t.val t.isLt).2.2.1
  Φ t := Inv m hO c t.val (Nat.le_of_lt_succ t.isLt)
  q w := Pipeline.shareOf spec0 w
  owed _ := 0

/-- The arrays are those the host operations before the kernel leave. -/
theorem A_eq (hO : Ok m) (c : Dev nD) (w : Fin (cfgM m hO).W) : (dats m hO 0 c).A w = V m c (Pipeline.arrRef spec0 w) := by
  dsimp only [dats]

/-- After a point the accumulator is at what the point left. -/
theorem Inv_succ (hO : Ok m) (c : Dev nD) (n : ℕ) (h : n + 1 ≤ (cfgM m hO).N) :
    Inv m hO c (n + 1) h = iprop(iprop(iprop(owns (c : Thread nD τ) scM0_0 fullShare ((left m hO c n h).2.2.2)) ∗ (∃ r, prngReg c r)) ∗ Pipeline.ΦT pre0 (tbl m) c) := rfl

/-- The invariant depends on the position alone. -/
theorem Inv_congr (hO : Ok m) (c : Dev nD) {n n' : ℕ} (e : n = n') (h : n ≤ (cfgM m hO).N) (h' : n' ≤ (cfgM m hO).N) :
    Inv m hO c n h = Inv m hO c n' h' := by subst e; rfl

/-- The proof data's invariant at a position. -/
theorem Phi_at (hO : Ok m) (c : Dev nD) (s : Fin ((cfgM m hO).N + 1)) :
    (dats m hO 0 c).Φ s = Inv m hO c s.val (Nat.le_of_lt_succ s.isLt) := rfl

/-- The proof data's invariant before a point. -/
theorem Phi_cast (hO : Ok m) (c : Dev nD) (t : Fin (cfgM m hO).N) :
    (dats m hO 0 c).Φ t.castSucc = Inv m hO c t.val (Nat.le_of_lt t.isLt) :=
  (Phi_at m hO c t.castSucc).trans (Inv_congr m hO c (Fin.val_castSucc t) _ _)

/-- The proof data's invariant after a point. -/
theorem Phi_succ (hO : Ok m) (c : Dev nD) (t : Fin (cfgM m hO).N) :
    (dats m hO 0 c).Φ t.succ = Inv m hO c (t.val + 1) t.isLt :=
  (Phi_at m hO c t.succ).trans (Inv_congr m hO c (Fin.val_succ t) _ _)

/-- What the body leaves in the block of rows. -/
theorem after_9 (hO : Ok m) (c : Dev nD) (t : Fin (cfgM m hO).N) : (dats m hO 0 c).after 9 t = (left m hO c t.val t.isLt).1 := rfl
/-- What it leaves in the block of normed rows. -/
theorem after_10 (hO : Ok m) (c : Dev nD) (t : Fin (cfgM m hO).N) : (dats m hO 0 c).after 10 t = (left m hO c t.val t.isLt).2.1 := rfl
/-- What it leaves in the block of page sums. -/
theorem after_11 (hO : Ok m) (c : Dev nD) (t : Fin (cfgM m hO).N) : (dats m hO 0 c).after 11 t = (left m hO c t.val t.isLt).2.2.1 := rfl
/-- The body finds the first input's block. -/
theorem before_0 (hO : Ok m) (c : Dev nD) (t : Fin (cfgM m hO).N) (d) : (dats m hO 0 c).before 0 t d = iblk m hO c 0 t :=
  before0_0_of m hO (dats m hO 0 c) (A_eq m hO c 0) (fun _ => rfl) t d
/-- The body finds the second input's block. -/
theorem before_1 (hO : Ok m) (c : Dev nD) (t : Fin (cfgM m hO).N) (d) : (dats m hO 0 c).before 1 t d = iblk m hO c 1 t :=
  before0_1_of m hO (dats m hO 0 c) (A_eq m hO c 1) (fun _ => rfl) t d
/-- The body finds the third input's block. -/
theorem before_2 (hO : Ok m) (c : Dev nD) (t : Fin (cfgM m hO).N) (d) : (dats m hO 0 c).before 2 t d = iblk m hO c 2 t :=
  before0_2_of m hO (dats m hO 0 c) (A_eq m hO c 2) (fun _ => rfl) t d
/-- The body finds the fourth input's block. -/
theorem before_3 (hO : Ok m) (c : Dev nD) (t : Fin (cfgM m hO).N) (d) : (dats m hO 0 c).before 3 t d = iblk m hO c 3 t :=
  before0_3_of m hO (dats m hO 0 c) (A_eq m hO c 3) (fun _ => rfl) t d
/-- The body finds the fifth input's block. -/
theorem before_4 (hO : Ok m) (c : Dev nD) (t : Fin (cfgM m hO).N) (d) : (dats m hO 0 c).before 4 t d = iblk m hO c 4 t :=
  before0_4_of m hO (dats m hO 0 c) (A_eq m hO c 4) (fun _ => rfl) t d
/-- The body finds the sixth input's block. -/
theorem before_5 (hO : Ok m) (c : Dev nD) (t : Fin (cfgM m hO).N) (d) : (dats m hO 0 c).before 5 t d = iblk m hO c 5 t :=
  before0_5_of m hO (dats m hO 0 c) (A_eq m hO c 5) (fun _ => rfl) t d
/-- The body finds the seventh input's block. -/
theorem before_6 (hO : Ok m) (c : Dev nD) (t : Fin (cfgM m hO).N) (d) : (dats m hO 0 c).before 6 t d = iblk m hO c 6 t :=
  before0_6_of m hO (dats m hO 0 c) (A_eq m hO c 6) (fun _ => rfl) t d
/-- The body finds the eighth input's block. -/
theorem before_7 (hO : Ok m) (c : Dev nD) (t : Fin (cfgM m hO).N) (d) : (dats m hO 0 c).before 7 t d = iblk m hO c 7 t :=
  before0_7_of m hO (dats m hO 0 c) (A_eq m hO c 7) (fun _ => rfl) t d
/-- The body finds the ninth input's block. -/
theorem before_8 (hO : Ok m) (c : Dev nD) (t : Fin (cfgM m hO).N) (d) : (dats m hO 0 c).before 8 t d = iblk m hO c 8 t :=
  before0_8_of m hO (dats m hO 0 c) (A_eq m hO c 8) (fun _ => rfl) t d
/-- It leaves the first input's block as it was. -/
theorem leaves_0 (hO : Ok m) (c : Dev nD) (t : Fin (cfgM m hO).N) :
    (dats m hO 0 c).leavesExact 0 t = owns (c : Thread nD τ) (ms0_0 m hO t) fullShare (iblk m hO c 0 t) := by
  unfold Dat.leavesExact; rw [liveAt0_0 m hO t]; rfl
/-- It leaves the second input's block as it was. -/
theorem leaves_1 (hO : Ok m) (c : Dev nD) (t : Fin (cfgM m hO).N) :
    (dats m hO 0 c).leavesExact 1 t = owns (c : Thread nD τ) (ms0_1 m hO t) fullShare (iblk m hO c 1 t) := by
  unfold Dat.leavesExact; rw [liveAt0_1 m hO t]; rfl
/-- It leaves the third input's block as it was. -/
theorem leaves_2 (hO : Ok m) (c : Dev nD) (t : Fin (cfgM m hO).N) :
    (dats m hO 0 c).leavesExact 2 t = owns (c : Thread nD τ) (ms0_2 m hO t) fullShare (iblk m hO c 2 t) := by
  unfold Dat.leavesExact; rw [liveAt0_2 m hO t]; rfl
/-- It leaves the fourth input's block as it was. -/
theorem leaves_3 (hO : Ok m) (c : Dev nD) (t : Fin (cfgM m hO).N) :
    (dats m hO 0 c).leavesExact 3 t = owns (c : Thread nD τ) (ms0_3 m hO t) fullShare (iblk m hO c 3 t) := by
  unfold Dat.leavesExact; rw [liveAt0_3 m hO t]; rfl
/-- It leaves the fifth input's block as it was. -/
theorem leaves_4 (hO : Ok m) (c : Dev nD) (t : Fin (cfgM m hO).N) :
    (dats m hO 0 c).leavesExact 4 t = owns (c : Thread nD τ) (ms0_4 m hO t) fullShare (iblk m hO c 4 t) := by
  unfold Dat.leavesExact; rw [liveAt0_4 m hO t]; rfl
/-- It leaves the sixth input's block as it was. -/
theorem leaves_5 (hO : Ok m) (c : Dev nD) (t : Fin (cfgM m hO).N) :
    (dats m hO 0 c).leavesExact 5 t = owns (c : Thread nD τ) (ms0_5 m hO t) fullShare (iblk m hO c 5 t) := by
  unfold Dat.leavesExact; rw [liveAt0_5 m hO t]; rfl
/-- It leaves the seventh input's block as it was. -/
theorem leaves_6 (hO : Ok m) (c : Dev nD) (t : Fin (cfgM m hO).N) :
    (dats m hO 0 c).leavesExact 6 t = owns (c : Thread nD τ) (ms0_6 m hO t) fullShare (iblk m hO c 6 t) := by
  unfold Dat.leavesExact; rw [liveAt0_6 m hO t]; rfl
/-- It leaves the eighth input's block as it was. -/
theorem leaves_7 (hO : Ok m) (c : Dev nD) (t : Fin (cfgM m hO).N) :
    (dats m hO 0 c).leavesExact 7 t = owns (c : Thread nD τ) (ms0_7 m hO t) fullShare (iblk m hO c 7 t) := by
  unfold Dat.leavesExact; rw [liveAt0_7 m hO t]; rfl
/-- It leaves the ninth input's block as it was. -/
theorem leaves_8 (hO : Ok m) (c : Dev nD) (t : Fin (cfgM m hO).N) :
    (dats m hO 0 c).leavesExact 8 t = owns (c : Thread nD τ) (ms0_8 m hO t) fullShare (iblk m hO c 8 t) := by
  unfold Dat.leavesExact; rw [liveAt0_8 m hO t]; rfl
/-- It leaves the block of page sums as stated. -/
theorem leaves_11 (hO : Ok m) (c : Dev nD) (t : Fin (cfgM m hO).N) :
    (dats m hO 0 c).leavesExact 11 t = owns (c : Thread nD τ) (ms0_11 m hO t) fullShare ((left m hO c t.val t.isLt).2.2.1) := by
  unfold Dat.leavesExact; rw [liveAt0_11 m hO t]; rfl

/-- What the body is called with at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t)

set_option maxHeartbeats 4000000 in
/-- The body at the first point of a row block: its run applies, and what it leaves is read back over the stores that cover it. -/
theorem sound_A (hO : Ok m) (c : Dev nD) (t : Fin (cfgM m hO).N) (h0 : t.val % 22 = 0) :
    bodyPre m hO c t ⊢ wp frame (wpE (defs₀ (F := F)) Variants.none c none) Set.univ (bodyAt0 (adm m hO) t) (fun _ => bodyPost m hO c t) := by
  unfold bodyPre bodyPost bodyAt0
  simp only [before_0, before_1, before_2, before_3, before_4, before_5, before_6, before_7, before_8]
  rw [leaves_0, leaves_1, leaves_2, leaves_3, leaves_4, leaves_5, leaves_6, leaves_7, leaves_8, leaves_11]
  rw [show (dats m hO 0 c).owesAt () t.succ = (dats m hO 0 c).owesAt () t.castSucc from rfl]
  rw [Phi_cast, Phi_succ, Inv_succ]
  have h1 : ¬t.val % 22 = 21 := by omega
  rw [Dat.leavesExact_idle (dats m hO 0 c) 9 t (idleAt0_9_A m hO t ((hcond0_0 t).mpr h0) (fun h => h1 ((hcond0_1 t).mp h))) (noFlush0_9_A m hO t ((hcond0_0 t).mpr h0) (fun h => h1 ((hcond0_1 t).mp h)))]
  rw [Dat.leavesExact_idle (dats m hO 0 c) 10 t (idleAt0_10_A m hO t ((hcond0_0 t).mpr h0) (fun h => h1 ((hcond0_1 t).mp h))) (noFlush0_10_A m hO t ((hcond0_0 t).mpr h0) (fun h => h1 ((hcond0_1 t).mp h)))]
  refine (Idealize.SL.BI.Laws.sep_mono_left (Inv_some m hO c _ _)).trans ?_
  rw [PhiT0_eq]
  rw [left_A m hO c t h0 h1]
  unfold leftA; dsimp only
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runA m hO c t h0 h1).2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HT0]; · iexact HT0
  iintro ⟨H0, H1, H2, H3, H4, H5, H6, H7, H8, H9, H10, ⟨%e11, H11⟩, ⟨%es0, HS0⟩, HT0⟩
  isplitl [HS0 Hg HT0]
  · isplitl [HS0 Hg]
    · isplitl [HS0]
      · unfold owns; iexists _; isplitr
        swap; · iexact HS0
        ipureintro; exact View.read_writes_of_cover _ _ _ _ _ (coverA_s m hO c t h0 h1)
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  unfold owns; iexists _; isplitr
  swap; · iexact H11
  ipureintro; exact View.read_writes_of_cover _ _ _ _ _ (coverA_11 m hO c t h0 h1)

set_option maxHeartbeats 4000000 in
/-- The body at a middle point. -/
theorem sound_B (hO : Ok m) (c : Dev nD) (t : Fin (cfgM m hO).N) (h0 : ¬t.val % 22 = 0) (h1 : ¬t.val % 22 = 21) :
    bodyPre m hO c t ⊢ wp frame (wpE (defs₀ (F := F)) Variants.none c none) Set.univ (bodyAt0 (adm m hO) t) (fun _ => bodyPost m hO c t) := by
  unfold bodyPre bodyPost bodyAt0
  simp only [before_0, before_1, before_2, before_3, before_4, before_5, before_6, before_7, before_8]
  rw [leaves_0, leaves_1, leaves_2, leaves_3, leaves_4, leaves_5, leaves_6, leaves_7, leaves_8, leaves_11]
  rw [show (dats m hO 0 c).owesAt () t.succ = (dats m hO 0 c).owesAt () t.castSucc from rfl]
  rw [Phi_cast, Phi_succ, Inv_succ]
  have hz : t.val ≠ 0 := fun h => h0 (by rw [h])
  rw [Dat.leavesExact_idle (dats m hO 0 c) 9 t (idleAt0_9_B m hO t (fun h => h0 ((hcond0_0 t).mp h)) (fun h => h1 ((hcond0_1 t).mp h))) (noFlush0_9_B m hO t (fun h => h0 ((hcond0_0 t).mp h)) (fun h => h1 ((hcond0_1 t).mp h)))]
  rw [Dat.leavesExact_idle (dats m hO 0 c) 10 t (idleAt0_10_B m hO t (fun h => h0 ((hcond0_0 t).mp h)) (fun h => h1 ((hcond0_1 t).mp h))) (noFlush0_10_B m hO t (fun h => h0 ((hcond0_0 t).mp h)) (fun h => h1 ((hcond0_1 t).mp h)))]
  rw [Inv_pos m hO c _ _ hz, PhiT0_eq]
  rw [left_B m hO c t h0 h1]
  unfold leftB; dsimp only
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runB m hO c t h0 h1 _).2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HT0]; · iexact HT0
  iintro ⟨H0, H1, H2, H3, H4, H5, H6, H7, H8, H9, H10, ⟨%e11, H11⟩, ⟨%es0, HS0⟩, HT0⟩
  isplitl [HS0 Hg HT0]
  · isplitl [HS0 Hg]
    · isplitl [HS0]
      · unfold owns; iexists _; isplitr
        swap; · iexact HS0
        ipureintro; exact View.read_writes_of_cover _ _ _ _ _ (coverB_s m hO c t h0 h1 _)
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  unfold owns; iexists _; isplitr
  swap; · iexact H11
  ipureintro; exact View.read_writes_of_cover _ _ _ _ _ (coverB_11 m hO c t h0 h1 _)

set_option maxHeartbeats 4000000 in
/-- The body at the last point of a row block. -/
theorem sound_C (hO : Ok m) (c : Dev nD) (t : Fin (cfgM m hO).N) (h0 : ¬t.val % 22 = 0) (h1 : t.val % 22 = 21) :
    bodyPre m hO c t ⊢ wp frame (wpE (defs₀ (F := F)) Variants.none c none) Set.univ (bodyAt0 (adm m hO) t) (fun _ => bodyPost m hO c t) := by
  unfold bodyPre bodyPost bodyAt0
  simp only [before_0, before_1, before_2, before_3, before_4, before_5, before_6, before_7, before_8]
  rw [leaves_0, leaves_1, leaves_2, leaves_3, leaves_4, leaves_5, leaves_6, leaves_7, leaves_8, leaves_11]
  rw [show (dats m hO 0 c).owesAt () t.succ = (dats m hO 0 c).owesAt () t.castSucc from rfl]
  rw [Phi_cast, Phi_succ, Inv_succ]
  have hz : t.val ≠ 0 := fun h => h0 (by rw [h])
  rw [show (dats m hO 0 c).leavesExact 9 t = owns (c : Thread nD τ) (ms0_9 m hO t) fullShare ((left m hO c t.val t.isLt).1) from by unfold Dat.leavesExact; rw [liveAt0_9_C m hO t (fun h => h0 ((hcond0_0 t).mp h)) ((hcond0_1 t).mpr h1)]; rfl]
  rw [show (dats m hO 0 c).leavesExact 10 t = owns (c : Thread nD τ) (ms0_10 m hO t) fullShare ((left m hO c t.val t.isLt).2.1) from by unfold Dat.leavesExact; rw [liveAt0_10_C m hO t (fun h => h0 ((hcond0_0 t).mp h)) ((hcond0_1 t).mpr h1)]; rfl]
  rw [Inv_pos m hO c _ _ hz, PhiT0_eq]
  rw [left_C m hO c t h0 h1]
  unfold leftC; dsimp only
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runC m hO c t h0 h1 _).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [HS0]; · iexact HS0
  isplitl [HT0]; · iexact HT0
  iintro ⟨H0, H1, H2, H3, H4, H5, H6, H7, H8, ⟨%e9, H9⟩, ⟨%e10, H10⟩, ⟨%e11, H11⟩, ⟨%es0, HS0⟩, HT0⟩
  isplitl [HS0 Hg HT0]
  · isplitl [HS0 Hg]
    · isplitl [HS0]
      · unfold owns; iexists _; isplitr
        swap; · iexact HS0
        ipureintro; exact View.read_writes_of_cover _ _ _ _ _ (coverC_s m hO c t h0 h1 _)
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (coverC_9 m hO c t h0 h1 _)
  isplitl [H10]
  · unfold owns; iexists _; isplitr
    swap; · iexact H10
    ipureintro; exact View.read_writes_of_cover _ _ _ _ _ (coverC_10 m hO c t h0 h1 _)
  unfold owns; iexists _; isplitr
  swap; · iexact H11
  ipureintro; exact View.read_writes_of_cover _ _ _ _ _ (coverC_11 m hO c t h0 h1 _)

/-- The body at any point, case by case. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  by_cases h0 : t.val % 22 = 0
  · exact sound_A m hO c t h0
  · by_cases h1 : t.val % 22 = 21
    · exact sound_C m hO c t h0 h1
    · exact sound_B m hO c t h0 h1

/-- The body the pipeline calls at a point. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body's obligation at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- The invariant at the end gives the launch's resources back. -/
theorem hout (hO : Ok m) (c : Dev nD) : (dats m hO 0 c).Φ (Fin.last (cfgM m hO).N) ⊢ Pipeline.ΦA spec0 c := by
  rw [Phi_at, PhiA0_eq]
  refine BIBase.Entails.trans (Inv_some m hO c _ _) ?_
  iintro ⟨H, -⟩
  iexact H

set_option backward.isDefEq.respectTransparency.types false in
/-- The program runs to its end; every array of the pipeline ends at what the proof data says, and every counter at zero. -/
theorem run_zero (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := fun _ => Idealize.SL.BI.Entails.refl _) (hout := hout m hO)

/-- The same without the counters. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_zero m ρ hO)

/-- The arguments end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- The arguments end unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_zero m ρ hO))

end Cert.FfnIdeal.Run
end
-- ==== Proof.FfnFrame.lean ====
/- The feed-forward network: the precondition read back as a bound on every entry of the page table, and from it the
   condition under which the kernel's pipeline runs (every page it names lies in the pool), hence the kernel's frames. -/
module

public import proofs.«01_k».proof.Defs
public import proofs.«01_k».proof.Proof.FfnRun
public import proofs.«01_k».proof.Proof.FfnRunBits
public import Idealize.ShloMosaic.Lib.ReduceAll
public import Idealize.ShloMosaic.Lib.Pipeline.ValueKit

@[expose] public section

set_option maxRecDepth 16384

noncomputable section

namespace Cert.FfnVal
open Idealize.ShloMosaic Idealize.ShloMosaic.TcCoe Idealize.SL.Sem

/-- An array without axes has one index. -/
instance : Subsingleton Cert.Pre_pages_in_pool.S_.Idx := ⟨fun a b => funext fun i => i.elim0⟩

/-- A word that is not negative and less than 5120, both as signed numbers, is less than 5120 as a natural number. -/
theorem word_lt (w : BitVec 32) (h0 : IntOp.cmpi .sge w 0#32 = 1#1) (h1 : IntOp.cmpi .slt w 5120#32 = 1#1) : w.toNat < 5120 := by
  have ofBool_eq_one (p : Bool) : (BitVec.ofBool p = 1#1) ↔ p = true := by cases p <;> decide
  simp only [IntOp.cmpi, ofBool_eq_one, BitVec.sle, BitVec.slt, decide_eq_true_eq, BitVec.toInt, BitVec.toNat_ofNat] at h0 h1
  omega

variable [Cert.Pre_pages_in_pool.Facts] {F : FTy → Type} [FloatOps F]

/-- The precondition bounds every entry of the page table by the number of pages in the pool. -/
theorem pre_pages (x0 x1 : FVec F Cert.Pre_pages_in_pool.S8192x2048 .f32) (x2 : FVec F Cert.Pre_pages_in_pool.S2048x11264 .f32)
    (x3 : FVec F Cert.Pre_pages_in_pool.S5632x2048 .f32) (x4 : FVec F Cert.Pre_pages_in_pool.S1x2048 .f32)
    (x5 : IVec Cert.Pre_pages_in_pool.S32x128 32) (x6 : FVec F Cert.Pre_pages_in_pool.S1x5120x128x16x128 .f32)
    (h : Cert.Pre_pages_in_pool.fn x0 x1 x2 x3 x4 x5 x6 = fun _ => 1#1) (i : Cert.Pre_pages_in_pool.S32x128.Idx) :
    (x5 i).toNat < 5120 := by
  have e := congrFun h (fun i => i.elim0)
  dsimp only [Cert.Pre_pages_in_pool.fn] at e
  have k := Host.reduce_andi_all _ _ _ _ _ e i
  simp only [andi, IntOp.andi_eq_one] at k
  exact word_lt _ k.1 k.2

section bits
open Cert.Ffn Cert.Ffn.Gen

/-- If every page of the table is in the pool, the kernel's page windows stay inside the pool. -/
theorem ok_of_bound (m : (ℓ : Loc nD τ sig) → Buf (Elt F) ℓ) (h : ∀ x, (tbl m 0 x : BitVec 32).toNat < 5120) : Ok m := by
  refine ⟨fun i => ⟨fun a => ?_, .inl rfl⟩, fun i => ⟨fun a => ?_, .inl rfl⟩, fun i => ⟨fun a => ?_, .inl rfl⟩⟩ <;>
  match a with
  | 0 => exact (by decide : (0 + 1) * 1 ≤ 1)
  | 1 =>
    have k : ∀ w : BitVec 32, w.toNat < 5120 → (w.toNat + 1) * 1 ≤ 5120 := fun w h => by omega
    exact k _ (h _)
  | 2 => exact (by decide : (0 + 1) * 128 ≤ 128)
  | 3 => exact (by decide : (0 + 1) * 16 ≤ 16)
  | 4 => exact (by decide : (0 + 1) * 128 ≤ 128)

/-- The table the kernel reads is the page table, row after row. -/
theorem V_table (m : (ℓ : Loc nD τ sig) → Buf (Elt F) ℓ) (c : Dev nD) :
    V m c main_v3 = shapeCast _ (m ((c : Thread nD τ).loc main_arg5)) shapeCasts_S32x128_S4096 := by
  entry_read; rfl

/-- The precondition gives the condition under which the pipeline runs. -/
theorem ok_of_pre (m : (ℓ : Loc nD τ sig) → Buf (Elt Bits) ℓ) (h : Cert.Pre_Ffn m) : Ok m :=
  ok_of_bound m fun x => by
    show (V m 0 main_v3 x : BitVec 32).toNat < 5120
    rw [V_table]
    exact pre_pages _ _ _ _ _ _ _ (h 0) _

/-- The kernel's frame. -/
theorem frame : Cert.quiescent_Ffn :=
  fun m ρ h => Cert.Ffn.Run.frame m ρ (ok_of_pre m h)

end bits

section ideal
open Cert.FfnIdeal Cert.FfnIdeal.Gen

/-- If every page of the table is in the pool, the kernel's page windows stay inside the pool (the kernel read at the reals). -/
theorem ok_of_bound_ideal (m : (ℓ : Loc nD τ sig) → Buf (Elt F) ℓ) (h : ∀ x, (tbl m 0 x : BitVec 32).toNat < 5120) : Ok m :=
  by
  refine ⟨fun i => ⟨fun a => ?_, .inl rfl⟩, fun i => ⟨fun a => ?_, .inl rfl⟩, fun i => ⟨fun a => ?_, .inl rfl⟩⟩ <;>
  match a with
  | 0 => exact (by decide : (0 + 1) * 1 ≤ 1)
  | 1 =>
    have k : ∀ w : BitVec 32, w.toNat < 5120 → (w.toNat + 1) * 1 ≤ 5120 := fun w h => by omega
    exact k _ (h _)
  | 2 => exact (by decide : (0 + 1) * 128 ≤ 128)
  | 3 => exact (by decide : (0 + 1) * 16 ≤ 16)
  | 4 => exact (by decide : (0 + 1) * 128 ≤ 128)

/-- The table the kernel reads is the page table, row after row. -/
theorem V_table_ideal (m : (ℓ : Loc nD τ sig) → Buf (Elt F) ℓ) (c : Dev nD) :
    V m c main_v3 = shapeCast _ (m ((c : Thread nD τ).loc main_arg5)) shapeCasts_S32x128_S4096 := by
  entry_read; rfl

/-- The precondition gives the condition under which the pipeline runs. -/
theorem ok_of_pre_ideal (m : (ℓ : Loc nD τ sig) → Buf (Elt Ideal) ℓ) (h : Cert.Pre_FfnIdeal m) : Ok m :=
  ok_of_bound_ideal m fun x => by
    show (V m 0 main_v3 x : BitVec 32).toNat < 5120
    rw [V_table_ideal]
    exact pre_pages _ _ _ _ _ _ _ (h 0) _

/-- The frame of the kernel read at the reals. -/
theorem frame_ideal : Cert.quiescent_FfnIdeal :=
  fun m ρ h => Cert.FfnIdeal.Run.frame m ρ (ok_of_pre_ideal m h)

end ideal

end Cert.FfnVal
end
-- ==== Proof.FfnOut.lean ====
/- The feed-forward kernel: what each point leaves, as the body's arithmetic over the point's input blocks. -/
module

public import proofs.«01_k».proof.Proof.FfnRun
public import Idealize.ShloMosaic.Lib.Pipeline.ValueKit
public import Idealize.ShloMosaic.Lib.Pipeline.ReadBack
public import Idealize.ShloMosaic.Lib.Pointwise
public import Idealize.ShloMosaic.Lib.MatmulPlain

@[expose] public section

set_option maxRecDepth 16384

noncomputable section

namespace Cert.FfnVal
open Idealize.ShloMosaic Idealize.ShloMosaic.TcCoe Idealize.SL.Sem
open Cert.FfnIdeal Cert.FfnIdeal.Gen Cert.FfnIdeal.Run

variable (m : (ℓ : Loc nD τ sig) → Buf (Elt Ideal) ℓ)

/-- The residual's block at a point, -/
def bx (hO : Ok m) (c : Dev nD) (t : Fin (cfgM m hO).N) : Vec Ideal S512x2048 .f32 := iblk m hO c 0 t

/-- the activations', -/
def bh (hO : Ok m) (c : Dev nD) (t : Fin (cfgM m hO).N) : Vec Ideal S512x2048 .bf16 := iblk m hO c 1 t

/-- the gate weights', -/
def bg (hO : Ok m) (c : Dev nD) (t : Fin (cfgM m hO).N) : Vec Ideal S2048x256 .bf16 := iblk m hO c 2 t

/-- the up weights', -/
def bu (hO : Ok m) (c : Dev nD) (t : Fin (cfgM m hO).N) : Vec Ideal S2048x256 .bf16 := iblk m hO c 3 t

/-- the down weights', -/
def bd (hO : Ok m) (c : Dev nD) (t : Fin (cfgM m hO).N) : Vec Ideal S256x2048 .bf16 := iblk m hO c 4 t

/-- the gain's. -/
def bn (hO : Ok m) (c : Dev nD) (t : Fin (cfgM m hO).N) : Vec Ideal S1x2048 .f32 := iblk m hO c 5 t

/-- The step of equal blocks is equal. -/
theorem step_congr {h h' : Vec Ideal S512x2048 .bf16} {g g' u u' : Vec Ideal S2048x256 .bf16} {a a' : Vec Ideal S512x2048 .f32} {d d' : Vec Ideal S256x2048 .bf16}
    (eh : h = h') (eg : g = g') (eu : u = u') (ea : a = a') (ed : d = d') : k0_pay6 h g u a d = k0_pay6 h' g' u' a' d' := by
  rw [eh, eg, eu, ea, ed]

/-- So is the rows' result. -/
theorem rows_congr {x x' a a' : Vec Ideal S512x2048 .f32} (ex : x = x') (ea : a = a') : k0_pay3 x a = k0_pay3 x' a' := by
  rw [ex, ea]

/-- So is the rows' normalised result. -/
theorem normed_congr {x x' a a' : Vec Ideal S512x2048 .f32} {g g' : Vec Ideal S1x2048 .f32} (ex : x = x') (ea : a = a') (eg : g = g') :
    k0_pay4 x a g = k0_pay4 x' a' g' := by
  rw [ex, ea, eg]

/-- The first point of a row block leaves in the accumulator the step from zeros. -/
theorem scratch_A (hO : Ok m) (c : Dev nD) (t : Fin (cfgM m hO).N) (h0 : t.val % 22 = 0) (h1 : ¬t.val % 22 = 21) :
    (leftA m hO c t h0 h1).2.2.2 = k0_pay6 (bh m hO c t) (bg m hO c t) (bu m hO c t) (k0_pay5 (F := Ideal)) (bd m hO c t) := by
  unfold leftA runA
  frame_out
  exact step_congr ((hs0_1 m hO t).read_unread _) ((hs0_2 m hO t).read_unread _) ((hs0_3 m hO t).read_unread _) rfl ((hs0_4 m hO t).read_unread _)

/-- A middle point steps it. -/
theorem scratch_B (hO : Ok m) (c : Dev nD) (t : Fin (cfgM m hO).N) (h0 : ¬t.val % 22 = 0) (h1 : ¬t.val % 22 = 21) (xs : Vec Ideal S512x2048 .f32) :
    (leftB m hO c t h0 h1 xs).2.2.2 = k0_pay6 (bh m hO c t) (bg m hO c t) (bu m hO c t) xs (bd m hO c t) := by
  unfold leftB runB
  frame_out
  simp only [read_unread_whole]
  exact step_congr ((hs0_1 m hO t).read_unread _) ((hs0_2 m hO t).read_unread _) ((hs0_3 m hO t).read_unread _) rfl ((hs0_4 m hO t).read_unread _)

/-- So does the last point, -/
theorem scratch_C (hO : Ok m) (c : Dev nD) (t : Fin (cfgM m hO).N) (h0 : ¬t.val % 22 = 0) (h1 : t.val % 22 = 21) (xs : Vec Ideal S512x2048 .f32) :
    (leftC m hO c t h0 h1 xs).2.2.2 = k0_pay6 (bh m hO c t) (bg m hO c t) (bu m hO c t) xs (bd m hO c t) := by
  unfold leftC runC
  frame_out
  simp only [read_unread_whole]
  exact step_congr ((hs0_1 m hO t).read_unread _) ((hs0_2 m hO t).read_unread _) ((hs0_3 m hO t).read_unread _) rfl ((hs0_4 m hO t).read_unread _)

/-- which also writes the rows' result -/
theorem rows_C (hO : Ok m) (c : Dev nD) (t : Fin (cfgM m hO).N) (h0 : ¬t.val % 22 = 0) (h1 : t.val % 22 = 21) (xs : Vec Ideal S512x2048 .f32) :
    (leftC m hO c t h0 h1 xs).1 = k0_pay3 (bx m hO c t) (k0_pay6 (bh m hO c t) (bg m hO c t) (bu m hO c t) xs (bd m hO c t)) := by
  unfold leftC runC
  frame_out
  simp only [read_unread_whole]
  exact rows_congr ((hs0_0 m hO t).read_unread _) (step_congr ((hs0_1 m hO t).read_unread _) ((hs0_2 m hO t).read_unread _) ((hs0_3 m hO t).read_unread _) rfl ((hs0_4 m hO t).read_unread _))

/-- and the rows' normalised result. -/
theorem normed_C (hO : Ok m) (c : Dev nD) (t : Fin (cfgM m hO).N) (h0 : ¬t.val % 22 = 0) (h1 : t.val % 22 = 21) (xs : Vec Ideal S512x2048 .f32) :
    (leftC m hO c t h0 h1 xs).2.1 = k0_pay4 (bx m hO c t) (k0_pay6 (bh m hO c t) (bg m hO c t) (bu m hO c t) xs (bd m hO c t)) (bn m hO c t) := by
  unfold leftC runC
  frame_out
  simp only [read_unread_whole]
  exact normed_congr ((hs0_0 m hO t).read_unread _) (step_congr ((hs0_1 m hO t).read_unread _) ((hs0_2 m hO t).read_unread _) ((hs0_3 m hO t).read_unread _) rfl ((hs0_4 m hO t).read_unread _)) ((hs0_5 m hO t).read_unread _)

end Cert.FfnVal
end
-- ==== Proof.FfnRows.lean ====
/- The feed-forward kernel: the rows' results. The accumulator at the last point of a row block is the whole contraction over
   the hidden width, so the two arrays of rows are the reference's. -/
module

public import proofs.«01_k».proof.Proof.FfnOut
public import proofs.«01_k».proof.Proof.Gen.FfnRefIdeal.Read
public import Idealize.ShloMosaic.Lib.Pipeline.Covers

@[expose] public section

set_option maxRecDepth 16384

noncomputable section

namespace Cert.FfnVal
open Idealize.ShloMosaic Idealize.ShloMosaic.TcCoe Idealize.SL.Sem
open Cert.FfnIdeal Cert.FfnIdeal.Gen Cert.FfnIdeal.Run

variable (m : (ℓ : Loc nD τ sig) → Buf (Elt Ideal) ℓ)

/-- The block index of every window whose index map reads no table, at every point of the grid. -/
theorem idx (hO : Ok m) (t : Fin (cfgM m hO).N) : ((cfgM m hO).win 0).index t = ![t.val / 22, 0]
    ∧ ((cfgM m hO).win 1).index t = ![t.val / 22, 0] ∧ ((cfgM m hO).win 2).index t = ![0, t.val % 22]
    ∧ ((cfgM m hO).win 3).index t = ![0, t.val % 22 + 22] ∧ ((cfgM m hO).win 4).index t = ![t.val % 22, 0]
    ∧ ((cfgM m hO).win 5).index t = ![0, 0] ∧ ((cfgM m hO).win 9).index t = ![t.val / 22, 0]
    ∧ ((cfgM m hO).win 10).index t = ![t.val / 22, 0] ∧ ((cfgM m hO).win 11).index t = ![t.val, 0, 0, 0] := by
  have k : ∀ t : Fin grid0.N, cc0_transform_0 (grid0.coords t) = ![t.val / 22, 0] ∧ cc0_transform_1 (grid0.coords t) = ![t.val / 22, 0]
    ∧ cc0_transform_2 (grid0.coords t) = ![0, t.val % 22] ∧ cc0_transform_3 (grid0.coords t) = ![0, t.val % 22 + 22]
    ∧ cc0_transform_4 (grid0.coords t) = ![t.val % 22, 0] ∧ cc0_transform_5 (grid0.coords t) = ![0, 0]
    ∧ cc0_transform_9 (grid0.coords t) = ![t.val / 22, 0] ∧ cc0_transform_10 (grid0.coords t) = ![t.val / 22, 0]
    ∧ cc0_transform_11 (grid0.coords t) = ![t.val, 0, 0, 0] := by decide +kernel
  exact k t

/-- The residual the kernel reads is the argument. -/
theorem V_x (c : Dev nD) : V m c main_arg0 = m ((c : Thread nD τ).loc main_arg0) := by
  entry_read
  rfl

/-- The activations the kernel reads are the argument (its cast is the identity here), -/
theorem V_h (c : Dev nD) : V m c main_v0 = m ((c : Thread nD τ).loc main_arg1) := by
  entry_read
  rfl

/-- so are the gate's and up's weights, -/
theorem V_w (c : Dev nD) : V m c main_v1 = m ((c : Thread nD τ).loc main_arg2) := by
  entry_read
  rfl

/-- the down weights -/
theorem V_d (c : Dev nD) : V m c main_v2 = m ((c : Thread nD τ).loc main_arg3) := by
  entry_read
  rfl

/-- and the gain. -/
theorem V_g (c : Dev nD) : V m c main_arg4 = m ((c : Thread nD τ).loc main_arg4) := by
  entry_read
  rfl

/-- One step of the accumulator, at an index. -/
theorem pay6_apply (x1 : Vec Ideal S512x2048 .bf16) (x2 x3 : Vec Ideal S2048x256 .bf16) (a : Vec Ideal S512x2048 .f32) (x4 : Vec Ideal S256x2048 .bf16)
    (r : Fin 512) (q : Fin 2048) : k0_pay6 x1 x2 x3 a x4 (ix2 r q) = a (ix2 r q) + ∑ k : Fin 256,
      ((∑ j : Fin 2048, x1 (ix2 r j) * x2 (ix2 j k)) * Ideal.logistic (∑ j : Fin 2048, x1 (ix2 r j) * x2 (ix2 j k))
        * ∑ j : Fin 2048, x1 (ix2 r j) * x3 (ix2 j k)) * x4 (ix2 k q) := by
  unfold k0_pay6
  pointwise

/-- The accumulator is reset to zero. -/
theorem pay5_apply (i : S512x2048.Idx) : k0_pay5 (F := Ideal) i = 0 := by
  unfold k0_pay5
  idx_vars i
  pointwise

/-- The rows' result, at an index. -/
theorem pay3_apply (x a : Vec Ideal S512x2048 .f32) (r : Fin 512) (q : Fin 2048) :
    k0_pay3 x a (ix2 r q) = x (ix2 r q) + Ideal.ofBits FTy.f32 0x3F000000#32 * a (ix2 r q) := by
  unfold k0_pay3
  pointwise

/-- The rows' normalised result, at an index. -/
theorem pay4_apply (x a : Vec Ideal S512x2048 .f32) (g : Vec Ideal S1x2048 .f32) (r : Fin 512) (q : Fin 2048) :
    k0_pay4 x a g (ix2 r q) = k0_pay3 x a (ix2 r q)
      * Ideal.rsqrt (Ideal.div (∑ j : Fin 2048, k0_pay3 x a (ix2 r j) * k0_pay3 x a (ix2 r j)) (Ideal.ofBits FTy.f32 0x45000000#32)
          + Ideal.ofBits FTy.f32 0x358637BD#32) * g (ix2 0 q) := by
  unfold k0_pay4
  pointwise

open Cert.FfnRefIdeal.Read in
/-- The reference's hidden activation, at an index. -/
theorem act_apply (h : Vec Ideal S8192x2048 .f32) (w : Vec Ideal S2048x11264 .f32) (n : Fin 8192) (l : Fin 5632) :
    val_main_v10 (F := Ideal) h w (ix2 n l) =
      (∑ j : Fin 2048, h (ix2 n j) * w (ix2 j ⟨l.val, by omega⟩)) * Ideal.logistic (∑ j : Fin 2048, h (ix2 n j) * w (ix2 j ⟨l.val, by omega⟩))
        * ∑ j : Fin 2048, h (ix2 n j) * w (ix2 j ⟨5632 + l.val, by omega⟩) := by
  unfold val_main_v10 val_main_v9 val_main_v8 val_main_v7 val_main_v6 val_main_v5 val_main_v4 val_main_v3 val_main_v2 val_main_v1 val_main_v0
    val_main_cst val_main_cst_0
  pointwise
  rfl

open Cert.FfnRefIdeal.Read in
/-- The reference's rows, at an index. -/
theorem ref14_apply (x h : Vec Ideal S8192x2048 .f32) (w : Vec Ideal S2048x11264 .f32) (d : Vec Ideal S5632x2048 .f32) (n : Fin 8192) (q : Fin 2048) :
    val_main_v14 (F := Ideal) x h w d (ix2 n q) = x (ix2 n q) + Ideal.ofBits FTy.f32 0x3F000000#32
      * ∑ l : Fin 5632, val_main_v10 (F := Ideal) h w (ix2 n l) * d (ix2 l q) := by
  unfold val_main_v14 val_main_v13 val_main_v12 val_main_v11 val_main_cst_1
  pointwise

open Cert.FfnRefIdeal.Read in
/-- The reference's normalised rows, at an index. -/
theorem ref38_apply (x h : Vec Ideal S8192x2048 .f32) (w : Vec Ideal S2048x11264 .f32) (d : Vec Ideal S5632x2048 .f32) (g : Vec Ideal S1x2048 .f32)
    (n : Fin 8192) (q : Fin 2048) :
    val_main_v38 (F := Ideal) x h w d g (ix2 n q) = val_main_v14 (F := Ideal) x h w d (ix2 n q)
      * Ideal.rsqrt (Ideal.div (∑ j : Fin 2048, val_main_v14 (F := Ideal) x h w d (ix2 n j) * val_main_v14 (F := Ideal) x h w d (ix2 n j))
          (Ideal.ofBits FTy.f32 0x45000000#32) + Ideal.ofBits FTy.f32 0x358637BD#32) * g (ix2 0 q) := by
  unfold val_main_v38 val_main_v37 val_main_v36 val_main_v35 val_main_v34 val_main_v33 val_main_v32 val_main_v31 val_main_v30 val_main_v29
    val_main_v28 val_main_v27 val_main_v26 val_main_cst_4 val_main_cst_5 val_main_cst_6
  pointwise

/-- The term the point `t` adds to the accumulator. -/
def term (hO : Ok m) (c : Dev nD) (t : Fin (cfgM m hO).N) (i : S512x2048.Idx) : EReal :=
  k0_pay6 (bh m hO c t) (bg m hO c t) (bu m hO c t) (fun _ => (0 : EReal)) (bd m hO c t) i

/-- A step adds the term. -/
theorem step_add (hO : Ok m) (c : Dev nD) (t : Fin (cfgM m hO).N) (a : Vec Ideal S512x2048 .f32) (i : S512x2048.Idx) :
    k0_pay6 (bh m hO c t) (bg m hO c t) (bu m hO c t) a (bd m hO c t) i = a i + term m hO c t i := by
  unfold term
  idx_vars i
  rw [pay6_apply, pay6_apply, zero_add]

/-- At the last point of a row block the accumulator holds the sum of the block's 22 terms. -/
theorem acc_sum (hO : Ok m) (c : Dev nD) (t : Fin (cfgM m hO).N) (hr : t.val % 22 = 21) (i : S512x2048.Idx) :
    (left m hO c t.val t.isLt).2.2.2 i
      = 0 + ∑ s : Fin 22, term m hO c ⟨22 * (t.val / 22) + s.val, Pipeline.run_point_lt_of_flush t hr s⟩ i :=
  Pipeline.eq_sum_fin_of_reset_step_apply_of_flush (fun n h => (left m hO c n h).2.2.2) 22 (fun _ => (0 : EReal)) (term m hO c)
    (fun t h j => by
      show (left m hO c t.val t.isLt).2.2.2 j = _
      rw [left_A m hO c t h (by omega), scratch_A, step_add, pay5_apply])
    (fun t h j => by
      show (left m hO c t.val t.isLt).2.2.2 j = _
      by_cases h1 : t.val % 22 = 21
      · rw [left_C m hO c t h h1, scratch_C, step_add]
      · rw [left_B m hO c t h h1, scratch_B, step_add])
    t hr i

/-- So it holds the reference's contraction over the whole hidden width. -/
theorem acc_eq (hO : Ok m) (c : Dev nD) (t : Fin (cfgM m hO).N) (hr : t.val % 22 = 21) (r : Fin 512) (q : Fin 2048) (n : Fin 8192)
    (hn : n.val = t.val / 22 * 512 + r.val) :
    (left m hO c t.val t.isLt).2.2.2 (ix2 r q) = ∑ l : Fin 5632,
      Cert.FfnRefIdeal.Read.val_main_v10 (F := Ideal) (m ((c : Thread nD τ).loc main_arg1)) (m ((c : Thread nD τ).loc main_arg2)) (ix2 n l)
        * (m ((c : Thread nD τ).loc main_arg3) : Vec Ideal S5632x2048 .f32) (ix2 l q) := by
  rw [acc_sum m hO c t hr, zero_add]
  unfold term
  simp only [pay6_apply, zero_add, act_apply]
  refine Fin.sum_mul_add_congr (L := 5632) (S := 22) (n := 256) (fun s k hl => ?_) rfl
  have e := idx m hO ⟨22 * (t.val / 22) + s.val, Pipeline.run_point_lt_of_flush t hr s⟩
  have es : (22 * (t.val / 22) + s.val) / 22 = t.val / 22 := by omega
  have em : (22 * (t.val / 22) + s.val) % 22 = s.val := by omega
  simp only [es, em] at e
  have e1 : ∀ j : Fin 2048, bh m hO c ⟨22 * (t.val / 22) + s.val, Pipeline.run_point_lt_of_flush t hr s⟩ (ix2 r j)
      = (m ((c : Thread nD τ).loc main_arg1) : Vec Ideal S8192x2048 .f32) (ix2 n j) := fun j => by
    refine Eq.trans (b := V m c main_v0 (ix2 n j)) ?_ (congrFun (V_h m c) _)
    unfold bh
    blk_ext [iblk, e]
  have e2 : ∀ j : Fin 2048, bg m hO c ⟨22 * (t.val / 22) + s.val, Pipeline.run_point_lt_of_flush t hr s⟩ (ix2 j k)
      = (m ((c : Thread nD τ).loc main_arg2) : Vec Ideal S2048x11264 .f32) (ix2 j ⟨s.val * 256 + k.val, by omega⟩) := fun j => by
    refine Eq.trans (b := V m c main_v1 (ix2 j ⟨s.val * 256 + k.val, by omega⟩)) ?_ (congrFun (V_w m c) _)
    unfold bg
    blk_ext [iblk, e]
  have e3 : ∀ j : Fin 2048, bu m hO c ⟨22 * (t.val / 22) + s.val, Pipeline.run_point_lt_of_flush t hr s⟩ (ix2 j k)
      = (m ((c : Thread nD τ).loc main_arg2) : Vec Ideal S2048x11264 .f32) (ix2 j ⟨5632 + (s.val * 256 + k.val), by omega⟩) := fun j => by
    refine Eq.trans (b := V m c main_v1 (ix2 j ⟨5632 + (s.val * 256 + k.val), by omega⟩)) ?_ (congrFun (V_w m c) _)
    unfold bu
    blk_ext [iblk, e]
  have e4 : bd m hO c ⟨22 * (t.val / 22) + s.val, Pipeline.run_point_lt_of_flush t hr s⟩ (ix2 k q)
      = (m ((c : Thread nD τ).loc main_arg3) : Vec Ideal S5632x2048 .f32) (ix2 ⟨s.val * 256 + k.val, hl⟩ q) := by
    refine Eq.trans (b := V m c main_v2 (ix2 ⟨s.val * 256 + k.val, hl⟩ q)) ?_ (congrFun (V_d m c) _)
    unfold bd
    blk_ext [iblk, e]
  simp only [e1, e2, e3, e4]

/-- The rows' result at an index of a block. -/
theorem rows_eq (hO : Ok m) (c : Dev nD) (t : Fin (cfgM m hO).N) (hr : t.val % 22 = 21) (r : Fin 512) (q : Fin 2048) (n : Fin 8192)
    (hn : n.val = t.val / 22 * 512 + r.val) :
    k0_pay3 (bx m hO c t) (left m hO c t.val t.isLt).2.2.2 (ix2 r q) = Cert.FfnRefIdeal.Read.val_main_v14 (F := Ideal)
      (m ((c : Thread nD τ).loc main_arg0)) (m ((c : Thread nD τ).loc main_arg1)) (m ((c : Thread nD τ).loc main_arg2)) (m ((c : Thread nD τ).loc main_arg3)) (ix2 n q) := by
  have e := idx m hO t
  have e0 : bx m hO c t (ix2 r q) = V m c main_arg0 (ix2 n q) := by unfold bx; blk_ext [iblk, e]
  rw [pay3_apply, ref14_apply, acc_eq m hO c t hr r q n hn, e0, V_x]

/-- What the last point of a row block leaves in the rows' result -/
theorem left_rows (hO : Ok m) (c : Dev nD) (t : Fin (cfgM m hO).N) (hr : t.val % 22 = 21) :
    (left m hO c t.val t.isLt).1 = k0_pay3 (bx m hO c t) (left m hO c t.val t.isLt).2.2.2 := by
  rw [left_C m hO c t (by omega) hr, rows_C, scratch_C]

/-- and in the normalised one. -/
theorem left_normed (hO : Ok m) (c : Dev nD) (t : Fin (cfgM m hO).N) (hr : t.val % 22 = 21) :
    (left m hO c t.val t.isLt).2.1 = k0_pay4 (bx m hO c t) (left m hO c t.val t.isLt).2.2.2 (bn m hO c t) := by
  rw [left_C m hO c t (by omega) hr, normed_C, scratch_C]

/-- Every block of 512 rows is written at some point. -/
theorem rows_surj (f : grid0.Coords → Fin 2 → ℕ) (hf : ∀ t : Fin grid0.N, f (grid0.coords t) = ![t.val / 22, 0])
    (b0 b1 : ℕ) (h : b0 < 16) (h1 : b1 < 1) : ∃ t : Fin grid0.N, f (grid0.coords t) 0 = b0 ∧ f (grid0.coords t) 1 = b1 := by
  refine ⟨⟨22 * b0, by rw [N_0]; omega⟩, ?_⟩
  rw [hf]
  exact ⟨by show 22 * b0 / 22 = b0; omega, by show 0 = b1; omega⟩

/-- The number of blocks along an axis, by the sizes. -/
theorem nblk_eq {a b a' b' n : ℕ} (ha : a = a') (hb : b = b') (h : (a' + b' - 1) / b' = n) : (a + b - 1) / b = n := by
  rw [ha, hb, h]

/-- The blocks of the rows' result cover it. -/
theorem covers_9 (hO : Ok m) : ((cfgM m hO).win 9).Covers :=
  Pipeline.Window.covers_of_index_surj _ rfl (by decide : ∀ a : Fin 2, 0 < (![512, 2048] : Fin 2 → ℕ) a) fun β => by
    obtain ⟨t, h0, h1⟩ := rows_surj cc0_transform_9 (fun t => (idx m hO t).2.2.2.2.2.2.1) _ _ ((β (0 : Fin 2)).isLt.trans_eq (nblk_eq (a' := 8192) (b' := 512) rfl rfl rfl)) ((β (1 : Fin 2)).isLt.trans_eq (nblk_eq (a' := 2048) (b' := 2048) rfl rfl rfl))
    exact ⟨t, fun (a : Fin 2) => match a with | 0 => h0 | 1 => h1⟩

/-- So do those of the normalised one. -/
theorem covers_10 (hO : Ok m) : ((cfgM m hO).win 10).Covers :=
  Pipeline.Window.covers_of_index_surj _ rfl (by decide : ∀ a : Fin 2, 0 < (![512, 2048] : Fin 2 → ℕ) a) fun β => by
    obtain ⟨t, h0, h1⟩ := rows_surj cc0_transform_10 (fun t => (idx m hO t).2.2.2.2.2.2.2.1) _ _ ((β (0 : Fin 2)).isLt.trans_eq (nblk_eq (a' := 8192) (b' := 512) rfl rfl rfl)) ((β (1 : Fin 2)).isLt.trans_eq (nblk_eq (a' := 2048) (b' := 2048) rfl rfl rfl))
    exact ⟨t, fun (a : Fin 2) => match a with | 0 => h0 | 1 => h1⟩

/-- The kernel's array of rows is the reference's. -/
theorem arr9 (hO : Ok m) (c : Dev nD) : (dats m hO 0 c).arrAt 9 (cfgM m hO).N = Cert.FfnRefIdeal.Read.val_main_v14 (F := Ideal)
    (m ((c : Thread nD τ).loc main_arg0)) (m ((c : Thread nD τ).loc main_arg1)) (m ((c : Thread nD τ).loc main_arg2)) (m ((c : Thread nD τ).loc main_arg3)) := by
  refine (dats m hO 0 c).arrAt_eq_of_covers 9 _ (covers_9 m hO) fun t hf (y : S512x2048.Idx) => ?_
  have hr := (flush0_9 _ t).mp hf
  have ht : t.val < 352 := t.isLt.trans_eq N_0
  rw [after_9, left_rows m hO c t hr]
  have e := idx m hO t
  idx_vars y
  blk_simp
  refine (rows_eq m hO c t hr y0 y1 ⟨t.val / 22 * 512 + y0.val, by omega⟩ rfl).trans ?_
  blk_ext [e]

/-- And the normalised array is the reference's. -/
theorem arr10 (hO : Ok m) (c : Dev nD) : (dats m hO 0 c).arrAt 10 (cfgM m hO).N = Cert.FfnRefIdeal.Read.val_main_v38 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m hO 0 c).arrAt_eq_of_covers 10 _ (covers_10 m hO) fun t hf (y : S512x2048.Idx) => ?_
  have hr := (flush0_10 _ t).mp hf
  have ht : t.val < 352 := t.isLt.trans_eq N_0
  rw [after_10, left_normed m hO c t hr]
  have e := idx m hO t
  idx_vars y
  blk_simp
  have e5 : bn m hO c t (ix2 0 y1) = (m ((c : Thread nD τ).loc main_arg4) : Vec Ideal S1x2048 .f32) (ix2 0 y1) := by
    refine Eq.trans (b := V m c main_arg4 (ix2 0 y1)) ?_ (congrFun (V_g m c) _)
    unfold bn
    blk_ext [iblk, e]
  have hrow := fun j => rows_eq m hO c t hr y0 j ⟨t.val / 22 * 512 + y0.val, by omega⟩ rfl
  refine (pay4_apply _ _ _ y0 y1).trans (Eq.trans ?_ ((ref38_apply (m ((c : Thread nD τ).loc main_arg0)) (m ((c : Thread nD τ).loc main_arg1)) (m ((c : Thread nD τ).loc main_arg2)) (m ((c : Thread nD τ).loc main_arg3)) (m ((c : Thread nD τ).loc main_arg4)) ⟨t.val / 22 * 512 + y0.val, by omega⟩ y1).symm.trans ?_))
  · simp only [hrow, e5]
  · blk_ext [e]

end Cert.FfnVal
end
-- ==== Proof.FfnPages.lean ====
/- The feed-forward kernel: the page sums' result. At each point the body sums three pages over their rows, the pages a table
   names; the array of the sums is the reference's sums of all pages, gathered through the table. -/
module

public import proofs.«01_k».proof.Proof.FfnRows

@[expose] public section

set_option maxRecDepth 16384

noncomputable section

namespace Cert.FfnVal
open Idealize.ShloMosaic Idealize.ShloMosaic.TcCoe Idealize.SL.Sem

section reference
open Cert.FfnRefIdeal Cert.FfnRefIdeal.Read

/-- The gather of whole pages' sums, at an index. -/
theorem gather_page (x : Vec Ideal S5120x16x128 .f32) (idx : IVec S1056x1 32) (p : Fin 1056) (a : Fin 16) (b : Fin 128) (n : Fin 5120)
    (h : min (idx (ix2 p 0)).toInt.toNat 5119 = n.val) :
    Host.gather gather_S5120x16x128_S1056x1_S1056x16x128_12_0_n_n_0_1_116128 x idx (ix3 p a b) = x (ix3 n a b) := by
  unfold Host.gather
  congr 1
  funext k
  refine Fin.ext ?_
  have hb : ∀ k, gather_S5120x16x128_S1056x1_S1056x16x128_12_0_n_n_0_1_116128.batchCoord (ix3 p a b) k = 0 := fun k =>
    GatherDims.batchCoord_eq_zero _ _ _ List.not_mem_nil
  show gather_S5120x16x128_S1056x1_S1056x16x128_12_0_n_n_0_1_116128.start (ix3 p a b) idx k
    + gather_S5120x16x128_S1056x1_S1056x16x128_12_0_n_n_0_1_116128.batchCoord (ix3 p a b) k
    + gather_S5120x16x128_S1056x1_S1056x16x128_12_0_n_n_0_1_116128.offCoord (ix3 p a b) k = _
  rw [hb, Nat.add_zero]
  unfold GatherDims.start
  have h012 : k = (0 : Fin 3) ∨ k = (1 : Fin 3) ∨ k = (2 : Fin 3) := by
    match k with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl)), Nat.add_zero,
      dif_pos (show (0 : Fin 3) ∈ gather_S5120x16x128_S1056x1_S1056x16x128_12_0_n_n_0_1_116128.startIndexMap from List.mem_singleton.mpr rfl)]
    have hsi : gather_S5120x16x128_S1056x1_S1056x16x128_12_0_n_n_0_1_116128.siIdx (ix3 p a b) ⟨List.idxOf (0 : Fin 3) gather_S5120x16x128_S1056x1_S1056x16x128_12_0_n_n_0_1_116128.startIndexMap,
      List.idxOf_lt_length_iff.2 (List.mem_singleton.mpr rfl)⟩ = ix2 p 0 := by
      funext c; refine Fin.ext ?_
      match c with
      | ⟨0, _⟩ => rfl
      | ⟨1, _⟩ => rfl
    rw [hsi]
    exact h
  · rw [dif_neg (show (1 : Fin 3) ∉ gather_S5120x16x128_S1056x1_S1056x16x128_12_0_n_n_0_1_116128.startIndexMap from (by decide : (1 : Fin 3) ∉ [(0 : Fin 3)])), Nat.zero_add]
    unfold GatherDims.offCoord
    rw [dif_pos ((GatherDims.mem_sKept _ _).mpr ⟨(by decide : (1 : Fin 3) ∉ [(0 : Fin 3)]), List.not_mem_nil⟩)]
    rfl
  · rw [dif_neg (show (2 : Fin 3) ∉ gather_S5120x16x128_S1056x1_S1056x16x128_12_0_n_n_0_1_116128.startIndexMap from (by decide : (2 : Fin 3) ∉ [(0 : Fin 3)])), Nat.zero_add]
    unfold GatherDims.offCoord
    rw [dif_pos ((GatherDims.mem_sKept _ _).mpr ⟨(by decide : (2 : Fin 3) ∉ [(0 : Fin 3)]), List.not_mem_nil⟩)]
    rfl

/-- A word below the pool's size is its own row: it is not negative, and the clamp leaves it. -/
theorem word_row (w x : BitVec 32) (h : w.toNat < 5120) :
    min (Scalar.select (IntOp.cmpi .slt w 0#32) x w).toInt.toNat 5119 = w.toNat := by
  have hs : IntOp.cmpi .slt w 0#32 = 0#1 := by
    have : w.slt 0#32 = false := by
      simp only [BitVec.slt, decide_eq_false_iff_not, BitVec.toInt, BitVec.toNat_ofNat]
      omega
    simp only [IntOp.cmpi, this]
    rfl
  rw [hs]
  show min w.toInt.toNat 5119 = w.toNat
  simp only [BitVec.toInt]
  omega

/-- The reference's page sums, at an index: the rows of the page the table names, summed. -/
theorem ref39_apply (tb : IVec S32x128 32) (x : Vec Ideal S1x5120x128x16x128 .f32) (t : Fin 352) (r : Fin 3) (a : Fin 16) (b : Fin 128)
    (w : BitVec 32) (ew : val_main_v17 (F := Ideal) tb (ix1 ⟨3 * t.val + r.val, by omega⟩) = w) (h : w.toNat < 5120) :
    val_main_v39 (F := Ideal) tb x (ix4 t r a b) = ∑ k : Fin 128, x (ix5 0 ⟨w.toNat, h⟩ k a b) := by
  have e : idx_main_v39 (ix4 t r a b) = ix3 ⟨3 * t.val + r.val, by omega⟩ a b := by
    funext k
    refine Fin.ext ?_
    have ha := a.isLt
    have hb := b.isLt
    match k with
    | ⟨0, _⟩ => show (((t.val * 3 + r.val) * 16 + a.val) * 128 + b.val) / 2048 = 3 * t.val + r.val; omega
    | ⟨1, _⟩ => show (((t.val * 3 + r.val) * 16 + a.val) * 128 + b.val) / 128 % 16 = a.val; omega
    | ⟨2, _⟩ => show (((t.val * 3 + r.val) * 16 + a.val) * 128 + b.val) % 128 = b.val; omega
  rw [val_main_v39_apply, e]
  unfold val_main_v25
  have e18 : val_main_v18 (F := Ideal) tb (ix1 ⟨3 * t.val + r.val, by omega⟩) = w := by
    rw [val_main_v18_apply]
    exact ew
  rw [gather_page _ _ _ a b ⟨w.toNat, h⟩ (by
    rw [val_main_v24_apply]
    show min (Scalar.select (IntOp.cmpi .slt (val_main_v18 (F := Ideal) tb (ix1 ⟨3 * t.val + r.val, by omega⟩)) 0#32) _
      (val_main_v18 (F := Ideal) tb (ix1 ⟨3 * t.val + r.val, by omega⟩))).toInt.toNat 5119 = w.toNat
    rw [e18]
    exact word_row w _ h)]
  unfold val_main_v16 val_main_v15 val_main_cst_2
  pointwise

end reference

open Cert.FfnIdeal Cert.FfnIdeal.Gen Cert.FfnIdeal.Run

variable (m : (ℓ : Loc nD τ sig) → Buf (Elt Ideal) ℓ)

/-- One page's sum over its rows, at an index: the three stores' values. -/
theorem pay7_apply (x : Vec Ideal S1x1x128x16x128 .f32) (a : Fin 16) (b : Fin 128) :
    k0_pay7 x (ix4 0 0 a b) = ∑ k : Fin 128, x (ix5 0 0 k a b) := by
  unfold k0_pay7
  pointwise

/-- The second page's, -/
theorem pay1_apply (x : Vec Ideal S1x1x128x16x128 .f32) (a : Fin 16) (b : Fin 128) :
    k0_pay1 x (ix4 0 0 a b) = ∑ k : Fin 128, x (ix5 0 0 k a b) := pay7_apply x a b

/-- and the third's. -/
theorem pay2_apply (x : Vec Ideal S1x1x128x16x128 .f32) (a : Fin 16) (b : Fin 128) :
    k0_pay2 x (ix4 0 0 a b) = ∑ k : Fin 128, x (ix5 0 0 k a b) := pay7_apply x a b

/-- The block of three pages' sums. -/
def pages3 (x0 x1 x2 : Vec Ideal S1x1x128x16x128 .f32) : Vec Ideal S1x3x16x128 .f32 :=
  View.canon [⟨Rect.unit ![0, 2, 0, 0] ![1, 1, 16, 128] inb_S1x3x16x128_S1x1x16x128_0_2_0_0, k0_pay2 x2⟩,
    ⟨Rect.unit ![0, 1, 0, 0] ![1, 1, 16, 128] inb_S1x3x16x128_S1x1x16x128_0_1_0_0, k0_pay1 x1⟩,
    ⟨Rect.unit ![0, 0, 0, 0] ![1, 1, 16, 128] inb_S1x3x16x128_S1x1x16x128_0_0_0_0, k0_pay7 x0⟩]

/-- The page a point reads first, second and third. -/
def pg (x0 x1 x2 : Vec Ideal S1x1x128x16x128 .f32) (r : Fin 3) : Vec Ideal S1x1x128x16x128 .f32 := ![x0, x1, x2] r

/-- The block at an index. -/
theorem pages3_apply (x0 x1 x2 : Vec Ideal S1x1x128x16x128 .f32) (r : Fin 3) (a : Fin 16) (b : Fin 128) :
    pages3 x0 x1 x2 (ix4 0 r a b) = ∑ k : Fin 128, pg x0 x1 x2 r (ix5 0 0 k a b) := by
  unfold pages3
  canon_tiles x h
  all_goals
    have e2 : x 2 = a := Fin.ext h2.symm
    have e3 : x 3 = b := Fin.ext h3.symm
    have ex : x = ix4 0 0 a b := by
      funext k
      match k with
      | 0 => exact Subsingleton.elim (α := Fin 1) _ _
      | 1 => exact Subsingleton.elim (α := Fin 1) _ _
      | 2 => exact e2
      | 3 => exact e3
    replace h1 : r.val = _ := h1
    rw [ex]
  · obtain rfl : r = 2 := Fin.ext (by show r.val = 2; omega)
    exact pay2_apply x2 a b
  · obtain rfl : r = 1 := Fin.ext (by show r.val = 1; omega)
    exact pay1_apply x1 a b
  · obtain rfl : r = 0 := Fin.ext (by show r.val = 0; omega)
    exact pay7_apply x0 a b

/-- Equal pages have equal sums. -/
theorem pages_congr {x0 x1 x2 y0 y1 y2 : Vec Ideal S1x1x128x16x128 .f32} (e0 : x0 = y0) (e1 : x1 = y1) (e2 : x2 = y2) :
    pages3 x0 x1 x2 = pages3 y0 y1 y2 := by
  rw [e0, e1, e2]

/-- The first page's block at a point, -/
def p0 (hO : Ok m) (c : Dev nD) (t : Fin (cfgM m hO).N) : Vec Ideal S1x1x128x16x128 .f32 := iblk m hO c 6 t

/-- the second's -/
def p1 (hO : Ok m) (c : Dev nD) (t : Fin (cfgM m hO).N) : Vec Ideal S1x1x128x16x128 .f32 := iblk m hO c 7 t

/-- and the third's. -/
def p2 (hO : Ok m) (c : Dev nD) (t : Fin (cfgM m hO).N) : Vec Ideal S1x1x128x16x128 .f32 := iblk m hO c 8 t

/-- Every point leaves its three pages' sums: the first of a row block, -/
theorem psum_A (hO : Ok m) (c : Dev nD) (t : Fin (cfgM m hO).N) (h0 : t.val % 22 = 0) (h1 : ¬t.val % 22 = 21) :
    (leftA m hO c t h0 h1).2.2.1 = pages3 (p0 m hO c t) (p1 m hO c t) (p2 m hO c t) := by
  unfold leftA runA
  frame_out
  exact pages_congr ((hs0_6 m hO t).read_unread _) ((hs0_7 m hO t).read_unread _) ((hs0_8 m hO t).read_unread _)

/-- a middle one -/
theorem psum_B (hO : Ok m) (c : Dev nD) (t : Fin (cfgM m hO).N) (h0 : ¬t.val % 22 = 0) (h1 : ¬t.val % 22 = 21) (xs : Vec Ideal S512x2048 .f32) :
    (leftB m hO c t h0 h1 xs).2.2.1 = pages3 (p0 m hO c t) (p1 m hO c t) (p2 m hO c t) := by
  unfold leftB runB
  frame_out
  exact pages_congr ((hs0_6 m hO t).read_unread _) ((hs0_7 m hO t).read_unread _) ((hs0_8 m hO t).read_unread _)

/-- and the last. -/
theorem psum_C (hO : Ok m) (c : Dev nD) (t : Fin (cfgM m hO).N) (h0 : ¬t.val % 22 = 0) (h1 : t.val % 22 = 21) (xs : Vec Ideal S512x2048 .f32) :
    (leftC m hO c t h0 h1 xs).2.2.1 = pages3 (p0 m hO c t) (p1 m hO c t) (p2 m hO c t) := by
  unfold leftC runC
  frame_out
  exact pages_congr ((hs0_6 m hO t).read_unread _) ((hs0_7 m hO t).read_unread _) ((hs0_8 m hO t).read_unread _)

/-- So all of them. -/
theorem left_pages (hO : Ok m) (c : Dev nD) (t : Fin (cfgM m hO).N) :
    (left m hO c t.val t.isLt).2.2.1 = pages3 (p0 m hO c t) (p1 m hO c t) (p2 m hO c t) := by
  by_cases h0 : t.val % 22 = 0
  · rw [left_A m hO c t h0 (by omega), psum_A]
  · by_cases h1 : t.val % 22 = 21
    · rw [left_C m hO c t h0 h1, psum_C]
    · rw [left_B m hO c t h0 h1, psum_B]

/-- The entry of the table a point's index map loads. -/
theorem offs (t : Fin grid0.N) (r : Fin 3) : k0_off1 (grid0.coords t) (BitVec.ofNat 32 r.val) (0 : Fin 1) = 3 * t.val + r.val := by
  have k : ∀ t : Fin grid0.N, ∀ r : Fin 3, k0_off1 (grid0.coords t) (BitVec.ofNat 32 r.val) (0 : Fin 1) = 3 * t.val + r.val := by decide +kernel
  exact k t r

/-- The one index of a rectangle of one table entry. -/
theorem entry_idx (off : Fin 1 → ℕ) (inb : ∀ a, off a + S1.size a ≤ S4096.size a) (h1 : (Rect.unit (s := S4096) off S1.size inb).shape.numel = 1)
    (n : Fin 4096) (h : off 0 = n.val) : (Rect.unit (s := S4096) off S1.size inb).emb (Shape.Idx.first (h1.symm ▸ Nat.one_pos)) = ix1 n := by
  funext a
  refine Fin.ext ?_
  match a with
  | ⟨0, _⟩ =>
    show off 0 + 1 * 0 = n.val
    omega

/-- The table's word at an entry. -/
def word (n : ℕ) (h : n < 4096) : BitVec 32 := tbl m 0 (ix1 ⟨n, h⟩)

/-- The index of the first page's window is the table's word at the point's first entry, -/
theorem idx6 (hO : Ok m) (t : Fin (cfgM m hO).N) (h : 3 * t.val + 0 < 4096) : ((cfgM m hO).win 6).index t = ![0, (word m (3 * t.val + 0) h).toNat, 0, 0, 0] := by
  funext a
  match a with
  | ⟨0, _⟩ => rfl
  | ⟨1, _⟩ => exact congrArg (fun i => BitVec.toNat (tbl m 0 i)) (entry_idx _ _ (by decide : S1.numel = 1) ⟨3 * t.val + 0, h⟩ (offs t 0))
  | ⟨2, _⟩ => rfl
  | ⟨3, _⟩ => rfl
  | ⟨4, _⟩ => rfl

/-- The index of the second page's window is the table's word at the point's second entry -/
theorem idx7 (hO : Ok m) (t : Fin (cfgM m hO).N) (h : 3 * t.val + 1 < 4096) : ((cfgM m hO).win 7).index t = ![0, (word m (3 * t.val + 1) h).toNat, 0, 0, 0] := by
  funext a
  match a with
  | ⟨0, _⟩ => rfl
  | ⟨1, _⟩ => exact congrArg (fun i => BitVec.toNat (tbl m 0 i)) (entry_idx _ _ (by decide : S1.numel = 1) ⟨3 * t.val + 1, h⟩ (offs t 1))
  | ⟨2, _⟩ => rfl
  | ⟨3, _⟩ => rfl
  | ⟨4, _⟩ => rfl

/-- The index of the third page's window is the table's word at the point's third.-/
theorem idx8 (hO : Ok m) (t : Fin (cfgM m hO).N) (h : 3 * t.val + 2 < 4096) : ((cfgM m hO).win 8).index t = ![0, (word m (3 * t.val + 2) h).toNat, 0, 0, 0] := by
  funext a
  match a with
  | ⟨0, _⟩ => rfl
  | ⟨1, _⟩ => exact congrArg (fun i => BitVec.toNat (tbl m 0 i)) (entry_idx _ _ (by decide : S1.numel = 1) ⟨3 * t.val + 2, h⟩ (offs t 2))
  | ⟨2, _⟩ => rfl
  | ⟨3, _⟩ => rfl
  | ⟨4, _⟩ => rfl

/-- The table the kernel reads is the argument, flattened. -/
theorem V_words (c : Dev nD) : V m c main_v3 = shapeCast _ (m ((c : Thread nD τ).loc main_arg5)) shapeCasts_S32x128_S4096 := by
  entry_read
  rfl

/-- The pool the kernel reads is the argument. -/
theorem V_pool (c : Dev nD) : V m c main_arg6 = m ((c : Thread nD τ).loc main_arg6) := by
  entry_read
  rfl

/-- The pages a point reads are the pool's, at the table's words. -/
theorem page_eq (hO : Ok m) (c : Dev nD) (t : Fin (cfgM m hO).N) (hw : ∀ n h, (word m n h).toNat < 5120) (r : Fin 3) (h : 3 * t.val + r.val < 4096)
    (k : Fin 128) (a : Fin 16) (b : Fin 128) :
    pg (p0 m hO c t) (p1 m hO c t) (p2 m hO c t) r (ix5 0 0 k a b)
      = (m ((c : Thread nD τ).loc main_arg6) : Vec Ideal S1x5120x128x16x128 .f32) (ix5 0 ⟨(word m (3 * t.val + r.val) h).toNat, hw _ _⟩ k a b) := by
  refine Eq.trans (b := V m c main_arg6 (ix5 0 ⟨(word m (3 * t.val + r.val) h).toNat, hw _ _⟩ k a b)) ?_ (congrFun (V_pool m c) _)
  match r with
  | 0 =>
    have e := idx6 m hO t h
    show p0 m hO c t _ = _
    unfold p0
    blk_ext [iblk, e]
    rfl
  | 1 =>
    have e := idx7 m hO t h
    show p1 m hO c t _ = _
    unfold p1
    blk_ext [iblk, e]
  | 2 =>
    have e := idx8 m hO t h
    show p2 m hO c t _ = _
    unfold p2
    blk_ext [iblk, e]
    rfl

/-- The blocks of the page sums cover their array. -/
theorem covers_11 (hO : Ok m) : ((cfgM m hO).win 11).Covers :=
  Pipeline.Window.covers_of_index_surj _ rfl (by decide : ∀ a : Fin 4, 0 < (![1, 3, 16, 128] : Fin 4 → ℕ) a) fun β => by
    have h0 := (β (0 : Fin 4)).isLt.trans_eq (nblk_eq (a' := 352) (b' := 1) rfl rfl rfl)
    have h1 := (β (1 : Fin 4)).isLt.trans_eq (nblk_eq (a' := 3) (b' := 3) rfl rfl rfl)
    have h2 := (β (2 : Fin 4)).isLt.trans_eq (nblk_eq (a' := 16) (b' := 16) rfl rfl rfl)
    have h3 := (β (3 : Fin 4)).isLt.trans_eq (nblk_eq (a' := 128) (b' := 128) rfl rfl rfl)
    have e := (idx m hO ⟨(β (0 : Fin 4)).val, h0.trans_eq N_0.symm⟩).2.2.2.2.2.2.2.2
    refine ⟨⟨(β (0 : Fin 4)).val, h0.trans_eq N_0.symm⟩, fun (a : Fin 4) => ?_⟩
    refine (congrFun e a).trans ?_
    match a with
    | 0 => rfl
    | 1 => show 0 = (β (1 : Fin 4)).val; omega
    | 2 => show 0 = (β (2 : Fin 4)).val; omega
    | 3 => show 0 = (β (3 : Fin 4)).val; omega

/-- The kernel's array of page sums is the reference's. -/
theorem arr11 (hO : Ok m) (hw : ∀ n h, (word m n h).toNat < 5120) (c : Dev nD) :
    (dats m hO 0 c).arrAt 11 (cfgM m hO).N = Cert.FfnRefIdeal.Read.val_main_v39 (F := Ideal)
      (m ((c : Thread nD τ).loc main_arg5)) (m ((c : Thread nD τ).loc main_arg6)) := by
  refine (dats m hO 0 c).arrAt_eq_of_covers 11 _ (covers_11 m hO) fun t hf (y : S1x3x16x128.Idx) => ?_
  have ht : t.val < 352 := t.isLt.trans_eq N_0
  rw [after_11, left_pages m hO c t]
  have e := (idx m hO t).2.2.2.2.2.2.2.2
  idx_vars y
  blk_simp
  obtain rfl : y0 = 0 := Subsingleton.elim _ _
  obtain rfl : c = 0 := Subsingleton.elim _ _
  have hn : 3 * t.val + y1.val < 4096 := by omega
  refine (pages3_apply _ _ _ y1 y2 y3).trans (Eq.trans (Finset.sum_congr rfl fun k _ => page_eq m hO 0 t hw y1 hn k y2 y3)
    ((ref39_apply (m (((0 : Dev nD) : Thread nD τ).loc main_arg5)) (m (((0 : Dev nD) : Thread nD τ).loc main_arg6)) ⟨t.val, ht⟩ y1 y2 y3
      (word m (3 * t.val + y1.val) hn) ?_ (hw _ _)).symm.trans ?_))
  · exact (congrFun (V_words m 0) _).symm
  · blk_ext [e]

end Cert.FfnVal
end
-- ==== Proof.FfnVal.lean ====
/- The feed-forward kernel: the value claim and the reference's frames. -/
module

public import proofs.«01_k».proof.Proof.FfnPages
public import proofs.«01_k».proof.Proof.FfnFrame
public import proofs.«01_k».proof.Proof.Gen.FfnRefIdeal.Run
public import proofs.«01_k».proof.Defs

@[expose] public section

set_option maxRecDepth 16384

noncomputable section

namespace Cert.FfnVal
open Idealize.ShloMosaic Idealize.ShloMosaic.TcCoe Idealize.SL.Sem

/-- The reference runs, keeps its arguments and ends quiescent. -/
theorem ref_frame : Cert.quiescent_FfnRefIdeal :=
  fun m ρ _ => (θ_run Cert.FfnRefIdeal.defs _ _).mono (fun r h => ⟨fun c => (h c).2.2.2, sem_eq_zero_of_no_sems (by decide) r.2⟩)
    (Cert.FfnRefIdeal.Value.run (F := Ideal) m ρ)

variable [Cert.Pre_pages_in_pool.Facts]

/-- So it does on tables whose pages are in the pool. -/
theorem ref_frame_pages : Cert.quiescent_FfnRefIdeal_pre_pages_in_pool :=
  fun m ρ _ => (θ_run Cert.FfnRefIdeal.defs _ _).mono (fun r h => ⟨fun c => (h c).2.2.2, sem_eq_zero_of_no_sems (by decide) r.2⟩)
    (Cert.FfnRefIdeal.Value.run (F := Ideal) m ρ)

open Cert.FfnIdeal Cert.FfnIdeal.Gen Cert.FfnIdeal.Run

/-- Under the precondition every word of the table is a page of the pool. -/
theorem word_bound (m : (ℓ : Loc nD τ sig) → Buf (Elt Ideal) ℓ) (h : Cert.Pre_FfnIdeal m) (n : ℕ) (hn : n < 4096) : (word m n hn).toNat < 5120 := by
  show (V m 0 main_v3 (ix1 ⟨n, hn⟩) : BitVec 32).toNat < 5120
  rw [V_words]
  exact pre_pages _ _ _ _ _ _ _ (h 0) _

/-- The kernel and the reference, over the reals, leave the same rows, the same normalised rows and the same page sums. -/
theorem algebraic : Cert.algebraic_FfnIdeal_FfnRefIdeal := by
  intro m g m' g' hpre hagree
  have hO := ok_of_pre_ideal m hpre
  have hw := word_bound m hpre
  refine ⟨fun c => (dats m hO 0 c).arrAt 9 (cfgM m hO).N, fun c => (dats m hO 0 c).arrAt 10 (cfgM m hO).N,
    fun c => (dats m hO 0 c).arrAt 11 (cfgM m hO).N, ?_, ?_⟩
  · exact (θ_run defs _ _).mono (fun r h c => ⟨(h.1 c).1 9, (h.1 c).1 10, (h.1 c).1 11, h.2 c⟩)
      (θ_run_and (Run.run_main m g hO) (Run.unchanged m g hO))
  · refine (θ_run Cert.FfnRefIdeal.defs _ _).mono (fun r h c => ?_) (Cert.FfnRefIdeal.Value.run (F := Ideal) m' g')
    obtain ⟨e0, e1, e2, e3, e4, e5, e6⟩ := hagree c
    have k0 : Cert.FfnRefIdeal.Read.val_main_v14 (F := Ideal) (m' ((c : Thread nD τ).loc Cert.FfnRefIdeal.main_arg0))
        (m' ((c : Thread nD τ).loc Cert.FfnRefIdeal.main_arg1)) (m' ((c : Thread nD τ).loc Cert.FfnRefIdeal.main_arg2))
        (m' ((c : Thread nD τ).loc Cert.FfnRefIdeal.main_arg3)) = (dats m hO 0 c).arrAt 9 (cfgM m hO).N := by
      rw [arr9 m hO c, e0, e1, e2, e3]
    have k1 : Cert.FfnRefIdeal.Read.val_main_v38 (F := Ideal) (m' ((c : Thread nD τ).loc Cert.FfnRefIdeal.main_arg0))
        (m' ((c : Thread nD τ).loc Cert.FfnRefIdeal.main_arg1)) (m' ((c : Thread nD τ).loc Cert.FfnRefIdeal.main_arg2))
        (m' ((c : Thread nD τ).loc Cert.FfnRefIdeal.main_arg3)) (m' ((c : Thread nD τ).loc Cert.FfnRefIdeal.main_arg4))
        = (dats m hO 0 c).arrAt 10 (cfgM m hO).N := by
      rw [arr10 m hO c, e0, e1, e2, e3, e4]
    have k2 : Cert.FfnRefIdeal.Read.val_main_v39 (F := Ideal) (m' ((c : Thread nD τ).loc Cert.FfnRefIdeal.main_arg5))
        (m' ((c : Thread nD τ).loc Cert.FfnRefIdeal.main_arg6)) = (dats m hO 0 c).arrAt 11 (cfgM m hO).N := by
      rw [arr11 m hO hw c, e5, e6]
    exact ⟨((h c).1.trans (Cert.FfnRefIdeal.Read.val_main_v14_eq _ _ _ _)).trans k0, ((h c).2.1.trans (Cert.FfnRefIdeal.Read.val_main_v38_eq _ _)).trans k1,
      ((h c).2.2.1.trans (Cert.FfnRefIdeal.Read.val_main_v39_eq _ _)).trans k2, (h c).2.2.2⟩

end Cert.FfnVal
end
-- ==== Proof.ProjV.lean ====
/- The value projection: the array the kernel leaves, index by index, against the reference's product. -/
module

public import proofs.«01_k».proof.Defs
public import proofs.«01_k».proof.Proof.Gen.ProjVIdeal.Frame
public import proofs.«01_k».proof.Proof.Gen.ProjVRefIdeal.Run
public import proofs.«01_k».proof.Proof.Gen.ProjVRefIdeal.Read
public import Idealize.ShloMosaic.Lib.Pipeline.ValueKit
public import Idealize.ShloMosaic.Lib.Pointwise
public import Idealize.ShloMosaic.Lib.MatmulPlain
public import Idealize.ShloMosaic.Lib.Claim

@[expose] public section

set_option maxRecDepth 16384

noncomputable section

namespace Cert.ProjVVal

open Idealize.ShloMosaic Idealize.ShloMosaic.TcCoe Idealize.SL.Sem
open Cert.ProjVIdeal Cert.ProjVIdeal.Gen

variable (m : (ℓ : Loc nD τ sig) → Buf (Elt Ideal) ℓ)

/-- The kernel's activations are the argument (its cast is the identity here). -/
theorem V_h (c : Dev nD) : V m c main_v0 = m ((c : Thread nD τ).loc main_arg0) := by
  entry_read
  rfl

/-- So are its weights. -/
theorem V_w (c : Dev nD) : V m c main_v1 = m ((c : Thread nD τ).loc main_arg1) := by
  entry_read
  rfl

/-- The block index of every window at every point of the grid. -/
theorem idx : ∀ t : Fin cfg0.N, win0_0.index t = ![t.val / 2, 0] ∧ win0_1.index t = ![0, t.val % 2]
    ∧ win0_2.index t = ![t.val / 2, t.val % 2] ∧ win0_3.index t = ![t.val % 2, t.val / 2] := by
  decide +kernel

/-- The product, at a row and a column of one block. -/
theorem pay1_apply (x0 : Vec Ideal S512x2048 .bf16) (x1 : Vec Ideal S2048x1024 .bf16) (r : Fin 512) (q : Fin 1024) :
    k0_pay1 x0 x1 (ix2 r q) = ∑ k : Fin 2048, x0 (ix2 r k) * x1 (ix2 k q) := by
  unfold k0_pay1
  pointwise

/-- The transposed product, at an index of one block. -/
theorem pay2_apply (x0 : Vec Ideal S512x2048 .bf16) (x1 : Vec Ideal S2048x1024 .bf16) (q : Fin 1024) (r : Fin 512) :
    k0_pay2 x0 x1 (ix2 q r) = ∑ k : Fin 2048, x0 (ix2 r k) * x1 (ix2 k q) := by
  unfold k0_pay2
  pointwise
  exact pay1_apply x0 x1 r q

/-- The kernel's first array is the reference's product. -/
theorem arr2 (c : Dev nD) : (dats m 0 c).arrAt 2 cfg0.N = Cert.ProjVRefIdeal.Read.val_main_v0
    (m ((c : Thread nD τ).loc main_arg0)) (m ((c : Thread nD τ).loc main_arg1)) := by
  refine (dats m 0 c).arrAt_eq_of_covers 2 _ (by decide +kernel) fun t hf y => ?_
  blk_simp
  rw [after0_2]
  frame_out
  have e := idx t
  rw [Cert.ProjVRefIdeal.Read.val_main_v0_apply]
  idx_vars y
  rw [pay1_apply]
  refine Fin.sum_fin_congr fun k => ?_
  simp only [← V_h m c, ← V_w m c]
  congr 1 <;> blk_ext [iblk, e]

/-- The kernel's second array is the reference's product, transposed. -/
theorem arr3 (c : Dev nD) : (dats m 0 c).arrAt 3 cfg0.N = Cert.ProjVRefIdeal.Read.val_main_v2
    (m ((c : Thread nD τ).loc main_arg0)) (m ((c : Thread nD τ).loc main_arg1)) := by
  refine (dats m 0 c).arrAt_eq_of_covers 3 _ (by decide +kernel) fun t hf y => ?_
  blk_simp
  rw [after0_3]
  frame_out
  have e := idx t
  rw [Cert.ProjVRefIdeal.Read.val_main_v2_apply, Cert.ProjVRefIdeal.Read.val_main_v1_apply]
  show _ = Cert.ProjVRefIdeal.Read.val_main_v0 (F := Ideal) _ _ _
  rw [Cert.ProjVRefIdeal.Read.val_main_v0_apply]
  idx_vars y
  rw [pay2_apply]
  refine Finset.sum_congr rfl fun k _ => ?_
  simp only [← V_h m c, ← V_w m c]
  congr 1 <;> blk_ext [iblk, e]

/-- The two programs end with equal results at the ideal instance. -/
theorem algebraic : Cert.algebraic_ProjVIdeal_ProjVRefIdeal := by
  pair_intro
  · run_from Cert.ProjVIdeal.Gen.run_main m g
  · run_from Cert.ProjVRefIdeal.Value.run m' g'
    all_goals first
      | (rw [arr2]; rfl)
      | (rw [arr3]; rfl)

/-- The reference's frame. -/
theorem ref_frame : Cert.quiescent_ProjVRefIdeal := fun m ρ _ =>
  (θ_run Cert.ProjVRefIdeal.defs _ _).mono
    (fun r h => ⟨fun c => ⟨(h c).2.2.1, (h c).2.2.2⟩, sem_eq_zero_of_no_sems (by decide) r.2⟩)
    (Cert.ProjVRefIdeal.Value.run (F := Ideal) m ρ)

end Cert.ProjVVal

end
-- ==== Proof.ProjQK.lean ====
/- The projection of the queries and keys (and, at the same shapes, of the gates): the array the kernel leaves, index by index, against the reference's product. -/
module

public import proofs.«01_k».proof.Defs
public import proofs.«01_k».proof.Proof.Gen.ProjQKIdeal.Frame
public import proofs.«01_k».proof.Proof.Gen.ProjQKRefIdeal.Run
public import proofs.«01_k».proof.Proof.Gen.ProjQKRefIdeal.Read
public import Idealize.ShloMosaic.Lib.Pipeline.ValueKit
public import Idealize.ShloMosaic.Lib.Pointwise
public import Idealize.ShloMosaic.Lib.MatmulPlain
public import Idealize.ShloMosaic.Lib.Claim

@[expose] public section

set_option maxRecDepth 16384

noncomputable section

namespace Cert.ProjQKVal

open Idealize.ShloMosaic Idealize.ShloMosaic.TcCoe Idealize.SL.Sem
open Cert.ProjQKIdeal Cert.ProjQKIdeal.Gen

variable (m : (ℓ : Loc nD τ sig) → Buf (Elt Ideal) ℓ)

/-- The kernel's activations are the argument (its cast is the identity here). -/
theorem V_h (c : Dev nD) : V m c main_v0 = m ((c : Thread nD τ).loc main_arg0) := by
  entry_read
  rfl

/-- So are its weights. -/
theorem V_w (c : Dev nD) : V m c main_v1 = m ((c : Thread nD τ).loc main_arg1) := by
  entry_read
  rfl

/-- The block index of every window at every point of the grid. -/
theorem idx : ∀ t : Fin cfg0.N, win0_0.index t = ![t.val / 4, 0] ∧ win0_1.index t = ![0, t.val % 4]
    ∧ win0_2.index t = ![t.val / 4, t.val % 4] := by
  decide +kernel

/-- The product, at a row and a column of one block. -/
theorem pay1_apply (x0 : Vec Ideal S512x2048 .bf16) (x1 : Vec Ideal S2048x1024 .bf16) (r : Fin 512) (q : Fin 1024) :
    k0_pay1 x0 x1 (ix2 r q) = ∑ k : Fin 2048, x0 (ix2 r k) * x1 (ix2 k q) := by
  unfold k0_pay1
  pointwise

/-- The kernel's array is the reference's product. -/
theorem arr2 (c : Dev nD) : (dats m 0 c).arrAt 2 cfg0.N = Cert.ProjQKRefIdeal.Read.val_main_v0
    (m ((c : Thread nD τ).loc main_arg0)) (m ((c : Thread nD τ).loc main_arg1)) := by
  refine (dats m 0 c).arrAt_eq_of_covers 2 _ (by decide +kernel) fun t hf y => ?_
  blk_simp
  rw [after0_2]
  frame_out
  have e := idx t
  rw [Cert.ProjQKRefIdeal.Read.val_main_v0_apply]
  idx_vars y
  rw [pay1_apply]
  refine Fin.sum_fin_congr fun k => ?_
  simp only [← V_h m c, ← V_w m c]
  congr 1 <;> blk_ext [iblk, e]

/-- The two programs end with equal arrays at the ideal instance. -/
theorem algebraic : Cert.algebraic_ProjQKIdeal_ProjQKRefIdeal := by
  pair_intro
  · run_from Cert.ProjQKIdeal.Gen.run_main m g
  · run_from Cert.ProjQKRefIdeal.Value.run m' g'
    rw [arr2]
    rfl

/-- The reference's frame. -/
theorem ref_frame : Cert.quiescent_ProjQKRefIdeal := fun m ρ _ =>
  (θ_run Cert.ProjQKRefIdeal.defs _ _).mono
    (fun r h => ⟨fun c => ⟨(h c).2.1, (h c).2.2⟩, sem_eq_zero_of_no_sems (by decide) r.2⟩)
    (Cert.ProjQKRefIdeal.Value.run (F := Ideal) m ρ)

end Cert.ProjQKVal

end
-- ==== Proof.ProjB.lean ====
/- The projection of the delta rule's queries, keys and values: the array the kernel leaves, index by index, against the reference's product. -/
module

public import proofs.«01_k».proof.Defs
public import proofs.«01_k».proof.Proof.Gen.ProjBIdeal.Frame
public import proofs.«01_k».proof.Proof.Gen.ProjBRefIdeal.Run
public import proofs.«01_k».proof.Proof.Gen.ProjBRefIdeal.Read
public import Idealize.ShloMosaic.Lib.Pipeline.ValueKit
public import Idealize.ShloMosaic.Lib.Pointwise
public import Idealize.ShloMosaic.Lib.MatmulPlain
public import Idealize.ShloMosaic.Lib.Claim

@[expose] public section

set_option maxRecDepth 16384

noncomputable section

namespace Cert.ProjBVal

open Idealize.ShloMosaic Idealize.ShloMosaic.TcCoe Idealize.SL.Sem
open Cert.ProjBIdeal Cert.ProjBIdeal.Gen

variable (m : (ℓ : Loc nD τ sig) → Buf (Elt Ideal) ℓ)

/-- The kernel's activations are the argument (its cast is the identity here). -/
theorem V_h (c : Dev nD) : V m c main_v0 = m ((c : Thread nD τ).loc main_arg0) := by
  entry_read
  rfl

/-- So are its weights. -/
theorem V_w (c : Dev nD) : V m c main_v1 = m ((c : Thread nD τ).loc main_arg1) := by
  entry_read
  rfl

/-- The block index of every window at every point of the grid. -/
theorem idx : ∀ t : Fin cfg0.N, win0_0.index t = ![t.val / 6, 0] ∧ win0_1.index t = ![0, t.val % 6]
    ∧ win0_2.index t = ![t.val / 6, t.val % 6] := by
  decide +kernel

/-- The product, at a row and a column of one block. -/
theorem pay1_apply (x0 : Vec Ideal S512x2048 .bf16) (x1 : Vec Ideal S2048x1024 .bf16) (r : Fin 512) (q : Fin 1024) :
    k0_pay1 x0 x1 (ix2 r q) = ∑ k : Fin 2048, x0 (ix2 r k) * x1 (ix2 k q) := by
  unfold k0_pay1
  pointwise

/-- The kernel's array is the reference's product. -/
theorem arr2 (c : Dev nD) : (dats m 0 c).arrAt 2 cfg0.N = Cert.ProjBRefIdeal.Read.val_main_v0
    (m ((c : Thread nD τ).loc main_arg0)) (m ((c : Thread nD τ).loc main_arg1)) := by
  refine (dats m 0 c).arrAt_eq_of_covers 2 _ (by decide +kernel) fun t hf y => ?_
  blk_simp
  rw [after0_2]
  frame_out
  have e := idx t
  rw [Cert.ProjBRefIdeal.Read.val_main_v0_apply]
  idx_vars y
  rw [pay1_apply]
  refine Fin.sum_fin_congr fun k => ?_
  simp only [← V_h m c, ← V_w m c]
  congr 1 <;> blk_ext [iblk, e]

/-- The last rows of the product are the rows from the 8192nd on of the product behind three rows of zeros. -/
theorem tail_eq (x : Vec Ideal S8192x2048 .f32) (w : Vec Ideal S2048x6144 .f32) :
    extractStridedSlice S3x6144 ![8189, 0] (Cert.ProjBRefIdeal.Read.val_main_v0 (F := Ideal) x w) slices_S8192x6144_S3x6144_8189_0
      = Cert.ProjBRefIdeal.Read.val_main_v3 (F := Ideal) x w := by
  funext y
  idx_vars y
  unfold Cert.ProjBRefIdeal.Read.val_main_v3 Cert.ProjBRefIdeal.Read.val_main_v2
  pointwise
  rw [dif_neg (by omega : ¬ 8192 + y0.val < 3)]
  congr 2
  exact Fin.ext (by show 8189 + y0.val = 8192 + y0.val - 3; omega)

/-- What the line after the region leaves: the last rows of the kernel's array. -/
theorem tail (c : Dev nD) : Pipeline.afterTail₀ cfgs (dats m) 0 (V0 m) [hostOps1] c main_v3
    = extractStridedSlice S3x6144 ![8189, 0] ((dats m 0 c).arrAt 2 cfg0.N) slices_S8192x6144_S3x6144_8189_0 := by
  unfold Pipeline.afterTail₀
  simp only [hostOps1, List.flatten_cons, List.flatten_nil, List.append_nil, StableHlo.after_cons, StableHlo.after_nil]
  refine (StableHlo.unary_result _ _ _ _ _ _).trans ?_
  exact congrArg (fun x : Vec Ideal S8192x6144 .f32 => extractStridedSlice S3x6144 ![8189, 0] x slices_S8192x6144_S3x6144_8189_0)
    (Pipeline.withArrays_arr spec0 (by decide) c (V0 m c) (fun w => (dats m 0 c).arrAt w cfg0.N) 2)

/-- The two programs end with equal arrays at the ideal instance. -/
theorem algebraic : Cert.algebraic_ProjBIdeal_ProjBRefIdeal := by
  intro m g m' g' _ hagree
  refine ⟨fun c => (dats m 0 c).arrAt 2 cfg0.N,
    fun c => extractStridedSlice S3x6144 ![8189, 0] ((dats m 0 c).arrAt 2 cfg0.N) slices_S8192x6144_S3x6144_8189_0, ?_, ?_⟩
  · exact (θ_run defs _ _).mono (fun r h c => ⟨(h.1 c).1 2, ((h.1 c).2 main_v3 (by decide)).trans (tail m c), h.2 c⟩)
      (θ_run_and (Cert.ProjBIdeal.Gen.run_main m g) (Cert.ProjBIdeal.Gen.unchanged m g))
  · refine (θ_run Cert.ProjBRefIdeal.defs _ _).mono (fun r h c => ?_) (Cert.ProjBRefIdeal.Value.run (F := Ideal) m' g')
    obtain ⟨e0, e1⟩ := hagree c
    have k0 : Cert.ProjBRefIdeal.Read.val_main_v0 (F := Ideal) (m' ((c : Thread nD τ).loc Cert.ProjBRefIdeal.main_arg0))
        (m' ((c : Thread nD τ).loc Cert.ProjBRefIdeal.main_arg1)) = (dats m 0 c).arrAt 2 cfg0.N := by
      rw [arr2 m c, e0, e1]
    have k1 : Cert.ProjBRefIdeal.Read.val_main_v3 (F := Ideal) (m' ((c : Thread nD τ).loc Cert.ProjBRefIdeal.main_arg0))
        (m' ((c : Thread nD τ).loc Cert.ProjBRefIdeal.main_arg1))
          = extractStridedSlice S3x6144 ![8189, 0] ((dats m 0 c).arrAt 2 cfg0.N) slices_S8192x6144_S3x6144_8189_0 := by
      rw [← k0, tail_eq]
    exact ⟨((h c).1.trans (Cert.ProjBRefIdeal.Read.val_main_v0_eq _ _)).trans k0,
      ((h c).2.1.trans (Cert.ProjBRefIdeal.Read.val_main_v3_eq _ _)).trans k1, (h c).2.2⟩

/-- The reference's frame. -/
theorem ref_frame : Cert.quiescent_ProjBRefIdeal := fun m ρ _ =>
  (θ_run Cert.ProjBRefIdeal.defs _ _).mono
    (fun r h => ⟨fun c => (h c).2.2, sem_eq_zero_of_no_sems (by decide) r.2⟩)
    (Cert.ProjBRefIdeal.Value.run (F := Ideal) m ρ)

end Cert.ProjBVal

end
-- ==== Proof.ProjZ.lean ====
/- The projection of the delta rule's output gate: the array the kernel leaves, index by index, against the reference's product. -/
module

public import proofs.«01_k».proof.Defs
public import proofs.«01_k».proof.Proof.Gen.ProjZIdeal.Frame
public import proofs.«01_k».proof.Proof.Gen.ProjZRefIdeal.Run
public import proofs.«01_k».proof.Proof.Gen.ProjZRefIdeal.Read
public import Idealize.ShloMosaic.Lib.Pipeline.ValueKit
public import Idealize.ShloMosaic.Lib.Pointwise
public import Idealize.ShloMosaic.Lib.MatmulPlain
public import Idealize.ShloMosaic.Lib.Claim

@[expose] public section

set_option maxRecDepth 16384

noncomputable section

namespace Cert.ProjZVal

open Idealize.ShloMosaic Idealize.ShloMosaic.TcCoe Idealize.SL.Sem
open Cert.ProjZIdeal Cert.ProjZIdeal.Gen

variable (m : (ℓ : Loc nD τ sig) → Buf (Elt Ideal) ℓ)

/-- The kernel's activations are the argument (its cast is the identity here). -/
theorem V_h (c : Dev nD) : V m c main_v0 = m ((c : Thread nD τ).loc main_arg0) := by
  entry_read
  rfl

/-- So are its weights. -/
theorem V_w (c : Dev nD) : V m c main_v1 = m ((c : Thread nD τ).loc main_arg1) := by
  entry_read
  rfl

/-- The block index of every window at every point of the grid. -/
theorem idx : ∀ t : Fin cfg0.N, win0_0.index t = ![t.val / 2, 0] ∧ win0_1.index t = ![0, t.val % 2]
    ∧ win0_2.index t = ![t.val / 2, t.val % 2] := by
  decide +kernel

/-- The product, at a row and a column of one block. -/
theorem pay1_apply (x0 : Vec Ideal S512x2048 .bf16) (x1 : Vec Ideal S2048x1024 .bf16) (r : Fin 512) (q : Fin 1024) :
    k0_pay1 x0 x1 (ix2 r q) = ∑ k : Fin 2048, x0 (ix2 r k) * x1 (ix2 k q) := by
  unfold k0_pay1
  pointwise

/-- The kernel's array is the reference's product. -/
theorem arr2 (c : Dev nD) : (dats m 0 c).arrAt 2 cfg0.N = Cert.ProjZRefIdeal.Read.val_main_v0
    (m ((c : Thread nD τ).loc main_arg0)) (m ((c : Thread nD τ).loc main_arg1)) := by
  refine (dats m 0 c).arrAt_eq_of_covers 2 _ (by decide +kernel) fun t hf y => ?_
  blk_simp
  rw [after0_2]
  frame_out
  have e := idx t
  rw [Cert.ProjZRefIdeal.Read.val_main_v0_apply]
  idx_vars y
  rw [pay1_apply]
  refine Fin.sum_fin_congr fun k => ?_
  simp only [← V_h m c, ← V_w m c]
  congr 1 <;> blk_ext [iblk, e]

/-- The two programs end with equal arrays at the ideal instance. -/
theorem algebraic : Cert.algebraic_ProjZIdeal_ProjZRefIdeal := by
  pair_intro
  · run_from Cert.ProjZIdeal.Gen.run_main m g
  · run_from Cert.ProjZRefIdeal.Value.run m' g'
    rw [arr2]
    rfl

/-- The reference's frame. -/
theorem ref_frame : Cert.quiescent_ProjZRefIdeal := fun m ρ _ =>
  (θ_run Cert.ProjZRefIdeal.defs _ _).mono
    (fun r h => ⟨fun c => ⟨(h c).2.1, (h c).2.2⟩, sem_eq_zero_of_no_sems (by decide) r.2⟩)
    (Cert.ProjZRefIdeal.Value.run (F := Ideal) m ρ)

end Cert.ProjZVal

end
-- ==== Proof.Rope.lean ====
/- The queries' and keys' norm and rotation: the arrays the kernel leaves, index by index, against the reference's lines. -/
module

public import proofs.«01_k».proof.Defs
public import proofs.«01_k».proof.Proof.Gen.RopeIdeal.Frame
public import proofs.«01_k».proof.Proof.Gen.RopeRefIdeal.Run
public import proofs.«01_k».proof.Proof.Gen.RopeRefIdeal.Read
public import Idealize.ShloMosaic.Lib.Pipeline.ValueKit
public import Idealize.ShloMosaic.Lib.Pointwise
public import Idealize.ShloMosaic.Lib.MatmulPlain
public import Idealize.ShloMosaic.Lib.Claim

@[expose] public section

set_option maxRecDepth 16384

noncomputable section

namespace Cert.RopeVal

open Idealize.ShloMosaic Idealize.ShloMosaic.TcCoe Idealize.SL.Sem
open Cert.RopeIdeal Cert.RopeIdeal.Gen

variable (m : (ℓ : Loc nD τ sig) → Buf (Elt Ideal) ℓ)

/-- A row of one head, normed: each entry over the root of the entries' mean square, times its gain. -/
def nrm (f g : Fin 128 → EReal) (d : Fin 128) : EReal :=
  f d * Ideal.rsqrt (Ideal.div (∑ j : Fin 128, f j * f j) (Ideal.ofBits FTy.f32 0x43000000#32)
    + Ideal.ofBits FTy.f32 0x358637BD#32) * g d

/-- A row of one head, rotated: entry `d` of the first half and entry `64 + d` are a plane's two coordinates. -/
def rot (f : Fin 128 → EReal) (c s : Fin 64 → EReal) (d : Fin 128) : EReal :=
  if h : d.val < 64 then f d * c ⟨d.val, h⟩ - f ⟨64 + d.val, by omega⟩ * s ⟨d.val, h⟩
  else f d * c ⟨d.val - 64, by omega⟩ + f ⟨d.val - 64, by omega⟩ * s ⟨d.val - 64, by omega⟩

/-- The rotation as the kernel has it: the row times the doubled cosines, plus the row shifted by half a head times the
    sines, whose first half carries the minus sign. -/
theorem rot_of_tables (f : Fin 128 → EReal) (c s : Fin 64 → EReal) (d : Fin 128) (C S : EReal)
    (hC : C = if h : d.val < 64 then c ⟨d.val, h⟩ else c ⟨d.val - 64, by omega⟩)
    (hS : S = if h : d.val < 64 then -s ⟨d.val, h⟩ else s ⟨d.val - 64, by omega⟩) :
    f d * C + f ⟨(d.val + 128 - 64) % 128, by omega⟩ * S = rot f c s d := by
  unfold rot
  subst hC hS
  split
  · rename_i h
    rw [mul_neg, ← sub_eq_add_neg]
    have e : (⟨(d.val + 128 - 64) % 128, by omega⟩ : Fin 128) = ⟨64 + d.val, by omega⟩ := Fin.ext (by
      show (d.val + 128 - 64) % 128 = 64 + d.val
      omega)
    rw [e]
  · rename_i h
    have e : (⟨(d.val + 128 - 64) % 128, by omega⟩ : Fin 128) = ⟨d.val - 64, by omega⟩ := Fin.ext (by
      show (d.val + 128 - 64) % 128 = d.val - 64
      omega)
    rw [e]

/-- The kernel's table of cosines is the reference's, twice beside itself. -/
theorem V_c (c : Dev nD) : V m c main_v15 = concatenate S8192x128 1 [⟨S8192x64, Cert.RopeRefIdeal.Read.val_main_v30 (F := Ideal)⟩,
    ⟨S8192x64, Cert.RopeRefIdeal.Read.val_main_v30 (F := Ideal)⟩] concatenates_S8192x64_S8192x64_S8192x128_d1 := by
  entry_read
  rfl

/-- Its table of sines is the reference's, negated and then as it is. -/
theorem V_s (c : Dev nD) : V m c main_v17 = concatenate S8192x128 1
    [⟨S8192x64, (Host.negf (F := Ideal) (φ := .f32) (Cert.RopeRefIdeal.Read.val_main_v32 (F := Ideal)) : Vec Ideal S8192x64 .f32)⟩, ⟨S8192x64, Cert.RopeRefIdeal.Read.val_main_v32 (F := Ideal)⟩]
    concatenates_S8192x64_S8192x64_S8192x128_d1 := by
  entry_read
  rfl

/-- The cosines at an index. -/
theorem cos_apply (n : Fin 8192) (d : Fin 128) :
    concatenate S8192x128 1 [⟨S8192x64, Cert.RopeRefIdeal.Read.val_main_v30 (F := Ideal)⟩, ⟨S8192x64, Cert.RopeRefIdeal.Read.val_main_v30 (F := Ideal)⟩]
      concatenates_S8192x64_S8192x64_S8192x128_d1 (ix2 n d) = if h : d.val < 64 then
        Cert.RopeRefIdeal.Read.val_main_v30 (F := Ideal) (ix2 n ⟨d.val, h⟩)
      else Cert.RopeRefIdeal.Read.val_main_v30 (F := Ideal) (ix2 n ⟨d.val - 64, by omega⟩) := by
  pointwise

/-- The sines at an index. -/
theorem sin_apply (n : Fin 8192) (d : Fin 128) :
    concatenate S8192x128 1 [⟨S8192x64, (Host.negf (F := Ideal) (φ := .f32) (Cert.RopeRefIdeal.Read.val_main_v32 (F := Ideal)) : Vec Ideal S8192x64 .f32)⟩,
      ⟨S8192x64, Cert.RopeRefIdeal.Read.val_main_v32 (F := Ideal)⟩]
      concatenates_S8192x64_S8192x64_S8192x128_d1 (ix2 n d) = if h : d.val < 64 then
        -Cert.RopeRefIdeal.Read.val_main_v32 (F := Ideal) (ix2 n ⟨d.val, h⟩)
      else Cert.RopeRefIdeal.Read.val_main_v32 (F := Ideal) (ix2 n ⟨d.val - 64, by omega⟩) := by
  pointwise

/-- The block index of every window at every point of the grid. -/
theorem idx : ∀ t : Fin cfg0.N, win0_0.index t = ![t.val / 16, t.val % 16] ∧ win0_1.index t = ![t.val / 16, t.val % 16 + 16]
    ∧ win0_2.index t = ![0, 0] ∧ win0_3.index t = ![0, 0] ∧ win0_4.index t = ![t.val / 16, 0]
    ∧ win0_5.index t = ![t.val / 16, 0] ∧ win0_6.index t = ![t.val % 16, t.val / 16]
    ∧ win0_7.index t = ![t.val / 16, t.val % 16] ∧ win0_8.index t = ![t.val / 16, t.val % 16]
    ∧ win0_9.index t = ![t.val / 16, t.val % 16] := by
  decide +kernel

/-- The queries' value at a row and a column of one block. -/
theorem pay7_apply (c s x : Vec Ideal S2048x128 .f32) (g : Vec Ideal S1x128 .f32) (r : Fin 2048) (d : Fin 128) :
    k0_pay7 c s x g (ix2 r d) = nrm (fun j => x (ix2 r j)) (fun j => g (ix2 (0 : Fin 1) j)) d * c (ix2 r d)
      + nrm (fun j => x (ix2 r j)) (fun j => g (ix2 (0 : Fin 1) j)) ⟨(d.val + 128 - 64) % 128, by omega⟩ * s (ix2 r d) := by
  unfold k0_pay7 k0_pay5 k0_pay6 nrm
  pointwise

/-- A load of a whole block is the block. -/
theorem ld_block (x : Vec Ideal S2048x128 .f32) : View.ld x r0_0 = x := by
  unfold r0_0
  simp (disch := decide) only [View.ld_unit_lit']

/-- So is that of the whole gain. -/
theorem ld_gain (x : Vec Ideal S1x128 .f32) : View.ld x r0_1 = x := by
  unfold r0_1
  simp (disch := decide) only [View.ld_unit_lit']

/-- The keys' value is the same function of its own block and gain. -/
theorem keys_eq (x0 x1 : Vec Ideal S2048x128 .f32) (x2 x3 : Vec Ideal S1x128 .f32) (x4 x5 : Vec Ideal S2048x128 .f32) :
    k0_pay1 (k0_pay11 x0 x1 x2 x3 x4 x5) (k0_pay12 x0 x1 x2 x3 x4 x5) (k0_pay13 x0 x1 x2 x3 x4 x5)
      = k0_pay7 x4 x5 x1 x3 := by
  unfold k0_pay11 k0_pay12 k0_pay13
  simp only [ld_block, ld_gain]
  rfl

/-- The block means at a row and a column of one block. -/
theorem pay4_apply (s a b : FVec Ideal S2048x128 .f32) (r : Fin 8) (d : Fin 128) :
    k0_pay4 s a b (ix2 r d) = Ideal.div (∑ l : Fin 256, k0_pay1 s a b (ix2 ⟨r.val * 256 + l.val, by omega⟩ d))
      (Ideal.ofBits FTy.f32 0x43800000#32) := by
  unfold k0_pay4
  pointwise

/-- The reference's normed queries, at an index. -/
theorem ref17_apply (x : Vec Ideal S8192x4096 .f32) (g : Vec Ideal S1x128 .f32) (n : Fin 8192) (h : Fin 16) (d : Fin 128) :
    Cert.RopeRefIdeal.Read.val_main_v17 (F := Ideal) x g (ix4 0 n h d) = (nrm (fun j : Fin 128 => x (ix2 n (⟨h.val * 128 + j.val, by omega⟩ : Fin 4096))) (fun j => g (ix2 (0 : Fin 1) j))) d := by
  unfold nrm Cert.RopeRefIdeal.Read.val_main_v17 Cert.RopeRefIdeal.Read.val_main_v16 Cert.RopeRefIdeal.Read.val_main_v15
    Cert.RopeRefIdeal.Read.val_main_v14 Cert.RopeRefIdeal.Read.val_main_v13 Cert.RopeRefIdeal.Read.val_main_v12
    Cert.RopeRefIdeal.Read.val_main_v11 Cert.RopeRefIdeal.Read.val_main_v10 Cert.RopeRefIdeal.Read.val_main_v9
    Cert.RopeRefIdeal.Read.val_main_v8 Cert.RopeRefIdeal.Read.val_main_v7 Cert.RopeRefIdeal.Read.val_main_v6
    Cert.RopeRefIdeal.Read.val_main_v5 Cert.RopeRefIdeal.Read.val_main_v4 Cert.RopeRefIdeal.Read.val_main_v3
    Cert.RopeRefIdeal.Read.val_main_v1 Cert.RopeRefIdeal.Read.val_main_cst Cert.RopeRefIdeal.Read.val_main_cst_0
    Cert.RopeRefIdeal.Read.val_main_cst_1
  pointwise

/-- Its normed keys. -/
theorem ref61_apply (x : Vec Ideal S8192x4096 .f32) (g : Vec Ideal S1x128 .f32) (n : Fin 8192) (h : Fin 16) (d : Fin 128) :
    Cert.RopeRefIdeal.Read.val_main_v61 (F := Ideal) x g (ix4 0 n h d) = (nrm (fun j : Fin 128 => x (ix2 n (⟨2048 + (h.val * 128 + j.val), by omega⟩ : Fin 4096))) (fun j => g (ix2 (0 : Fin 1) j))) d := by
  unfold nrm Cert.RopeRefIdeal.Read.val_main_v61 Cert.RopeRefIdeal.Read.val_main_v60 Cert.RopeRefIdeal.Read.val_main_v59
    Cert.RopeRefIdeal.Read.val_main_v58 Cert.RopeRefIdeal.Read.val_main_v57 Cert.RopeRefIdeal.Read.val_main_v56
    Cert.RopeRefIdeal.Read.val_main_v55 Cert.RopeRefIdeal.Read.val_main_v54 Cert.RopeRefIdeal.Read.val_main_v53
    Cert.RopeRefIdeal.Read.val_main_v52 Cert.RopeRefIdeal.Read.val_main_v51 Cert.RopeRefIdeal.Read.val_main_v50
    Cert.RopeRefIdeal.Read.val_main_v49 Cert.RopeRefIdeal.Read.val_main_v48 Cert.RopeRefIdeal.Read.val_main_v47
    Cert.RopeRefIdeal.Read.val_main_v2 Cert.RopeRefIdeal.Read.val_main_cst_4 Cert.RopeRefIdeal.Read.val_main_cst_5
    Cert.RopeRefIdeal.Read.val_main_cst_6
  pointwise

/-- The reference's rotated queries, at an index. -/
theorem ref46_apply (x : Vec Ideal S8192x4096 .f32) (g : Vec Ideal S1x128 .f32) (n : Fin 8192) (h : Fin 16) (d : Fin 128) :
    Cert.RopeRefIdeal.Read.val_main_v46 (F := Ideal) x g (ix4 0 n h d) = rot
      (nrm (fun j : Fin 128 => x (ix2 n (⟨h.val * 128 + j.val, by omega⟩ : Fin 4096))) (fun j => g (ix2 (0 : Fin 1) j)))
      (fun j : Fin 64 => Cert.RopeRefIdeal.Read.val_main_v30 (F := Ideal) (ix2 n j))
        (fun j : Fin 64 => Cert.RopeRefIdeal.Read.val_main_v32 (F := Ideal) (ix2 n j)) d := by
  unfold rot Cert.RopeRefIdeal.Read.val_main_v46 Cert.RopeRefIdeal.Read.val_main_v45 Cert.RopeRefIdeal.Read.val_main_v44
    Cert.RopeRefIdeal.Read.val_main_v43 Cert.RopeRefIdeal.Read.val_main_v42 Cert.RopeRefIdeal.Read.val_main_v41
    Cert.RopeRefIdeal.Read.val_main_v40 Cert.RopeRefIdeal.Read.val_main_v39 Cert.RopeRefIdeal.Read.val_main_v38
    Cert.RopeRefIdeal.Read.val_main_v37 Cert.RopeRefIdeal.Read.val_main_v36 Cert.RopeRefIdeal.Read.val_main_v35
    Cert.RopeRefIdeal.Read.val_main_v34 Cert.RopeRefIdeal.Read.val_main_v33 Cert.RopeRefIdeal.Read.val_main_v31
  pointwise
  simp only [ref17_apply]
  split
  · rfl
  · rename_i hd
    have e : (⟨64 + (d.val - 64), by omega⟩ : Fin 128) = d := Fin.ext (by show 64 + (d.val - 64) = d.val; omega)
    rw [e]

/-- Its rotated keys. -/
theorem ref90_apply (x : Vec Ideal S8192x4096 .f32) (g : Vec Ideal S1x128 .f32) (n : Fin 8192) (h : Fin 16) (d : Fin 128) :
    Cert.RopeRefIdeal.Read.val_main_v90 (F := Ideal) x g (ix4 0 n h d) = rot
      (nrm (fun j : Fin 128 => x (ix2 n (⟨2048 + (h.val * 128 + j.val), by omega⟩ : Fin 4096))) (fun j => g (ix2 (0 : Fin 1) j)))
      (fun j : Fin 64 => Cert.RopeRefIdeal.Read.val_main_v30 (F := Ideal) (ix2 n j))
        (fun j : Fin 64 => Cert.RopeRefIdeal.Read.val_main_v32 (F := Ideal) (ix2 n j)) d := by
  have ec : Cert.RopeRefIdeal.Read.val_main_v74 (F := Ideal) = Cert.RopeRefIdeal.Read.val_main_v30 := rfl
  have es : Cert.RopeRefIdeal.Read.val_main_v76 (F := Ideal) = Cert.RopeRefIdeal.Read.val_main_v32 := rfl
  unfold rot Cert.RopeRefIdeal.Read.val_main_v90 Cert.RopeRefIdeal.Read.val_main_v89 Cert.RopeRefIdeal.Read.val_main_v88
    Cert.RopeRefIdeal.Read.val_main_v87 Cert.RopeRefIdeal.Read.val_main_v86 Cert.RopeRefIdeal.Read.val_main_v85
    Cert.RopeRefIdeal.Read.val_main_v84 Cert.RopeRefIdeal.Read.val_main_v83 Cert.RopeRefIdeal.Read.val_main_v82
    Cert.RopeRefIdeal.Read.val_main_v81 Cert.RopeRefIdeal.Read.val_main_v80 Cert.RopeRefIdeal.Read.val_main_v79
    Cert.RopeRefIdeal.Read.val_main_v78 Cert.RopeRefIdeal.Read.val_main_v77 Cert.RopeRefIdeal.Read.val_main_v75
  rw [ec, es]
  pointwise
  simp only [ref61_apply]
  split
  · rfl
  · rename_i hd
    have e : (⟨64 + (d.val - 64), by omega⟩ : Fin 128) = d := Fin.ext (by show 64 + (d.val - 64) = d.val; omega)
    rw [e]

/-- The reference's first result, at an index. -/
theorem ref97_apply (x : Vec Ideal S8192x4096 .f32) (g : Vec Ideal S1x128 .f32) (j : Fin 2048) (n : Fin 8192) :
    Cert.RopeRefIdeal.Read.val_main_v97 (F := Ideal) x g (ix2 j n)
      = Cert.RopeRefIdeal.Read.val_main_v46 (F := Ideal) x g (ix4 0 n (⟨j.val / 128, by omega⟩ : Fin 16) (⟨j.val % 128, by omega⟩ : Fin 128)) := by
  unfold Cert.RopeRefIdeal.Read.val_main_v97 Cert.RopeRefIdeal.Read.val_main_v96
  pointwise

/-- Its second result. -/
theorem ref95_apply (x : Vec Ideal S8192x4096 .f32) (g : Vec Ideal S1x128 .f32) (n : Fin 8192) (j : Fin 2048) :
    Cert.RopeRefIdeal.Read.val_main_v95 (F := Ideal) x g (ix2 n j)
      = Cert.RopeRefIdeal.Read.val_main_v90 (F := Ideal) x g (ix4 0 n (⟨j.val / 128, by omega⟩ : Fin 16) (⟨j.val % 128, by omega⟩ : Fin 128)) := by
  unfold Cert.RopeRefIdeal.Read.val_main_v95
  pointwise

/-- Its last result, the means of blocks of 256 keys. -/
theorem ref99_apply (x : Vec Ideal S8192x4096 .f32) (g : Vec Ideal S1x128 .f32) (b : Fin 32) (j : Fin 2048) :
    Cert.RopeRefIdeal.Read.val_main_v99 (F := Ideal) x g (ix2 b j) = Ideal.div (∑ l : Fin 256,
      Cert.RopeRefIdeal.Read.val_main_v90 (F := Ideal) x g (ix4 0 (⟨b.val * 256 + l.val, by omega⟩ : Fin 8192) (⟨j.val / 128, by omega⟩ : Fin 16)
        (⟨j.val % 128, by omega⟩ : Fin 128))) (Ideal.ofBits FTy.f32 0x43800000#32) := by
  unfold Cert.RopeRefIdeal.Read.val_main_v99 Cert.RopeRefIdeal.Read.val_main_v94 Cert.RopeRefIdeal.Read.val_main_v93
    Cert.RopeRefIdeal.Read.val_main_v92 Cert.RopeRefIdeal.Read.val_main_v91 Cert.RopeRefIdeal.Read.val_main_cst_9
    Cert.RopeRefIdeal.Read.val_main_cst_10
  pointwise

/-- A row of a block of tables: what the rotation reads of them. -/
theorem tables (c : Dev nD) (t : Fin cfg0.N) (f : Fin 128 → EReal) (r : Fin 2048) (d : Fin 128) (n : Fin 8192)
    (hn : n.val = t.val / 16 * 2048 + r.val) :
    f d * iblk m c 4 t (ix2 r d) + f ⟨(d.val + 128 - 64) % 128, by omega⟩ * iblk m c 5 t (ix2 r d)
      = rot f (fun j : Fin 64 => Cert.RopeRefIdeal.Read.val_main_v30 (F := Ideal) (ix2 n j))
        (fun j : Fin 64 => Cert.RopeRefIdeal.Read.val_main_v32 (F := Ideal) (ix2 n j)) d := by
  have e := idx t
  refine rot_of_tables f _ _ d _ _ ?_ ?_
  · refine Eq.trans (b := V m c main_v15 (ix2 n d)) ?_ ?_
    · blk_ext [iblk, e]
    · rw [V_c m c]
      exact cos_apply n d
  · refine Eq.trans (b := V m c main_v17 (ix2 n d)) ?_ ?_
    · blk_ext [iblk, e]
    · rw [V_s m c]
      exact sin_apply n d

/-- A row of a block of queries is the reference's row. -/
theorem q_eq (c : Dev nD) (t : Fin cfg0.N) (r : Fin 2048) (d : Fin 128) (n : Fin 8192) (h : Fin 16)
    (hn : n.val = t.val / 16 * 2048 + r.val) (hh : h.val = t.val % 16) :
    k0_pay7 (iblk m c 4 t) (iblk m c 5 t) (iblk m c 0 t) (iblk m c 2 t) (ix2 r d)
      = Cert.RopeRefIdeal.Read.val_main_v46 (F := Ideal) (m ((c : Thread nD τ).loc main_arg0)) (m ((c : Thread nD τ).loc main_arg1)) (ix4 0 n h d) := by
  have e := idx t
  have e0 : ∀ j : Fin 128, iblk m c 0 t (ix2 r j) = m ((c : Thread nD τ).loc main_arg0)
      (ix2 n (⟨h.val * 128 + j.val, by omega⟩ : Fin 4096)) := fun j => by
    rw [← V_main_arg0 m c]
    blk_ext [iblk, e]
  have e2 : ∀ j : Fin 128, iblk m c 2 t (ix2 0 j) = m ((c : Thread nD τ).loc main_arg1) (ix2 (0 : Fin 1) j) := fun j => by
    rw [← V_main_arg1 m c]
    blk_ext [iblk, e]
  refine (pay7_apply _ _ _ _ r d).trans ?_
  simp only [e0, e2]
  exact (tables m c t _ r d n hn).trans (ref46_apply (m ((c : Thread nD τ).loc main_arg0)) (m ((c : Thread nD τ).loc main_arg1)) n h d).symm

/-- A row of a block of keys is the reference's row. -/
theorem k_eq (c : Dev nD) (t : Fin cfg0.N) (r : Fin 2048) (d : Fin 128) (n : Fin 8192) (h : Fin 16)
    (hn : n.val = t.val / 16 * 2048 + r.val) (hh : h.val = t.val % 16) :
    k0_pay7 (iblk m c 4 t) (iblk m c 5 t) (iblk m c 1 t) (iblk m c 3 t) (ix2 r d)
      = Cert.RopeRefIdeal.Read.val_main_v90 (F := Ideal) (m ((c : Thread nD τ).loc main_arg0)) (m ((c : Thread nD τ).loc main_arg2)) (ix4 0 n h d) := by
  have e := idx t
  have e0 : ∀ j : Fin 128, iblk m c 1 t (ix2 r j) = m ((c : Thread nD τ).loc main_arg0)
      (ix2 n (⟨2048 + (h.val * 128 + j.val), by omega⟩ : Fin 4096)) := fun j => by
    rw [← V_main_arg0 m c]
    blk_ext [iblk, e]
  have e2 : ∀ j : Fin 128, iblk m c 3 t (ix2 0 j) = m ((c : Thread nD τ).loc main_arg2) (ix2 (0 : Fin 1) j) := fun j => by
    rw [← V_main_arg2 m c]
    blk_ext [iblk, e]
  refine (pay7_apply _ _ _ _ r d).trans ?_
  simp only [e0, e2]
  exact (tables m c t _ r d n hn).trans (ref90_apply (m ((c : Thread nD τ).loc main_arg0)) (m ((c : Thread nD τ).loc main_arg2)) n h d).symm

/-- A row of a block of keys, at the reference's second result. -/
theorem k_row (c : Dev nD) (t : Fin cfg0.N) (r : Fin 2048) (d : Fin 128) (n : Fin 8192) (j : Fin 2048)
    (hn : n.val = t.val / 16 * 2048 + r.val) (hj : j.val = t.val % 16 * 128 + d.val) :
    k0_pay7 (iblk m c 4 t) (iblk m c 5 t) (iblk m c 1 t) (iblk m c 3 t) (ix2 r d)
      = Cert.RopeRefIdeal.Read.val_main_v95 (F := Ideal) (m ((c : Thread nD τ).loc main_arg0)) (m ((c : Thread nD τ).loc main_arg2)) (ix2 n j) := by
  refine (k_eq m c t r d n ⟨j.val / 128, by omega⟩ hn (by show j.val / 128 = t.val % 16; omega)).trans
    (Eq.trans ?_ (ref95_apply (m ((c : Thread nD τ).loc main_arg0)) (m ((c : Thread nD τ).loc main_arg2)) n j).symm)
  have e : (⟨j.val % 128, by omega⟩ : Fin 128) = d := Fin.ext (by show j.val % 128 = d.val; omega)
  rw [e]

/-- The kernel's array of queries is the reference's. -/
theorem arr6 (c : Dev nD) : (dats m 0 c).arrAt 6 cfg0.N = Cert.RopeRefIdeal.Read.val_main_v97 (F := Ideal)
    (m ((c : Thread nD τ).loc main_arg0)) (m ((c : Thread nD τ).loc main_arg1)) := by
  refine (dats m 0 c).arrAt_eq_of_covers 6 _ (by decide +kernel) fun t hf y => ?_
  blk_simp
  rw [after0_6]
  frame_out
  have e := idx t
  have ht : t.val < 64 := t.isLt.trans_eq N_0
  idx_vars y
  refine Eq.trans (b := k0_pay7 (iblk m c 4 t) (iblk m c 5 t) (iblk m c 0 t) (iblk m c 2 t) (ix2 y1 y0)) ?_ ?_
  · unfold k0_pay2
    pointwise
  refine (q_eq m c t y1 y0 ⟨t.val / 16 * 2048 + y1.val, by omega⟩ ⟨t.val % 16, by omega⟩ rfl rfl).trans
    (Eq.trans ?_ ((ref97_apply (m ((c : Thread nD τ).loc main_arg0)) (m ((c : Thread nD τ).loc main_arg1)) ⟨t.val % 16 * 128 + y0.val, by omega⟩
      ⟨t.val / 16 * 2048 + y1.val, by omega⟩).symm.trans ?_))
  · have e1 : (⟨(t.val % 16 * 128 + y0.val) / 128, by omega⟩ : Fin 16) = ⟨t.val % 16, by omega⟩ :=
      Fin.ext (by show (t.val % 16 * 128 + y0.val) / 128 = t.val % 16; omega)
    have e2 : (⟨(t.val % 16 * 128 + y0.val) % 128, by omega⟩ : Fin 128) = y0 :=
      Fin.ext (by show (t.val % 16 * 128 + y0.val) % 128 = y0.val; omega)
    rw [e1, e2]
  · blk_ext [e]

/-- The kernel's array of keys is the reference's. -/
theorem arr7 (c : Dev nD) : (dats m 0 c).arrAt 7 cfg0.N = Cert.RopeRefIdeal.Read.val_main_v95 (F := Ideal)
    (m ((c : Thread nD τ).loc main_arg0)) (m ((c : Thread nD τ).loc main_arg2)) := by
  refine (dats m 0 c).arrAt_eq_of_covers 7 _ (by decide +kernel) fun t hf y => ?_
  blk_simp
  rw [after0_7]
  frame_out
  have e := idx t
  have ht : t.val < 64 := t.isLt.trans_eq N_0
  idx_vars y
  refine (congrFun (keys_eq _ _ _ _ _ _) _).trans ?_
  refine (k_row m c t y0 y1 ⟨t.val / 16 * 2048 + y0.val, by omega⟩ ⟨t.val % 16 * 128 + y1.val, by omega⟩ rfl rfl).trans ?_
  blk_ext [e]

/-- So is its copy of them. -/
theorem arr8 (c : Dev nD) : (dats m 0 c).arrAt 8 cfg0.N = Cert.RopeRefIdeal.Read.val_main_v98 (F := Ideal)
    (m ((c : Thread nD τ).loc main_arg0)) (m ((c : Thread nD τ).loc main_arg2)) := by
  refine (dats m 0 c).arrAt_eq_of_covers 8 _ (by decide +kernel) fun t hf y => ?_
  blk_simp
  rw [after0_8]
  frame_out
  have e := idx t
  have ht : t.val < 64 := t.isLt.trans_eq N_0
  idx_vars y
  show k0_pay1 (F := Ideal) _ _ _ _ = Cert.RopeRefIdeal.Read.val_main_v95 (F := Ideal) _ _ _
  refine (congrFun (keys_eq _ _ _ _ _ _) _).trans ?_
  refine (k_row m c t y0 y1 ⟨t.val / 16 * 2048 + y0.val, by omega⟩ ⟨t.val % 16 * 128 + y1.val, by omega⟩ rfl rfl).trans ?_
  blk_ext [e]

/-- And its array of block means is the reference's. -/
theorem arr9 (c : Dev nD) : (dats m 0 c).arrAt 9 cfg0.N = Cert.RopeRefIdeal.Read.val_main_v99 (F := Ideal)
    (m ((c : Thread nD τ).loc main_arg0)) (m ((c : Thread nD τ).loc main_arg2)) := by
  refine (dats m 0 c).arrAt_eq_of_covers 9 _ (by decide +kernel) fun t hf y => ?_
  blk_simp
  rw [after0_9]
  frame_out
  have e := idx t
  have ht : t.val < 64 := t.isLt.trans_eq N_0
  idx_vars y
  have hrow := fun l : Fin 256 => k_eq m c t ⟨y0.val * 256 + l.val, by omega⟩ y1
    (⟨(t.val / 16 * 8 + y0.val) * 256 + l.val, by omega⟩ : Fin 8192) ⟨(t.val % 16 * 128 + y1.val) / 128, by omega⟩
    (by show (t.val / 16 * 8 + y0.val) * 256 + l.val = t.val / 16 * 2048 + (y0.val * 256 + l.val); omega)
    (by show (t.val % 16 * 128 + y1.val) / 128 = t.val % 16; omega)
  have e2 : (⟨(t.val % 16 * 128 + y1.val) % 128, by omega⟩ : Fin 128) = y1 :=
    Fin.ext (by show (t.val % 16 * 128 + y1.val) % 128 = y1.val; omega)
  refine (pay4_apply _ _ _ y0 y1).trans (Eq.trans ?_ ((ref99_apply (m ((c : Thread nD τ).loc main_arg0)) (m ((c : Thread nD τ).loc main_arg2))
    ⟨t.val / 16 * 8 + y0.val, by omega⟩ ⟨t.val % 16 * 128 + y1.val, by omega⟩).symm.trans ?_))
  · simp only [e2, keys_eq]
    exact congrArg (fun s => Ideal.div s (Ideal.ofBits FTy.f32 0x43800000#32)) (Finset.sum_congr rfl fun l _ => hrow l)
  · blk_ext [e]

/-- The two programs end with equal results at the ideal instance. -/
theorem algebraic : Cert.algebraic_RopeIdeal_RopeRefIdeal := by
  intro m g m' g' _ hagree
  refine ⟨fun c => (dats m 0 c).arrAt 6 cfg0.N, fun c => (dats m 0 c).arrAt 7 cfg0.N,
    fun c => (dats m 0 c).arrAt 8 cfg0.N, fun c => (dats m 0 c).arrAt 9 cfg0.N, ?_, ?_⟩
  · exact (θ_run defs _ _).mono (fun r h c => ⟨(h.1 c).1 6, (h.1 c).1 7, (h.1 c).1 8, (h.1 c).1 9, h.2 c⟩)
      (θ_run_and (Cert.RopeIdeal.Gen.run_main m g) (Cert.RopeIdeal.Gen.unchanged m g))
  · refine (θ_run Cert.RopeRefIdeal.defs _ _).mono (fun r h c => ?_) (Cert.RopeRefIdeal.Value.run (F := Ideal) m' g')
    obtain ⟨e0, e1, e2⟩ := hagree c
    have k0 : Cert.RopeRefIdeal.Read.val_main_v97 (F := Ideal) (m' ((c : Thread nD τ).loc Cert.RopeRefIdeal.main_arg0))
        (m' ((c : Thread nD τ).loc Cert.RopeRefIdeal.main_arg1)) = (dats m 0 c).arrAt 6 cfg0.N := by
      rw [arr6 m c, e0, e1]
    have k1 : Cert.RopeRefIdeal.Read.val_main_v95 (F := Ideal) (m' ((c : Thread nD τ).loc Cert.RopeRefIdeal.main_arg0))
        (m' ((c : Thread nD τ).loc Cert.RopeRefIdeal.main_arg2)) = (dats m 0 c).arrAt 7 cfg0.N := by
      rw [arr7 m c, e0, e2]
    have k2 : Cert.RopeRefIdeal.Read.val_main_v98 (F := Ideal) (m' ((c : Thread nD τ).loc Cert.RopeRefIdeal.main_arg0))
        (m' ((c : Thread nD τ).loc Cert.RopeRefIdeal.main_arg2)) = (dats m 0 c).arrAt 8 cfg0.N := by
      rw [arr8 m c, e0, e2]
    have k3 : Cert.RopeRefIdeal.Read.val_main_v99 (F := Ideal) (m' ((c : Thread nD τ).loc Cert.RopeRefIdeal.main_arg0))
        (m' ((c : Thread nD τ).loc Cert.RopeRefIdeal.main_arg2)) = (dats m 0 c).arrAt 9 cfg0.N := by
      rw [arr9 m c, e0, e2]
    exact ⟨((h c).1.trans (Cert.RopeRefIdeal.Read.val_main_v97_eq _ _)).trans k0, ((h c).2.1.trans (Cert.RopeRefIdeal.Read.val_main_v95_eq _ _)).trans k1,
      ((h c).2.2.1.trans (Cert.RopeRefIdeal.Read.val_main_v98_eq _ _)).trans k2, ((h c).2.2.2.1.trans (Cert.RopeRefIdeal.Read.val_main_v99_eq _ _)).trans k3,
      (h c).2.2.2.2⟩

/-- The reference's frame. -/
theorem ref_frame : Cert.quiescent_RopeRefIdeal := fun m ρ _ =>
  (θ_run Cert.RopeRefIdeal.defs _ _).mono
    (fun r h => ⟨fun c => (h c).2.2.2.2, sem_eq_zero_of_no_sems (by decide) r.2⟩)
    (Cert.RopeRefIdeal.Value.run (F := Ideal) m ρ)

end Cert.RopeVal

end
-- ==== Proof.OutProj.lean ====
/- The output projection: the arrays the kernel leaves, index by index, against the reference's lines. -/
module

public import proofs.«01_k».proof.Defs
public import proofs.«01_k».proof.Proof.Gen.OutProjIdeal.Frame
public import proofs.«01_k».proof.Proof.Gen.OutProjRefIdeal.Run
public import proofs.«01_k».proof.Proof.Gen.OutProjRefIdeal.Read
public import Idealize.ShloMosaic.Lib.Pipeline.ValueKit
public import Idealize.ShloMosaic.Lib.Pointwise
public import Idealize.ShloMosaic.Lib.MatmulPlain
public import Idealize.ShloMosaic.Lib.Claim

@[expose] public section

set_option maxRecDepth 16384

noncomputable section

namespace Cert.OutProjVal

open Idealize.ShloMosaic Idealize.ShloMosaic.TcCoe Idealize.SL.Sem
open Cert.OutProjIdeal Cert.OutProjIdeal.Gen

variable (m : (ℓ : Loc nD τ sig) → Buf (Elt Ideal) ℓ)

/-- The kernel's weights are the argument (its cast is the identity here). -/
theorem V_w (c : Dev nD) : V m c main_v0 = m ((c : Thread nD τ).loc main_arg4) := by
  entry_read
  rfl

/-- The block index of every window at every point of the grid. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 1]
    ∧ win0_5.index t = ![0, 0] ∧ win0_6.index t = ![0, 0] ∧ win0_7.index t = ![t.val, 0]
    ∧ win0_8.index t = ![t.val, 0] := by
  decide +kernel

/-- The body's row at a row and a column of one block. -/
theorem pay1_apply (ga oa gb ob x : Vec Ideal S256x2048 .f32) (w : Vec Ideal S2048x2048 .bf16) (r : Fin 256)
    (q : Fin 2048) : k0_pay1 ga oa gb ob x w (ix2 r q) = x (ix2 r q) + ∑ k : Fin 2048,
      (Ideal.logistic (ga (ix2 r k)) * oa (ix2 r k) + Ideal.logistic (gb (ix2 r k)) * ob (ix2 r k)) * w (ix2 k q) := by
  unfold k0_pay1
  pointwise

/-- The body's normed row at a row and a column of one block. -/
theorem pay2_apply (ga oa gb ob x : Vec Ideal S256x2048 .f32) (w : Vec Ideal S2048x2048 .bf16)
    (g : Vec Ideal S1x2048 .f32) (r : Fin 256) (q : Fin 2048) :
    k0_pay2 ga oa gb ob x w g (ix2 r q) = k0_pay1 ga oa gb ob x w (ix2 r q)
      * Ideal.rsqrt (Ideal.div (∑ j : Fin 2048, k0_pay1 ga oa gb ob x w (ix2 r j) * k0_pay1 ga oa gb ob x w (ix2 r j))
          (Ideal.ofBits FTy.f32 0x45000000#32) + Ideal.ofBits FTy.f32 0x358637BD#32) * g (ix2 0 q) := by
  unfold k0_pay2
  pointwise

/-- The reference's row at a row and a column. -/
theorem ref18_apply (x oa ob : Vec Ideal S8192x2048 .f32) (g : Vec Ideal S8192x4096 .f32) (w : Vec Ideal S2048x2048 .f32)
    (n : Fin 8192) (q : Fin 2048) :
    Cert.OutProjRefIdeal.Read.val_main_v18 (F := Ideal) x oa ob g w (ix2 n q) = x (ix2 n q) + ∑ k : Fin 2048,
      (Ideal.logistic (g (ix2 n ⟨k.val, by omega⟩)) * oa (ix2 n k)
        + Ideal.logistic (g (ix2 n ⟨2048 + k.val, by omega⟩)) * ob (ix2 n k)) * w (ix2 k q) := by
  unfold Cert.OutProjRefIdeal.Read.val_main_v18 Cert.OutProjRefIdeal.Read.val_main_v17 Cert.OutProjRefIdeal.Read.val_main_v16
    Cert.OutProjRefIdeal.Read.val_main_v15 Cert.OutProjRefIdeal.Read.val_main_v14 Cert.OutProjRefIdeal.Read.val_main_v13
    Cert.OutProjRefIdeal.Read.val_main_v12 Cert.OutProjRefIdeal.Read.val_main_v11 Cert.OutProjRefIdeal.Read.val_main_v10
    Cert.OutProjRefIdeal.Read.val_main_v9 Cert.OutProjRefIdeal.Read.val_main_v8 Cert.OutProjRefIdeal.Read.val_main_v7
    Cert.OutProjRefIdeal.Read.val_main_v6 Cert.OutProjRefIdeal.Read.val_main_v5 Cert.OutProjRefIdeal.Read.val_main_v4
    Cert.OutProjRefIdeal.Read.val_main_v3 Cert.OutProjRefIdeal.Read.val_main_v2 Cert.OutProjRefIdeal.Read.val_main_v1
    Cert.OutProjRefIdeal.Read.val_main_v0 Cert.OutProjRefIdeal.Read.val_main_cst Cert.OutProjRefIdeal.Read.val_main_cst_0
    Cert.OutProjRefIdeal.Read.val_main_cst_1 Cert.OutProjRefIdeal.Read.val_main_cst_2
  pointwise
  rfl

/-- The reference's normed row at a row and a column. -/
theorem ref31_apply (x oa ob : Vec Ideal S8192x2048 .f32) (g : Vec Ideal S8192x4096 .f32) (w : Vec Ideal S2048x2048 .f32)
    (a : Vec Ideal S1x2048 .f32) (n : Fin 8192) (q : Fin 2048) :
    Cert.OutProjRefIdeal.Read.val_main_v31 (F := Ideal) x oa ob g w a (ix2 n q)
      = Cert.OutProjRefIdeal.Read.val_main_v18 (F := Ideal) x oa ob g w (ix2 n q)
      * Ideal.rsqrt (Ideal.div (∑ j : Fin 2048, Cert.OutProjRefIdeal.Read.val_main_v18 (F := Ideal) x oa ob g w (ix2 n j)
            * Cert.OutProjRefIdeal.Read.val_main_v18 (F := Ideal) x oa ob g w (ix2 n j))
          (Ideal.ofBits FTy.f32 0x45000000#32) + Ideal.ofBits FTy.f32 0x358637BD#32) * a (ix2 0 q) := by
  unfold Cert.OutProjRefIdeal.Read.val_main_v31 Cert.OutProjRefIdeal.Read.val_main_v30 Cert.OutProjRefIdeal.Read.val_main_v29
    Cert.OutProjRefIdeal.Read.val_main_v28 Cert.OutProjRefIdeal.Read.val_main_v27 Cert.OutProjRefIdeal.Read.val_main_v26
    Cert.OutProjRefIdeal.Read.val_main_v25 Cert.OutProjRefIdeal.Read.val_main_v24 Cert.OutProjRefIdeal.Read.val_main_v23
    Cert.OutProjRefIdeal.Read.val_main_v22 Cert.OutProjRefIdeal.Read.val_main_v21 Cert.OutProjRefIdeal.Read.val_main_v20
    Cert.OutProjRefIdeal.Read.val_main_v19 Cert.OutProjRefIdeal.Read.val_main_cst_3 Cert.OutProjRefIdeal.Read.val_main_cst_4
    Cert.OutProjRefIdeal.Read.val_main_cst_5
  pointwise

/-- A row of a block is the reference's row. -/
theorem row_eq (c : Dev nD) (t : Fin cfg0.N) (r : Fin 256) (q : Fin 2048) (n : Fin 8192) (hn : n.val = t.val * 256 + r.val) :
    k0_pay1 (iblk m c 3 t) (iblk m c 1 t) (iblk m c 4 t) (iblk m c 2 t) (iblk m c 0 t) (iblk m c 5 t) (ix2 r q)
      = Cert.OutProjRefIdeal.Read.val_main_v18 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (ix2 n q) := by
  have e := idx t
  have e0 : iblk m c 0 t (ix2 r q) = m ((c : Thread nD τ).loc main_arg0) (ix2 n q) := by
    rw [← V_main_arg0 m c]
    blk_ext [iblk, e]
  have e1 : ∀ k : Fin 2048, iblk m c 1 t (ix2 r k) = m ((c : Thread nD τ).loc main_arg1) (ix2 n k) := fun k => by
    rw [← V_main_arg1 m c]
    blk_ext [iblk, e]
  have e2 : ∀ k : Fin 2048, iblk m c 2 t (ix2 r k) = m ((c : Thread nD τ).loc main_arg2) (ix2 n k) := fun k => by
    rw [← V_main_arg2 m c]
    blk_ext [iblk, e]
  have e3 : ∀ k : Fin 2048, iblk m c 3 t (ix2 r k) = m ((c : Thread nD τ).loc main_arg3)
      (ix2 n (⟨k.val, by omega⟩ : Fin 4096)) := fun k => by
    rw [← V_main_arg3 m c]
    blk_ext [iblk, e]
  have e4 : ∀ k : Fin 2048, iblk m c 4 t (ix2 r k) = m ((c : Thread nD τ).loc main_arg3)
      (ix2 n (⟨2048 + k.val, by omega⟩ : Fin 4096)) := fun k => by
    rw [← V_main_arg3 m c]
    blk_ext [iblk, e]
  have e5 : ∀ k : Fin 2048, iblk m c 5 t (ix2 k q) = m ((c : Thread nD τ).loc main_arg4) (ix2 k q) := fun k => by
    rw [← V_w m c]
    blk_ext [iblk, e]
  refine (pay1_apply _ _ _ _ _ _ r q).trans (Eq.trans ?_ (ref18_apply
    (m ((c : Thread nD τ).loc main_arg0)) (m ((c : Thread nD τ).loc main_arg1)) (m ((c : Thread nD τ).loc main_arg2))
    (m ((c : Thread nD τ).loc main_arg3)) (m ((c : Thread nD τ).loc main_arg4)) n q).symm)
  simp only [e0, e1, e2, e3, e4, e5]

/-- The kernel's array of rows is the reference's. -/
theorem arr7 (c : Dev nD) : (dats m 0 c).arrAt 7 cfg0.N = Cert.OutProjRefIdeal.Read.val_main_v18 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 7 _ (by decide +kernel) fun t hf y => ?_
  blk_simp
  rw [after0_7]
  frame_out
  have e := idx t
  have ht : t.val < 32 := t.isLt.trans_eq N_0
  idx_vars y
  refine (row_eq m c t y0 y1 ⟨t.val * 256 + y0.val, by omega⟩ rfl).trans ?_
  blk_ext [e]

/-- And the normed array is the reference's. -/
theorem arr8 (c : Dev nD) : (dats m 0 c).arrAt 8 cfg0.N = Cert.OutProjRefIdeal.Read.val_main_v31 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4))
    (m ((c : Thread nD τ).loc main_arg5)) := by
  refine (dats m 0 c).arrAt_eq_of_covers 8 _ (by decide +kernel) fun t hf y => ?_
  blk_simp
  rw [after0_8]
  frame_out
  have e := idx t
  have ht : t.val < 32 := t.isLt.trans_eq N_0
  idx_vars y
  have e6 : iblk m c 6 t (ix2 0 y1) = m ((c : Thread nD τ).loc main_arg5) (ix2 (0 : Fin 1) y1) := by
    rw [← V_main_arg5 m c]
    blk_ext [iblk, e]
  have hrow := fun j => row_eq m c t y0 j ⟨t.val * 256 + y0.val, by omega⟩ rfl
  refine (pay2_apply _ _ _ _ _ _ _ y0 y1).trans (Eq.trans ?_ ((ref31_apply
    (m ((c : Thread nD τ).loc main_arg0)) (m ((c : Thread nD τ).loc main_arg1)) (m ((c : Thread nD τ).loc main_arg2))
    (m ((c : Thread nD τ).loc main_arg3)) (m ((c : Thread nD τ).loc main_arg4))
    (m ((c : Thread nD τ).loc main_arg5)) ⟨t.val * 256 + y0.val, by omega⟩ y1).symm.trans ?_))
  · simp only [hrow, e6]
  · blk_ext [e]

/-- The two programs end with equal results at the ideal instance. -/
theorem algebraic : Cert.algebraic_OutProjIdeal_OutProjRefIdeal := by
  pair_intro
  · run_from Cert.OutProjIdeal.Gen.run_main m g
  · run_from Cert.OutProjRefIdeal.Value.run m' g'
    all_goals first
      | (rw [arr7]; rfl)
      | (rw [arr8]; rfl)

/-- The reference's frame. -/
theorem ref_frame : Cert.quiescent_OutProjRefIdeal := fun m ρ _ =>
  (θ_run Cert.OutProjRefIdeal.defs _ _).mono
    (fun r h => ⟨fun c => (h c).2.2, sem_eq_zero_of_no_sems (by decide) r.2⟩)
    (Cert.OutProjRefIdeal.Value.run (F := Ideal) m ρ)

end Cert.OutProjVal

end
-- ==== Proof.Ple.lean ====
/- The per-layer input embedding: the array the kernel leaves, index by index, against the reference's lines. -/
module

public import proofs.«01_k».proof.Defs
public import proofs.«01_k».proof.Proof.Gen.PleIdeal.Frame
public import proofs.«01_k».proof.Proof.Gen.PleRefIdeal.Run
public import proofs.«01_k».proof.Proof.Gen.PleRefIdeal.Read
public import Idealize.ShloMosaic.Lib.Pipeline.ValueKit
public import Idealize.ShloMosaic.Lib.Pointwise
public import Idealize.ShloMosaic.Lib.MatmulPlain
public import Idealize.ShloMosaic.Lib.Claim

@[expose] public section

set_option maxRecDepth 16384

noncomputable section

namespace Cert.PleVal

open Idealize.ShloMosaic Idealize.ShloMosaic.TcCoe Idealize.SL.Sem
open Cert.PleIdeal Cert.PleIdeal.Gen

variable (m : (ℓ : Loc nD τ sig) → Buf (Elt Ideal) ℓ)

/-- The kernel's normed rows are the argument (its cast is the identity here). -/
theorem V_h (c : Dev nD) : V m c main_v0 = m ((c : Thread nD τ).loc main_arg1) := by
  entry_read
  rfl

/-- So are its embeddings. -/
theorem V_e (c : Dev nD) : V m c main_v1 = m ((c : Thread nD τ).loc main_arg2) := by
  entry_read
  rfl

/-- So are the gate's weights. -/
theorem V_g (c : Dev nD) : V m c main_v2 = m ((c : Thread nD τ).loc main_arg3) := by
  entry_read
  rfl

/-- So are the projection's weights. -/
theorem V_p (c : Dev nD) : V m c main_v3 = m ((c : Thread nD τ).loc main_arg4) := by
  entry_read
  rfl

/-- The block index of every window at every point of the grid. -/
theorem idx : ∀ t : Fin cfg0.N, win0_0.index t = ![t.val / 2, t.val % 2] ∧ win0_1.index t = ![t.val / 2, 0]
    ∧ win0_2.index t = ![t.val / 2, 0] ∧ win0_3.index t = ![0, t.val % 2] ∧ win0_4.index t = ![0, t.val % 2]
    ∧ win0_5.index t = ![t.val / 2, t.val % 2] := by
  decide +kernel

/-- The body's value at a row and a column of one block. -/
theorem pay1_apply (x0 : Vec Ideal S512x2048 .bf16) (x1 : Vec Ideal S2048x1024 .bf16) (x2 : Vec Ideal S512x1024 .f32)
    (x3 : Vec Ideal S512x256 .bf16) (x4 : Vec Ideal S256x1024 .bf16) (r : Fin 512) (q : Fin 1024) :
    k0_pay1 x0 x1 x2 x3 x4 (ix2 r q) = x2 (ix2 r q)
      + Ideal.logistic (∑ k : Fin 2048, x0 (ix2 r k) * x1 (ix2 k q)) * ∑ k : Fin 256, x3 (ix2 r k) * x4 (ix2 k q) := by
  unfold k0_pay1
  pointwise

/-- The reference's value at a row and a column. -/
theorem ref_apply (x : Vec Ideal S8192x2048 .f32) (h : Vec Ideal S8192x2048 .f32) (e : Vec Ideal S8192x256 .f32)
    (g : Vec Ideal S2048x2048 .f32) (p : Vec Ideal S256x2048 .f32) (r : Fin 8192) (q : Fin 2048) :
    Cert.PleRefIdeal.Read.val_main_v9 (F := Ideal) x h e g p (ix2 r q) = x (ix2 r q)
      + Ideal.logistic (∑ k : Fin 2048, h (ix2 r k) * g (ix2 k q)) * ∑ k : Fin 256, e (ix2 r k) * p (ix2 k q) := by
  unfold Cert.PleRefIdeal.Read.val_main_v9 Cert.PleRefIdeal.Read.val_main_v8 Cert.PleRefIdeal.Read.val_main_v7
    Cert.PleRefIdeal.Read.val_main_v6 Cert.PleRefIdeal.Read.val_main_v5 Cert.PleRefIdeal.Read.val_main_v4
    Cert.PleRefIdeal.Read.val_main_v3 Cert.PleRefIdeal.Read.val_main_v2 Cert.PleRefIdeal.Read.val_main_v1
    Cert.PleRefIdeal.Read.val_main_v0 Cert.PleRefIdeal.Read.val_main_cst Cert.PleRefIdeal.Read.val_main_cst_0
  pointwise
  rfl

/-- The kernel's array is the reference's. -/
theorem arr5 (c : Dev nD) : (dats m 0 c).arrAt 5 cfg0.N = Cert.PleRefIdeal.Read.val_main_v9 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 5 _ (by decide +kernel) fun t hf y => ?_
  blk_simp
  rw [after0_5]
  frame_out
  have e := idx t
  idx_vars y
  have ht : t.val < 32 := t.isLt.trans_eq N_0
  have e0 : iblk m c 0 t (ix2 y0 y1) = m ((c : Thread nD τ).loc main_arg0)
      (ix2 (⟨t.val / 2 * 512 + y0.val, by omega⟩ : Fin 8192) (⟨t.val % 2 * 1024 + y1.val, by omega⟩ : Fin 2048)) := by
    rw [← V_main_arg0 m c]
    blk_ext [iblk, e]
  have e1 : ∀ k : Fin 2048, iblk m c 1 t (ix2 y0 k) = m ((c : Thread nD τ).loc main_arg1)
      (ix2 (⟨t.val / 2 * 512 + y0.val, by omega⟩ : Fin 8192) k) := fun k => by
    rw [← V_h m c]
    blk_ext [iblk, e]
  have e2 : ∀ k : Fin 256, iblk m c 2 t (ix2 y0 k) = m ((c : Thread nD τ).loc main_arg2)
      (ix2 (⟨t.val / 2 * 512 + y0.val, by omega⟩ : Fin 8192) k) := fun k => by
    rw [← V_e m c]
    blk_ext [iblk, e]
  have e3 : ∀ k : Fin 2048, iblk m c 3 t (ix2 k y1) = m ((c : Thread nD τ).loc main_arg3)
      (ix2 k (⟨t.val % 2 * 1024 + y1.val, by omega⟩ : Fin 2048)) := fun k => by
    rw [← V_g m c]
    blk_ext [iblk, e]
  have e4 : ∀ k : Fin 256, iblk m c 4 t (ix2 k y1) = m ((c : Thread nD τ).loc main_arg4)
      (ix2 k (⟨t.val % 2 * 1024 + y1.val, by omega⟩ : Fin 2048)) := fun k => by
    rw [← V_p m c]
    blk_ext [iblk, e]
  refine (pay1_apply _ _ _ _ _ y0 y1).trans (Eq.trans ?_ ((ref_apply
    (m ((c : Thread nD τ).loc main_arg0)) (m ((c : Thread nD τ).loc main_arg1))
    (m ((c : Thread nD τ).loc main_arg2)) (m ((c : Thread nD τ).loc main_arg3))
    (m ((c : Thread nD τ).loc main_arg4)) ⟨t.val / 2 * 512 + y0.val, by omega⟩ ⟨t.val % 2 * 1024 + y1.val, by omega⟩).symm.trans ?_))
  · simp only [e0, e1, e2, e3, e4]
  · blk_ext [e]

/-- The two programs end with equal results at the ideal instance. -/
theorem algebraic : Cert.algebraic_PleIdeal_PleRefIdeal := by
  pair_intro
  · run_from Cert.PleIdeal.Gen.run_main m g
  · run_from Cert.PleRefIdeal.Value.run m' g'
    rw [arr5]
    rfl

/-- The reference's frame. -/
theorem ref_frame : Cert.quiescent_PleRefIdeal := fun m ρ _ =>
  (θ_run Cert.PleRefIdeal.defs _ _).mono
    (fun r h => ⟨fun c => (h c).2, sem_eq_zero_of_no_sems (by decide) r.2⟩)
    (Cert.PleRefIdeal.Value.run (F := Ideal) m ρ)

end Cert.PleVal

end
-- ==== Proof.Norm.lean ====
/- The first norm: the array the kernel leaves, index by index, against the reference's lines. -/
module

public import proofs.«01_k».proof.Defs
public import proofs.«01_k».proof.Proof.Gen.NormIdeal.Frame
public import proofs.«01_k».proof.Proof.Gen.NormRefIdeal.Run
public import proofs.«01_k».proof.Proof.Gen.NormRefIdeal.Read
public import Idealize.ShloMosaic.Lib.Pipeline.ValueKit
public import Idealize.ShloMosaic.Lib.Pointwise
public import Idealize.ShloMosaic.Lib.MatmulPlain
public import Idealize.ShloMosaic.Lib.Claim

@[expose] public section

set_option maxRecDepth 16384

noncomputable section

namespace Cert.NormVal

open Idealize.ShloMosaic Idealize.ShloMosaic.TcCoe Idealize.SL.Sem
open Cert.NormIdeal Cert.NormIdeal.Gen

variable (m : (ℓ : Loc nD τ sig) → Buf (Elt Ideal) ℓ)

/-- The block index of every window at every point of the grid. -/
theorem idx : ∀ t : Fin cfg0.N, win0_0.index t = ![t.val, 0] ∧ win0_1.index t = ![0, 0] ∧ win0_2.index t = ![t.val, 0] := by
  decide +kernel

/-- A row, normed: each entry over the root of the entries' mean square, times its gain. -/
def nrm (f g : Fin 2048 → EReal) (q : Fin 2048) : EReal :=
  f q * Ideal.rsqrt (Ideal.div (∑ j : Fin 2048, f j * f j) (Ideal.ofBits FTy.f32 0x45000000#32)
    + Ideal.ofBits FTy.f32 0x358637BD#32) * g q

/-- The body's value at a row and a column of one block. -/
theorem pay1_apply (x : Vec Ideal S512x2048 .f32) (g : Vec Ideal S1x2048 .f32) (r : Fin 512) (q : Fin 2048) :
    k0_pay1 x g (ix2 r q) = nrm (fun j => x (ix2 r j)) (fun j => g (ix2 (0 : Fin 1) j)) q := by
  unfold k0_pay1 nrm
  pointwise

/-- The reference's value at a row and a column. -/
theorem ref_apply (x : Vec Ideal S8192x2048 .f32) (g : Vec Ideal S1x2048 .f32) (r : Fin 8192) (q : Fin 2048) :
    Cert.NormRefIdeal.Read.val_main_v12 (F := Ideal) x g (ix2 r q)
      = nrm (fun j => x (ix2 r j)) (fun j => g (ix2 (0 : Fin 1) j)) q := by
  unfold nrm Cert.NormRefIdeal.Read.val_main_v12 Cert.NormRefIdeal.Read.val_main_v11 Cert.NormRefIdeal.Read.val_main_v10
    Cert.NormRefIdeal.Read.val_main_v9 Cert.NormRefIdeal.Read.val_main_v8 Cert.NormRefIdeal.Read.val_main_v7
    Cert.NormRefIdeal.Read.val_main_v6 Cert.NormRefIdeal.Read.val_main_v5 Cert.NormRefIdeal.Read.val_main_v4
    Cert.NormRefIdeal.Read.val_main_v3 Cert.NormRefIdeal.Read.val_main_v2 Cert.NormRefIdeal.Read.val_main_v1
    Cert.NormRefIdeal.Read.val_main_v0 Cert.NormRefIdeal.Read.val_main_cst Cert.NormRefIdeal.Read.val_main_cst_0 Cert.NormRefIdeal.Read.val_main_cst_1
  pointwise

/-- The kernel's array is the reference's. -/
theorem arr2 (c : Dev nD) : (dats m 0 c).arrAt 2 cfg0.N = Cert.NormRefIdeal.Read.val_main_v12 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  frame_out
  have e := idx t
  idx_vars y
  have ht : t.val < 16 := t.isLt.trans_eq N_0
  have e0 : ∀ j : Fin 2048, iblk m c 0 t (ix2 y0 j) = m ((c : Thread nD τ).loc main_arg0)
      (ix2 (⟨t.val * 512 + y0.val, by omega⟩ : Fin 8192) j) := fun j => by
    rw [← V_main_arg0 m c]
    blk_ext [iblk, e]
  have e1 : ∀ j : Fin 2048, iblk m c 1 t (ix2 0 j) = m ((c : Thread nD τ).loc main_arg1) (ix2 (0 : Fin 1) j) := fun j => by
    rw [← V_main_arg1 m c]
    blk_ext [iblk, e]
  refine (pay1_apply _ _ y0 y1).trans (Eq.trans ?_ ((ref_apply (m ((c : Thread nD τ).loc main_arg0)) (m ((c : Thread nD τ).loc main_arg1))
    ⟨t.val * 512 + y0.val, by omega⟩ y1).symm.trans ?_))
  · simp only [e0, e1]
  · blk_ext [e]

/-- The two programs end with equal results at the ideal instance. -/
theorem algebraic : Cert.algebraic_NormIdeal_NormRefIdeal := by
  pair_intro
  · run_from Cert.NormIdeal.Gen.run_main m g
  · run_from Cert.NormRefIdeal.Value.run m' g'
    rw [arr2]
    rfl

/-- The reference's frame. -/
theorem ref_frame : Cert.quiescent_NormRefIdeal := fun m ρ _ =>
  (θ_run Cert.NormRefIdeal.defs _ _).mono
    (fun r h => ⟨fun c => (h c).2, sem_eq_zero_of_no_sems (by decide) r.2⟩)
    (Cert.NormRefIdeal.Value.run (F := Ideal) m ρ)

end Cert.NormVal

end
-- ==== Proof.ProjVS.lean ====
/- The projection of the sample group's values: the array the kernel leaves, index by index, against the reference's product. -/
module

public import proofs.«01_k».proof.Defs
public import proofs.«01_k».proof.Proof.Gen.ProjVSIdeal.Frame
public import proofs.«01_k».proof.Proof.Gen.ProjVSRefIdeal.Run
public import proofs.«01_k».proof.Proof.Gen.ProjVSRefIdeal.Read
public import Idealize.ShloMosaic.Lib.Pipeline.ValueKit
public import Idealize.ShloMosaic.Lib.Pointwise
public import Idealize.ShloMosaic.Lib.MatmulPlain
public import Idealize.ShloMosaic.Lib.Claim

@[expose] public section

set_option maxRecDepth 16384

noncomputable section

namespace Cert.ProjVSVal

open Idealize.ShloMosaic Idealize.ShloMosaic.TcCoe Idealize.SL.Sem
open Cert.ProjVSIdeal Cert.ProjVSIdeal.Gen

variable (m : (ℓ : Loc nD τ sig) → Buf (Elt Ideal) ℓ)

/-- The kernel's activations are the argument (its cast is the identity here). -/
theorem V_h (c : Dev nD) : V m c main_v0 = m ((c : Thread nD τ).loc main_arg0) := by
  entry_read
  rfl

/-- So are its weights. -/
theorem V_w (c : Dev nD) : V m c main_v1 = m ((c : Thread nD τ).loc main_arg1) := by
  entry_read
  rfl

/-- The block index of every window at every point of the grid. -/
theorem idx : ∀ t : Fin cfg0.N, win0_0.index t = ![t.val / 2, 0] ∧ win0_1.index t = ![0, t.val % 2]
    ∧ win0_2.index t = ![t.val / 2, t.val % 2] := by
  decide +kernel

/-- The product, at a row and a column of one block. -/
theorem pay1_apply (x0 : Vec Ideal S32x2048 .bf16) (x1 : Vec Ideal S2048x1024 .bf16) (r : Fin 32) (q : Fin 1024) :
    k0_pay1 x0 x1 (ix2 r q) = ∑ k : Fin 2048, x0 (ix2 r k) * x1 (ix2 k q) := by
  unfold k0_pay1
  pointwise

/-- The kernel's array is the reference's product. -/
theorem arr2 (c : Dev nD) : (dats m 0 c).arrAt 2 cfg0.N = Cert.ProjVSRefIdeal.Read.val_main_v0
    (m ((c : Thread nD τ).loc main_arg0)) (m ((c : Thread nD τ).loc main_arg1)) := by
  refine (dats m 0 c).arrAt_eq_of_covers 2 _ (by decide +kernel) fun t hf y => ?_
  blk_simp
  rw [after0_2]
  frame_out
  have e := idx t
  rw [Cert.ProjVSRefIdeal.Read.val_main_v0_apply]
  idx_vars y
  rw [pay1_apply]
  refine Fin.sum_fin_congr fun k => ?_
  simp only [← V_h m c, ← V_w m c]
  congr 1 <;> blk_ext [iblk, e]

/-- The two programs end with equal arrays at the ideal instance. -/
theorem algebraic : Cert.algebraic_ProjVSIdeal_ProjVSRefIdeal := by
  pair_intro
  · run_from Cert.ProjVSIdeal.Gen.run_main m g
  · run_from Cert.ProjVSRefIdeal.Value.run m' g'
    rw [arr2]
    rfl

/-- The reference's frame. -/
theorem ref_frame : Cert.quiescent_ProjVSRefIdeal := fun m ρ _ =>
  (θ_run Cert.ProjVSRefIdeal.defs _ _).mono
    (fun r h => ⟨fun c => ⟨(h c).2.1, (h c).2.2⟩, sem_eq_zero_of_no_sems (by decide) r.2⟩)
    (Cert.ProjVSRefIdeal.Value.run (F := Ideal) m ρ)

end Cert.ProjVSVal

end
-- ==== Proof.RopeS.lean ====
/- The sample group's queries' and keys' norm and rotation: the arrays the kernel leaves, index by index, against the reference's lines. -/
module

public import proofs.«01_k».proof.Defs
public import proofs.«01_k».proof.Proof.Rope
public import proofs.«01_k».proof.Proof.Gen.RopeSIdeal.Frame
public import proofs.«01_k».proof.Proof.Gen.RopeSRefIdeal.Run
public import proofs.«01_k».proof.Proof.Gen.RopeSRefIdeal.Read
public import Idealize.ShloMosaic.Lib.Pipeline.ValueKit
public import Idealize.ShloMosaic.Lib.Pointwise
public import Idealize.ShloMosaic.Lib.MatmulPlain
public import Idealize.ShloMosaic.Lib.Claim

@[expose] public section

set_option maxRecDepth 16384

noncomputable section

namespace Cert.RopeSVal

open Idealize.ShloMosaic Idealize.ShloMosaic.TcCoe Idealize.SL.Sem
open Cert.RopeSIdeal Cert.RopeSIdeal.Gen
open Cert.RopeVal (nrm rot rot_of_tables)

variable (m : (ℓ : Loc nD τ sig) → Buf (Elt Ideal) ℓ)

/-- The kernel's angles: every row's position is 16384. -/
def ang : Vec Ideal S32x64 .f32 := mulf (F := Ideal) (φ := .f32)
  (broadcastInDim S32x64 ![0, 1] bcast_S32x1_S32x64_0_1 (broadcastInDim S32x1 ![0] bcast_S32_S32x1_0
    (sitofp (F := Ideal) .f32 (broadcastInDim S32 ![] bcast_S_S32 (constantI S_ 32 16384#32)))))
  (broadcastInDim S32x64 ![0, 1] bcast_S1x64_S32x64_0_1 (Cert.RopeSRefIdeal.Read.val_main_v28 (F := Ideal)))

/-- They are the reference's, row by row. -/
theorem ang_apply (n : Fin 32) (j : Fin 64) : ang (ix2 n j) = Cert.RopeSRefIdeal.Read.val_main_v30 (F := Ideal) (ix2 (0 : Fin 1) j) := by
  unfold ang Cert.RopeSRefIdeal.Read.val_main_v30 Cert.RopeSRefIdeal.Read.val_main_v29 Cert.RopeSRefIdeal.Read.val_main_v27
    Cert.RopeSRefIdeal.Read.val_main_v26 Cert.RopeSRefIdeal.Read.val_main_v2 Cert.RopeSRefIdeal.Read.val_main_v1
    Cert.RopeSRefIdeal.Read.val_main_v0 Cert.RopeSRefIdeal.Read.val_main_c
  pointwise
  rfl

/-- The kernel's cosines. -/
def ccos : Vec Ideal S32x64 .f32 := Host.cos (F := Ideal) (φ := .f32) ang

/-- The kernel's sines. -/
def csin : Vec Ideal S32x64 .f32 := Host.sin (F := Ideal) (φ := .f32) ang

/-- The cosines at an index. -/
theorem ccos_apply (n : Fin 32) (j : Fin 64) : ccos (ix2 n j) = Cert.RopeSRefIdeal.Read.val_main_v31 (F := Ideal) (ix2 (0 : Fin 1) j) :=
  congrArg (FloatOps.hostUnary (F := Ideal) (φ := .f32) .cos) (ang_apply n j)

/-- The sines at an index. -/
theorem csin_apply (n : Fin 32) (j : Fin 64) : csin (ix2 n j) = Cert.RopeSRefIdeal.Read.val_main_v33 (F := Ideal) (ix2 (0 : Fin 1) j) :=
  congrArg (FloatOps.hostUnary (F := Ideal) (φ := .f32) .sin) (ang_apply n j)

/-- The kernel's table of cosines is the cosines, twice beside themselves. -/
theorem V_c (c : Dev nD) : V m c main_v15 = concatenate S32x128 1 [⟨S32x64, ccos⟩, ⟨S32x64, ccos⟩]
    concatenates_S32x64_S32x64_S32x128_d1 := by
  entry_read
  rfl

/-- Its table of sines is the sines, negated and then as they are. -/
theorem V_s (c : Dev nD) : V m c main_v17 = concatenate S32x128 1
    [⟨S32x64, (Host.negf (F := Ideal) (φ := .f32) csin : Vec Ideal S32x64 .f32)⟩, ⟨S32x64, csin⟩]
    concatenates_S32x64_S32x64_S32x128_d1 := by
  entry_read
  rfl

/-- The table of cosines at an index. -/
theorem cos_apply (n : Fin 32) (d : Fin 128) :
    concatenate S32x128 1 [⟨S32x64, ccos⟩, ⟨S32x64, ccos⟩] concatenates_S32x64_S32x64_S32x128_d1 (ix2 n d) = if h : d.val < 64 then
        Cert.RopeSRefIdeal.Read.val_main_v31 (F := Ideal) (ix2 (0 : Fin 1) ⟨d.val, h⟩)
      else Cert.RopeSRefIdeal.Read.val_main_v31 (F := Ideal) (ix2 (0 : Fin 1) ⟨d.val - 64, by omega⟩) := by
  pointwise
  simp only [ccos_apply]

/-- The table of sines at an index. -/
theorem sin_apply (n : Fin 32) (d : Fin 128) :
    concatenate S32x128 1 [⟨S32x64, (Host.negf (F := Ideal) (φ := .f32) csin : Vec Ideal S32x64 .f32)⟩, ⟨S32x64, csin⟩]
      concatenates_S32x64_S32x64_S32x128_d1 (ix2 n d) = if h : d.val < 64 then
        -Cert.RopeSRefIdeal.Read.val_main_v33 (F := Ideal) (ix2 (0 : Fin 1) ⟨d.val, h⟩)
      else Cert.RopeSRefIdeal.Read.val_main_v33 (F := Ideal) (ix2 (0 : Fin 1) ⟨d.val - 64, by omega⟩) := by
  pointwise
  simp only [csin_apply]

/-- The block index of every window at every point of the grid. -/
theorem idx : ∀ t : Fin cfg0.N, win0_0.index t = ![0, t.val] ∧ win0_1.index t = ![0, t.val + 16]
    ∧ win0_2.index t = ![0, 0] ∧ win0_3.index t = ![0, 0] ∧ win0_4.index t = ![0, 0]
    ∧ win0_5.index t = ![0, 0] ∧ win0_6.index t = ![0, t.val] ∧ win0_7.index t = ![0, t.val] := by
  decide +kernel

/-- The queries' value at a row and a column of one block. -/
theorem pay4_apply (c s x : Vec Ideal S32x128 .f32) (g : Vec Ideal S1x128 .f32) (r : Fin 32) (d : Fin 128) :
    k0_pay4 c s x g (ix2 r d) = nrm (fun j => x (ix2 r j)) (fun j => g (ix2 (0 : Fin 1) j)) d * c (ix2 r d)
      + nrm (fun j => x (ix2 r j)) (fun j => g (ix2 (0 : Fin 1) j)) ⟨(d.val + 128 - 64) % 128, by omega⟩ * s (ix2 r d) := by
  unfold k0_pay4 k0_pay2 k0_pay3 nrm
  pointwise

/-- The keys' value is the same function of its own block and gain. -/
theorem pay1_apply (c s x : Vec Ideal S32x128 .f32) (g : Vec Ideal S1x128 .f32) (r : Fin 32) (d : Fin 128) :
    k0_pay1 (k0_pay3 s) (k0_pay6 c x g) (k0_pay7 x g) (ix2 r d)
      = nrm (fun j => x (ix2 r j)) (fun j => g (ix2 (0 : Fin 1) j)) d * c (ix2 r d)
      + nrm (fun j => x (ix2 r j)) (fun j => g (ix2 (0 : Fin 1) j)) ⟨(d.val + 128 - 64) % 128, by omega⟩ * s (ix2 r d) := by
  unfold k0_pay1 k0_pay6 k0_pay7 k0_pay5 k0_pay2 k0_pay3 nrm
  pointwise

/-- The reference's normed queries, at an index. -/
theorem ref19_apply (x : Vec Ideal S32x4096 .f32) (g : Vec Ideal S1x128 .f32) (n : Fin 32) (h : Fin 16) (d : Fin 128) :
    Cert.RopeSRefIdeal.Read.val_main_v19 (F := Ideal) x g (ix4 n 0 h d) = (nrm (fun j : Fin 128 => x (ix2 n (⟨h.val * 128 + j.val, by omega⟩ : Fin 4096))) (fun j => g (ix2 (0 : Fin 1) j))) d := by
  unfold nrm Cert.RopeSRefIdeal.Read.val_main_v19 Cert.RopeSRefIdeal.Read.val_main_v18 Cert.RopeSRefIdeal.Read.val_main_v17
    Cert.RopeSRefIdeal.Read.val_main_v16 Cert.RopeSRefIdeal.Read.val_main_v15 Cert.RopeSRefIdeal.Read.val_main_v14
    Cert.RopeSRefIdeal.Read.val_main_v13 Cert.RopeSRefIdeal.Read.val_main_v12 Cert.RopeSRefIdeal.Read.val_main_v11
    Cert.RopeSRefIdeal.Read.val_main_v10 Cert.RopeSRefIdeal.Read.val_main_v9 Cert.RopeSRefIdeal.Read.val_main_v8
    Cert.RopeSRefIdeal.Read.val_main_v7 Cert.RopeSRefIdeal.Read.val_main_v6 Cert.RopeSRefIdeal.Read.val_main_v5
    Cert.RopeSRefIdeal.Read.val_main_v3 Cert.RopeSRefIdeal.Read.val_main_cst Cert.RopeSRefIdeal.Read.val_main_cst_0
    Cert.RopeSRefIdeal.Read.val_main_cst_1
  pointwise

/-- Its normed keys. -/
theorem ref62_apply (x : Vec Ideal S32x4096 .f32) (g : Vec Ideal S1x128 .f32) (n : Fin 32) (h : Fin 16) (d : Fin 128) :
    Cert.RopeSRefIdeal.Read.val_main_v62 (F := Ideal) x g (ix4 n 0 h d) = (nrm (fun j : Fin 128 => x (ix2 n (⟨2048 + (h.val * 128 + j.val), by omega⟩ : Fin 4096))) (fun j => g (ix2 (0 : Fin 1) j))) d := by
  unfold nrm Cert.RopeSRefIdeal.Read.val_main_v62 Cert.RopeSRefIdeal.Read.val_main_v61 Cert.RopeSRefIdeal.Read.val_main_v60
    Cert.RopeSRefIdeal.Read.val_main_v59 Cert.RopeSRefIdeal.Read.val_main_v58 Cert.RopeSRefIdeal.Read.val_main_v57
    Cert.RopeSRefIdeal.Read.val_main_v56 Cert.RopeSRefIdeal.Read.val_main_v55 Cert.RopeSRefIdeal.Read.val_main_v54
    Cert.RopeSRefIdeal.Read.val_main_v53 Cert.RopeSRefIdeal.Read.val_main_v52 Cert.RopeSRefIdeal.Read.val_main_v51
    Cert.RopeSRefIdeal.Read.val_main_v50 Cert.RopeSRefIdeal.Read.val_main_v49 Cert.RopeSRefIdeal.Read.val_main_v48
    Cert.RopeSRefIdeal.Read.val_main_v4 Cert.RopeSRefIdeal.Read.val_main_cst_4 Cert.RopeSRefIdeal.Read.val_main_cst_5
    Cert.RopeSRefIdeal.Read.val_main_cst_6
  pointwise

/-- Its rotated queries. -/
theorem ref47_apply (x : Vec Ideal S32x4096 .f32) (g : Vec Ideal S1x128 .f32) (n : Fin 32) (h : Fin 16) (d : Fin 128) :
    Cert.RopeSRefIdeal.Read.val_main_v47 (F := Ideal) x g (ix4 n 0 h d) = rot
      (nrm (fun j : Fin 128 => x (ix2 n (⟨h.val * 128 + j.val, by omega⟩ : Fin 4096))) (fun j => g (ix2 (0 : Fin 1) j)))
      (fun j : Fin 64 => Cert.RopeSRefIdeal.Read.val_main_v31 (F := Ideal) (ix2 (0 : Fin 1) j)) (fun j : Fin 64 => Cert.RopeSRefIdeal.Read.val_main_v33 (F := Ideal) (ix2 (0 : Fin 1) j)) d := by
  unfold rot Cert.RopeSRefIdeal.Read.val_main_v47 Cert.RopeSRefIdeal.Read.val_main_v46 Cert.RopeSRefIdeal.Read.val_main_v45
    Cert.RopeSRefIdeal.Read.val_main_v44 Cert.RopeSRefIdeal.Read.val_main_v43 Cert.RopeSRefIdeal.Read.val_main_v42
    Cert.RopeSRefIdeal.Read.val_main_v41 Cert.RopeSRefIdeal.Read.val_main_v40 Cert.RopeSRefIdeal.Read.val_main_v39
    Cert.RopeSRefIdeal.Read.val_main_v38 Cert.RopeSRefIdeal.Read.val_main_v37 Cert.RopeSRefIdeal.Read.val_main_v36
    Cert.RopeSRefIdeal.Read.val_main_v35 Cert.RopeSRefIdeal.Read.val_main_v34 Cert.RopeSRefIdeal.Read.val_main_v32
  pointwise
  simp only [ref19_apply]
  split
  · rfl
  · rename_i hd
    have e : (⟨64 + (d.val - 64), by omega⟩ : Fin 128) = d := Fin.ext (by show 64 + (d.val - 64) = d.val; omega)
    rw [e]

/-- Its rotated keys. -/
theorem ref90_apply (x : Vec Ideal S32x4096 .f32) (g : Vec Ideal S1x128 .f32) (n : Fin 32) (h : Fin 16) (d : Fin 128) :
    Cert.RopeSRefIdeal.Read.val_main_v90 (F := Ideal) x g (ix4 n 0 h d) = rot
      (nrm (fun j : Fin 128 => x (ix2 n (⟨2048 + (h.val * 128 + j.val), by omega⟩ : Fin 4096))) (fun j => g (ix2 (0 : Fin 1) j)))
      (fun j : Fin 64 => Cert.RopeSRefIdeal.Read.val_main_v31 (F := Ideal) (ix2 (0 : Fin 1) j)) (fun j : Fin 64 => Cert.RopeSRefIdeal.Read.val_main_v33 (F := Ideal) (ix2 (0 : Fin 1) j)) d := by
  have ec : Cert.RopeSRefIdeal.Read.val_main_v74 (F := Ideal) = Cert.RopeSRefIdeal.Read.val_main_v31 := rfl
  have es : Cert.RopeSRefIdeal.Read.val_main_v76 (F := Ideal) = Cert.RopeSRefIdeal.Read.val_main_v33 := rfl
  unfold rot Cert.RopeSRefIdeal.Read.val_main_v90 Cert.RopeSRefIdeal.Read.val_main_v89 Cert.RopeSRefIdeal.Read.val_main_v88
    Cert.RopeSRefIdeal.Read.val_main_v87 Cert.RopeSRefIdeal.Read.val_main_v86 Cert.RopeSRefIdeal.Read.val_main_v85
    Cert.RopeSRefIdeal.Read.val_main_v84 Cert.RopeSRefIdeal.Read.val_main_v83 Cert.RopeSRefIdeal.Read.val_main_v82
    Cert.RopeSRefIdeal.Read.val_main_v81 Cert.RopeSRefIdeal.Read.val_main_v80 Cert.RopeSRefIdeal.Read.val_main_v79
    Cert.RopeSRefIdeal.Read.val_main_v78 Cert.RopeSRefIdeal.Read.val_main_v77 Cert.RopeSRefIdeal.Read.val_main_v75
  rw [ec, es]
  pointwise
  simp only [ref62_apply]
  split
  · rfl
  · rename_i hd
    have e : (⟨64 + (d.val - 64), by omega⟩ : Fin 128) = d := Fin.ext (by show 64 + (d.val - 64) = d.val; omega)
    rw [e]

/-- The reference's first result, at an index. -/
theorem ref91_apply (x : Vec Ideal S32x4096 .f32) (g : Vec Ideal S1x128 .f32) (n : Fin 32) (j : Fin 2048) :
    Cert.RopeSRefIdeal.Read.val_main_v91 (F := Ideal) x g (ix2 n j)
      = Cert.RopeSRefIdeal.Read.val_main_v47 (F := Ideal) x g (ix4 n 0 (⟨j.val / 128, by omega⟩ : Fin 16) (⟨j.val % 128, by omega⟩ : Fin 128)) := by
  unfold Cert.RopeSRefIdeal.Read.val_main_v91
  pointwise

/-- Its second result. -/
theorem ref92_apply (x : Vec Ideal S32x4096 .f32) (g : Vec Ideal S1x128 .f32) (n : Fin 32) (j : Fin 2048) :
    Cert.RopeSRefIdeal.Read.val_main_v92 (F := Ideal) x g (ix2 n j)
      = Cert.RopeSRefIdeal.Read.val_main_v90 (F := Ideal) x g (ix4 n 0 (⟨j.val / 128, by omega⟩ : Fin 16) (⟨j.val % 128, by omega⟩ : Fin 128)) := by
  unfold Cert.RopeSRefIdeal.Read.val_main_v92
  pointwise

/-- A row of the tables: what the rotation reads of them. -/
theorem tables (c : Dev nD) (t : Fin cfg0.N) (f : Fin 128 → EReal) (r : Fin 32) (d : Fin 128) :
    f d * iblk m c 4 t (ix2 r d) + f ⟨(d.val + 128 - 64) % 128, by omega⟩ * iblk m c 5 t (ix2 r d)
      = rot f (fun j : Fin 64 => Cert.RopeSRefIdeal.Read.val_main_v31 (F := Ideal) (ix2 (0 : Fin 1) j)) (fun j : Fin 64 => Cert.RopeSRefIdeal.Read.val_main_v33 (F := Ideal) (ix2 (0 : Fin 1) j)) d := by
  have e := idx t
  refine rot_of_tables f _ _ d _ _ ?_ ?_
  · refine Eq.trans (b := V m c main_v15 (ix2 r d)) ?_ ?_
    · blk_ext [iblk, e]
    · rw [V_c m c]
      exact cos_apply r d
  · refine Eq.trans (b := V m c main_v17 (ix2 r d)) ?_ ?_
    · blk_ext [iblk, e]
    · rw [V_s m c]
      exact sin_apply r d

/-- The kernel's array of queries is the reference's. -/
theorem arr6 (c : Dev nD) : (dats m 0 c).arrAt 6 cfg0.N = Cert.RopeSRefIdeal.Read.val_main_v91 (F := Ideal)
    (m ((c : Thread nD τ).loc main_arg0)) (m ((c : Thread nD τ).loc main_arg1)) := by
  refine (dats m 0 c).arrAt_eq_of_covers 6 _ (by decide +kernel) fun t hf y => ?_
  blk_simp
  rw [after0_6]
  frame_out
  have e := idx t
  have ht : t.val < 16 := t.isLt.trans_eq N_0
  idx_vars y
  have e0 : ∀ j : Fin 128, iblk m c 0 t (ix2 y0 j) = m ((c : Thread nD τ).loc main_arg0)
      (ix2 y0 (⟨t.val * 128 + j.val, by omega⟩ : Fin 4096)) := fun j => by
    rw [← V_main_arg0 m c]
    blk_ext [iblk, e]
  have e2 : ∀ j : Fin 128, iblk m c 2 t (ix2 0 j) = m ((c : Thread nD τ).loc main_arg1) (ix2 (0 : Fin 1) j) := fun j => by
    rw [← V_main_arg1 m c]
    blk_ext [iblk, e]
  have k1 : (⟨(t.val * 128 + y1.val) / 128, by omega⟩ : Fin 16) = ⟨t.val, ht⟩ :=
    Fin.ext (by show (t.val * 128 + y1.val) / 128 = t.val; omega)
  have k2 : (⟨(t.val * 128 + y1.val) % 128, by omega⟩ : Fin 128) = y1 :=
    Fin.ext (by show (t.val * 128 + y1.val) % 128 = y1.val; omega)
  refine (pay4_apply _ _ _ _ y0 y1).trans (Eq.trans ?_ ((ref91_apply (m ((c : Thread nD τ).loc main_arg0)) (m ((c : Thread nD τ).loc main_arg1))
    y0 ⟨t.val * 128 + y1.val, by omega⟩).symm.trans ?_))
  · simp only [e0, e2, k1, k2]
    exact (tables m c t _ y0 y1).trans (ref47_apply (m ((c : Thread nD τ).loc main_arg0)) (m ((c : Thread nD τ).loc main_arg1)) y0 ⟨t.val, ht⟩ y1).symm
  · blk_ext [e]

/-- The kernel's array of keys is the reference's. -/
theorem arr7 (c : Dev nD) : (dats m 0 c).arrAt 7 cfg0.N = Cert.RopeSRefIdeal.Read.val_main_v92 (F := Ideal)
    (m ((c : Thread nD τ).loc main_arg0)) (m ((c : Thread nD τ).loc main_arg2)) := by
  refine (dats m 0 c).arrAt_eq_of_covers 7 _ (by decide +kernel) fun t hf y => ?_
  blk_simp
  rw [after0_7]
  frame_out
  have e := idx t
  have ht : t.val < 16 := t.isLt.trans_eq N_0
  idx_vars y
  have e0 : ∀ j : Fin 128, iblk m c 1 t (ix2 y0 j) = m ((c : Thread nD τ).loc main_arg0)
      (ix2 y0 (⟨2048 + (t.val * 128 + j.val), by omega⟩ : Fin 4096)) := fun j => by
    rw [← V_main_arg0 m c]
    blk_ext [iblk, e]
  have e2 : ∀ j : Fin 128, iblk m c 3 t (ix2 0 j) = m ((c : Thread nD τ).loc main_arg2) (ix2 (0 : Fin 1) j) := fun j => by
    rw [← V_main_arg2 m c]
    blk_ext [iblk, e]
  have k1 : (⟨(t.val * 128 + y1.val) / 128, by omega⟩ : Fin 16) = ⟨t.val, ht⟩ :=
    Fin.ext (by show (t.val * 128 + y1.val) / 128 = t.val; omega)
  have k2 : (⟨(t.val * 128 + y1.val) % 128, by omega⟩ : Fin 128) = y1 :=
    Fin.ext (by show (t.val * 128 + y1.val) % 128 = y1.val; omega)
  refine (pay1_apply _ _ _ _ y0 y1).trans (Eq.trans ?_ ((ref92_apply (m ((c : Thread nD τ).loc main_arg0)) (m ((c : Thread nD τ).loc main_arg2))
    y0 ⟨t.val * 128 + y1.val, by omega⟩).symm.trans ?_))
  · simp only [e0, e2, k1, k2]
    exact (tables m c t _ y0 y1).trans (ref90_apply (m ((c : Thread nD τ).loc main_arg0)) (m ((c : Thread nD τ).loc main_arg2)) y0 ⟨t.val, ht⟩ y1).symm
  · blk_ext [e]

/-- The two programs end with equal results at the ideal instance. -/
theorem algebraic : Cert.algebraic_RopeSIdeal_RopeSRefIdeal := by
  intro m g m' g' _ hagree
  refine ⟨fun c => (dats m 0 c).arrAt 6 cfg0.N, fun c => (dats m 0 c).arrAt 7 cfg0.N, ?_, ?_⟩
  · exact (θ_run defs _ _).mono (fun r h c => ⟨(h.1 c).1 6, (h.1 c).1 7, h.2 c⟩)
      (θ_run_and (Cert.RopeSIdeal.Gen.run_main m g) (Cert.RopeSIdeal.Gen.unchanged m g))
  · refine (θ_run Cert.RopeSRefIdeal.defs _ _).mono (fun r h c => ?_) (Cert.RopeSRefIdeal.Value.run (F := Ideal) m' g')
    obtain ⟨e0, e1, e2⟩ := hagree c
    have k0 : Cert.RopeSRefIdeal.Read.val_main_v91 (F := Ideal) (m' ((c : Thread nD τ).loc Cert.RopeSRefIdeal.main_arg0)) (m' ((c : Thread nD τ).loc Cert.RopeSRefIdeal.main_arg1)) = (dats m 0 c).arrAt 6 cfg0.N := by
      rw [arr6 m c, e0, e1]
    have k1 : Cert.RopeSRefIdeal.Read.val_main_v92 (F := Ideal) (m' ((c : Thread nD τ).loc Cert.RopeSRefIdeal.main_arg0)) (m' ((c : Thread nD τ).loc Cert.RopeSRefIdeal.main_arg2)) = (dats m 0 c).arrAt 7 cfg0.N := by
      rw [arr7 m c, e0, e2]
    exact ⟨((h c).1.trans (Cert.RopeSRefIdeal.Read.val_main_v91_eq _ _)).trans k0, ((h c).2.1.trans (Cert.RopeSRefIdeal.Read.val_main_v92_eq _ _)).trans k1, (h c).2.2⟩

/-- The reference's frame. -/
theorem ref_frame : Cert.quiescent_RopeSRefIdeal := fun m ρ _ =>
  (θ_run Cert.RopeSRefIdeal.defs _ _).mono
    (fun r h => ⟨fun c => (h c).2.2, sem_eq_zero_of_no_sems (by decide) r.2⟩)
    (Cert.RopeSRefIdeal.Value.run (F := Ideal) m ρ)

end Cert.RopeSVal

end
-- ==== Proof.PleS.lean ====
/- The per-layer input embedding of the sample group: the array the kernel leaves, index by index, against the reference's lines. -/
module

public import proofs.«01_k».proof.Defs
public import proofs.«01_k».proof.Proof.Gen.PleSIdeal.Frame
public import proofs.«01_k».proof.Proof.Gen.PleSRefIdeal.Run
public import proofs.«01_k».proof.Proof.Gen.PleSRefIdeal.Read
public import Idealize.ShloMosaic.Lib.Pipeline.ValueKit
public import Idealize.ShloMosaic.Lib.Pointwise
public import Idealize.ShloMosaic.Lib.MatmulPlain
public import Idealize.ShloMosaic.Lib.Claim

@[expose] public section

set_option maxRecDepth 16384

noncomputable section

namespace Cert.PleSVal

open Idealize.ShloMosaic Idealize.ShloMosaic.TcCoe Idealize.SL.Sem
open Cert.PleSIdeal Cert.PleSIdeal.Gen

variable (m : (ℓ : Loc nD τ sig) → Buf (Elt Ideal) ℓ)

/-- The kernel's normed rows are the argument (its cast is the identity here). -/
theorem V_h (c : Dev nD) : V m c main_v0 = m ((c : Thread nD τ).loc main_arg1) := by
  entry_read
  rfl

/-- So are its embeddings. -/
theorem V_e (c : Dev nD) : V m c main_v1 = m ((c : Thread nD τ).loc main_arg2) := by
  entry_read
  rfl

/-- So are the gate's weights. -/
theorem V_g (c : Dev nD) : V m c main_v2 = m ((c : Thread nD τ).loc main_arg3) := by
  entry_read
  rfl

/-- So are the projection's weights. -/
theorem V_p (c : Dev nD) : V m c main_v3 = m ((c : Thread nD τ).loc main_arg4) := by
  entry_read
  rfl

/-- The block index of every window at every point of the grid. -/
theorem idx : ∀ t : Fin cfg0.N, win0_0.index t = ![t.val / 2, t.val % 2] ∧ win0_1.index t = ![t.val / 2, 0]
    ∧ win0_2.index t = ![t.val / 2, 0] ∧ win0_3.index t = ![0, t.val % 2] ∧ win0_4.index t = ![0, t.val % 2]
    ∧ win0_5.index t = ![t.val / 2, t.val % 2] := by
  decide +kernel

/-- The body's value at a row and a column of one block. -/
theorem pay1_apply (x0 : Vec Ideal S32x2048 .bf16) (x1 : Vec Ideal S2048x1024 .bf16) (x2 : Vec Ideal S32x1024 .f32)
    (x3 : Vec Ideal S32x256 .bf16) (x4 : Vec Ideal S256x1024 .bf16) (r : Fin 32) (q : Fin 1024) :
    k0_pay1 x0 x1 x2 x3 x4 (ix2 r q) = x2 (ix2 r q)
      + Ideal.logistic (∑ k : Fin 2048, x0 (ix2 r k) * x1 (ix2 k q)) * ∑ k : Fin 256, x3 (ix2 r k) * x4 (ix2 k q) := by
  unfold k0_pay1
  pointwise

/-- The reference's value at a row and a column. -/
theorem ref_apply (x : Vec Ideal S32x2048 .f32) (h : Vec Ideal S32x2048 .f32) (e : Vec Ideal S32x256 .f32)
    (g : Vec Ideal S2048x2048 .f32) (p : Vec Ideal S256x2048 .f32) (r : Fin 32) (q : Fin 2048) :
    Cert.PleSRefIdeal.Read.val_main_v9 (F := Ideal) x h e g p (ix2 r q) = x (ix2 r q)
      + Ideal.logistic (∑ k : Fin 2048, h (ix2 r k) * g (ix2 k q)) * ∑ k : Fin 256, e (ix2 r k) * p (ix2 k q) := by
  unfold Cert.PleSRefIdeal.Read.val_main_v9 Cert.PleSRefIdeal.Read.val_main_v8 Cert.PleSRefIdeal.Read.val_main_v7
    Cert.PleSRefIdeal.Read.val_main_v6 Cert.PleSRefIdeal.Read.val_main_v5 Cert.PleSRefIdeal.Read.val_main_v4
    Cert.PleSRefIdeal.Read.val_main_v3 Cert.PleSRefIdeal.Read.val_main_v2 Cert.PleSRefIdeal.Read.val_main_v1
    Cert.PleSRefIdeal.Read.val_main_v0 Cert.PleSRefIdeal.Read.val_main_cst Cert.PleSRefIdeal.Read.val_main_cst_0
  pointwise
  rfl

/-- The kernel's array is the reference's. -/
theorem arr5 (c : Dev nD) : (dats m 0 c).arrAt 5 cfg0.N = Cert.PleSRefIdeal.Read.val_main_v9 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 5 _ (by decide +kernel) fun t hf y => ?_
  blk_simp
  rw [after0_5]
  frame_out
  have e := idx t
  idx_vars y
  have ht : t.val < 2 := t.isLt.trans_eq N_0
  have e0 : iblk m c 0 t (ix2 y0 y1) = m ((c : Thread nD τ).loc main_arg0)
      (ix2 (⟨t.val / 2 * 32 + y0.val, by omega⟩ : Fin 32) (⟨t.val % 2 * 1024 + y1.val, by omega⟩ : Fin 2048)) := by
    rw [← V_main_arg0 m c]
    blk_ext [iblk, e]
  have e1 : ∀ k : Fin 2048, iblk m c 1 t (ix2 y0 k) = m ((c : Thread nD τ).loc main_arg1)
      (ix2 (⟨t.val / 2 * 32 + y0.val, by omega⟩ : Fin 32) k) := fun k => by
    rw [← V_h m c]
    blk_ext [iblk, e]
  have e2 : ∀ k : Fin 256, iblk m c 2 t (ix2 y0 k) = m ((c : Thread nD τ).loc main_arg2)
      (ix2 (⟨t.val / 2 * 32 + y0.val, by omega⟩ : Fin 32) k) := fun k => by
    rw [← V_e m c]
    blk_ext [iblk, e]
  have e3 : ∀ k : Fin 2048, iblk m c 3 t (ix2 k y1) = m ((c : Thread nD τ).loc main_arg3)
      (ix2 k (⟨t.val % 2 * 1024 + y1.val, by omega⟩ : Fin 2048)) := fun k => by
    rw [← V_g m c]
    blk_ext [iblk, e]
  have e4 : ∀ k : Fin 256, iblk m c 4 t (ix2 k y1) = m ((c : Thread nD τ).loc main_arg4)
      (ix2 k (⟨t.val % 2 * 1024 + y1.val, by omega⟩ : Fin 2048)) := fun k => by
    rw [← V_p m c]
    blk_ext [iblk, e]
  refine (pay1_apply _ _ _ _ _ y0 y1).trans (Eq.trans ?_ ((ref_apply
    (m ((c : Thread nD τ).loc main_arg0)) (m ((c : Thread nD τ).loc main_arg1))
    (m ((c : Thread nD τ).loc main_arg2)) (m ((c : Thread nD τ).loc main_arg3))
    (m ((c : Thread nD τ).loc main_arg4)) ⟨t.val / 2 * 32 + y0.val, by omega⟩ ⟨t.val % 2 * 1024 + y1.val, by omega⟩).symm.trans ?_))
  · simp only [e0, e1, e2, e3, e4]
  · blk_ext [e]

/-- The two programs end with equal results at the ideal instance. -/
theorem algebraic : Cert.algebraic_PleSIdeal_PleSRefIdeal := by
  pair_intro
  · run_from Cert.PleSIdeal.Gen.run_main m g
  · run_from Cert.PleSRefIdeal.Value.run m' g'
    rw [arr5]
    rfl

/-- The reference's frame. -/
theorem ref_frame : Cert.quiescent_PleSRefIdeal := fun m ρ _ =>
  (θ_run Cert.PleSRefIdeal.defs _ _).mono
    (fun r h => ⟨fun c => (h c).2, sem_eq_zero_of_no_sems (by decide) r.2⟩)
    (Cert.PleSRefIdeal.Value.run (F := Ideal) m ρ)

end Cert.PleSVal

end
-- ==== Proof.lean ====
module

public import proofs.«01_k».proof.Defs
public import proofs.«01_k».proof.Proof.Gen.DeltaStep
public import proofs.«01_k».proof.Proof.Gen.DeltaStep.Skeleton
public import proofs.«01_k».proof.Proof.Gen.DeltaStep.Launch
public import proofs.«01_k».proof.Proof.Gen.DeltaStep.Points
public import proofs.«01_k».proof.Proof.Gen.DeltaStep.Frame
public import proofs.«01_k».proof.Proof.Gen.DeltaStepIdeal
public import proofs.«01_k».proof.Proof.Gen.DeltaStepIdeal.Skeleton
public import proofs.«01_k».proof.Proof.Gen.DeltaStepIdeal.Launch
public import proofs.«01_k».proof.Proof.Gen.DeltaStepIdeal.Points
public import proofs.«01_k».proof.Proof.Gen.DeltaStepIdeal.Frame
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.ProjV
public import proofs.«01_k».proof.Proof.Gen.ProjV.Skeleton
public import proofs.«01_k».proof.Proof.Gen.ProjV.Launch
public import proofs.«01_k».proof.Proof.Gen.ProjV.Points
public import proofs.«01_k».proof.Proof.Gen.ProjV.Frame
public import proofs.«01_k».proof.Proof.Gen.ProjVIdeal
public import proofs.«01_k».proof.Proof.Gen.ProjVIdeal.Skeleton
public import proofs.«01_k».proof.Proof.Gen.ProjVIdeal.Launch
public import proofs.«01_k».proof.Proof.Gen.ProjVIdeal.Points
public import proofs.«01_k».proof.Proof.Gen.ProjVIdeal.Frame
public import proofs.«01_k».proof.Proof.Gen.ProjQK
public import proofs.«01_k».proof.Proof.Gen.ProjQK.Skeleton
public import proofs.«01_k».proof.Proof.Gen.ProjQK.Launch
public import proofs.«01_k».proof.Proof.Gen.ProjQK.Points
public import proofs.«01_k».proof.Proof.Gen.ProjQK.Frame
public import proofs.«01_k».proof.Proof.Gen.ProjQKIdeal
public import proofs.«01_k».proof.Proof.Gen.ProjQKIdeal.Skeleton
public import proofs.«01_k».proof.Proof.Gen.ProjQKIdeal.Launch
public import proofs.«01_k».proof.Proof.Gen.ProjQKIdeal.Points
public import proofs.«01_k».proof.Proof.Gen.ProjQKIdeal.Frame
public import proofs.«01_k».proof.Proof.Gen.ProjB
public import proofs.«01_k».proof.Proof.Gen.ProjB.Skeleton
public import proofs.«01_k».proof.Proof.Gen.ProjB.Launch
public import proofs.«01_k».proof.Proof.Gen.ProjB.Points
public import proofs.«01_k».proof.Proof.Gen.ProjB.Frame
public import proofs.«01_k».proof.Proof.Gen.ProjBIdeal
public import proofs.«01_k».proof.Proof.Gen.ProjBIdeal.Skeleton
public import proofs.«01_k».proof.Proof.Gen.ProjBIdeal.Launch
public import proofs.«01_k».proof.Proof.Gen.ProjBIdeal.Points
public import proofs.«01_k».proof.Proof.Gen.ProjBIdeal.Frame
public import proofs.«01_k».proof.Proof.Gen.ProjZ
public import proofs.«01_k».proof.Proof.Gen.ProjZ.Skeleton
public import proofs.«01_k».proof.Proof.Gen.ProjZ.Launch
public import proofs.«01_k».proof.Proof.Gen.ProjZ.Points
public import proofs.«01_k».proof.Proof.Gen.ProjZ.Frame
public import proofs.«01_k».proof.Proof.Gen.ProjZIdeal
public import proofs.«01_k».proof.Proof.Gen.ProjZIdeal.Skeleton
public import proofs.«01_k».proof.Proof.Gen.ProjZIdeal.Launch
public import proofs.«01_k».proof.Proof.Gen.ProjZIdeal.Points
public import proofs.«01_k».proof.Proof.Gen.ProjZIdeal.Frame
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.ProjVS
public import proofs.«01_k».proof.Proof.Gen.ProjVS.Skeleton
public import proofs.«01_k».proof.Proof.Gen.ProjVS.Launch
public import proofs.«01_k».proof.Proof.Gen.ProjVS.Points
public import proofs.«01_k».proof.Proof.Gen.ProjVS.Frame
public import proofs.«01_k».proof.Proof.Gen.ProjVSIdeal
public import proofs.«01_k».proof.Proof.Gen.ProjVSIdeal.Skeleton
public import proofs.«01_k».proof.Proof.Gen.ProjVSIdeal.Launch
public import proofs.«01_k».proof.Proof.Gen.ProjVSIdeal.Points
public import proofs.«01_k».proof.Proof.Gen.ProjVSIdeal.Frame
public import proofs.«01_k».proof.Proof.Gen.RopeS
public import proofs.«01_k».proof.Proof.Gen.RopeS.Skeleton
public import proofs.«01_k».proof.Proof.Gen.RopeS.Launch
public import proofs.«01_k».proof.Proof.Gen.RopeS.Points
public import proofs.«01_k».proof.Proof.Gen.RopeS.Frame
public import proofs.«01_k».proof.Proof.Gen.RopeSIdeal
public import proofs.«01_k».proof.Proof.Gen.RopeSIdeal.Skeleton
public import proofs.«01_k».proof.Proof.Gen.RopeSIdeal.Launch
public import proofs.«01_k».proof.Proof.Gen.RopeSIdeal.Points
public import proofs.«01_k».proof.Proof.Gen.RopeSIdeal.Frame
public import proofs.«01_k».proof.Proof.Gen.PleS
public import proofs.«01_k».proof.Proof.Gen.PleS.Skeleton
public import proofs.«01_k».proof.Proof.Gen.PleS.Launch
public import proofs.«01_k».proof.Proof.Gen.PleS.Points
public import proofs.«01_k».proof.Proof.Gen.PleS.Frame
public import proofs.«01_k».proof.Proof.Gen.PleSIdeal
public import proofs.«01_k».proof.Proof.Gen.PleSIdeal.Skeleton
public import proofs.«01_k».proof.Proof.Gen.PleSIdeal.Launch
public import proofs.«01_k».proof.Proof.Gen.PleSIdeal.Points
public import proofs.«01_k».proof.Proof.Gen.PleSIdeal.Frame
public import proofs.«01_k».proof.Proof.Gen.DeltaStepRefIdeal
public import proofs.«01_k».proof.Proof.Gen.FfnRefIdeal
public import proofs.«01_k».proof.Proof.Gen.ProjVRefIdeal
public import proofs.«01_k».proof.Proof.Gen.ProjQKRefIdeal
public import proofs.«01_k».proof.Proof.Gen.ProjBRefIdeal
public import proofs.«01_k».proof.Proof.Gen.ProjZRefIdeal
public import proofs.«01_k».proof.Proof.Gen.RopeRefIdeal
public import proofs.«01_k».proof.Proof.Gen.OutProjRefIdeal
public import proofs.«01_k».proof.Proof.Gen.PleRefIdeal
public import proofs.«01_k».proof.Proof.Gen.NormRefIdeal
public import proofs.«01_k».proof.Proof.Gen.ProjVSRefIdeal
public import proofs.«01_k».proof.Proof.Gen.RopeSRefIdeal
public import proofs.«01_k».proof.Proof.Gen.PleSRefIdeal
public import proofs.«01_k».proof.Proof.Gen.Pre_finite_step
public import proofs.«01_k».proof.Proof.Gen.Pre_pages_in_pool
public import proofs.«01_k».proof.Proof.Gen.DeltaStepRefIdeal.Run
public import proofs.«01_k».proof.Proof.Gen.DeltaStepRefIdeal.Read
public import proofs.«01_k».proof.Proof.Gen.FfnRefIdeal.Run
public import proofs.«01_k».proof.Proof.Gen.FfnRefIdeal.Read
public import proofs.«01_k».proof.Proof.Gen.ProjVRefIdeal.Run
public import proofs.«01_k».proof.Proof.Gen.ProjVRefIdeal.Read
public import proofs.«01_k».proof.Proof.Gen.ProjQKRefIdeal.Run
public import proofs.«01_k».proof.Proof.Gen.ProjQKRefIdeal.Read
public import proofs.«01_k».proof.Proof.Gen.ProjBRefIdeal.Run
public import proofs.«01_k».proof.Proof.Gen.ProjBRefIdeal.Read
public import proofs.«01_k».proof.Proof.Gen.ProjZRefIdeal.Run
public import proofs.«01_k».proof.Proof.Gen.ProjZRefIdeal.Read
public import proofs.«01_k».proof.Proof.Gen.RopeRefIdeal.Run
public import proofs.«01_k».proof.Proof.Gen.RopeRefIdeal.Read
public import proofs.«01_k».proof.Proof.Gen.OutProjRefIdeal.Run
public import proofs.«01_k».proof.Proof.Gen.OutProjRefIdeal.Read
public import proofs.«01_k».proof.Proof.Gen.PleRefIdeal.Run
public import proofs.«01_k».proof.Proof.Gen.PleRefIdeal.Read
public import proofs.«01_k».proof.Proof.Gen.NormRefIdeal.Run
public import proofs.«01_k».proof.Proof.Gen.NormRefIdeal.Read
public import proofs.«01_k».proof.Proof.Gen.ProjVSRefIdeal.Run
public import proofs.«01_k».proof.Proof.Gen.ProjVSRefIdeal.Read
public import proofs.«01_k».proof.Proof.Gen.RopeSRefIdeal.Run
public import proofs.«01_k».proof.Proof.Gen.RopeSRefIdeal.Read
public import proofs.«01_k».proof.Proof.Gen.PleSRefIdeal.Run
public import proofs.«01_k».proof.Proof.Gen.PleSRefIdeal.Read
public import proofs.«01_k».proof.Proof.DeltaStepKernel
public import proofs.«01_k».proof.Proof.DeltaStepBlocks
public import proofs.«01_k».proof.Proof.DeltaStepMath
public import proofs.«01_k».proof.Proof.DeltaStepPre
public import proofs.«01_k».proof.Proof.DeltaStepRefV
public import proofs.«01_k».proof.Proof.DeltaStepVal
public import proofs.«01_k».proof.Proof.FfnRun
public import proofs.«01_k».proof.Proof.FfnRunBits
public import proofs.«01_k».proof.Proof.FfnFrame
public import proofs.«01_k».proof.Proof.FfnOut
public import proofs.«01_k».proof.Proof.FfnRows
public import proofs.«01_k».proof.Proof.FfnPages
public import proofs.«01_k».proof.Proof.FfnVal
public import proofs.«01_k».proof.Proof.ProjV
public import proofs.«01_k».proof.Proof.ProjQK
public import proofs.«01_k».proof.Proof.ProjB
public import proofs.«01_k».proof.Proof.ProjZ
public import proofs.«01_k».proof.Proof.Rope
public import proofs.«01_k».proof.Proof.OutProj
public import proofs.«01_k».proof.Proof.Ple
public import proofs.«01_k».proof.Proof.Norm
public import proofs.«01_k».proof.Proof.ProjVS
public import proofs.«01_k».proof.Proof.RopeS
public import proofs.«01_k».proof.Proof.PleS
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.DeltaStep.Gen.facts,
  Cert.DeltaStepIdeal.Gen.facts,
  Cert.DeltaStepRefIdeal.Gen.facts,
  Cert.Ffn.Gen.facts,
  Cert.FfnIdeal.Gen.facts,
  Cert.FfnRefIdeal.Gen.facts,
  Cert.ProjV.Gen.facts,
  Cert.ProjVIdeal.Gen.facts,
  Cert.ProjVRefIdeal.Gen.facts,
  Cert.ProjQK.Gen.facts,
  Cert.ProjQKIdeal.Gen.facts,
  Cert.ProjQKRefIdeal.Gen.facts,
  Cert.ProjB.Gen.facts,
  Cert.ProjBIdeal.Gen.facts,
  Cert.ProjBRefIdeal.Gen.facts,
  Cert.ProjZ.Gen.facts,
  Cert.ProjZIdeal.Gen.facts,
  Cert.ProjZRefIdeal.Gen.facts,
  Cert.Rope.Gen.facts,
  Cert.RopeIdeal.Gen.facts,
  Cert.RopeRefIdeal.Gen.facts,
  Cert.OutProj.Gen.facts,
  Cert.OutProjIdeal.Gen.facts,
  Cert.OutProjRefIdeal.Gen.facts,
  Cert.Ple.Gen.facts,
  Cert.PleIdeal.Gen.facts,
  Cert.PleRefIdeal.Gen.facts,
  Cert.Norm.Gen.facts,
  Cert.NormIdeal.Gen.facts,
  Cert.NormRefIdeal.Gen.facts,
  Cert.ProjVS.Gen.facts,
  Cert.ProjVSIdeal.Gen.facts,
  Cert.ProjVSRefIdeal.Gen.facts,
  Cert.RopeS.Gen.facts,
  Cert.RopeSIdeal.Gen.facts,
  Cert.RopeSRefIdeal.Gen.facts,
  Cert.PleS.Gen.facts,
  Cert.PleSIdeal.Gen.facts,
  Cert.PleSRefIdeal.Gen.facts,
  Cert.Pre_finite_step.Gen.facts,
  Cert.Pre_pages_in_pool.Gen.facts,
  fun m ρ _ => Cert.DeltaStep.Gen.frame m ρ,
  fun m ρ _ => Cert.DeltaStepIdeal.Gen.frame m ρ,
  fun m ρ _ => Cert.DeltaStepIdeal.Gen.frame m ρ,
  Cert.DeltaStepVal.ref_frame,
  Cert.DeltaStepVal.ref_frame_finite,
  Cert.FfnVal.frame,
  Cert.FfnVal.frame_ideal,
  Cert.FfnVal.ref_frame,
  Cert.FfnVal.ref_frame_pages,
  fun m ρ _ => Cert.ProjV.Gen.frame m ρ,
  fun m ρ _ => Cert.ProjVIdeal.Gen.frame m ρ,
  Cert.ProjVVal.ref_frame,
  fun m ρ _ => Cert.ProjQK.Gen.frame m ρ,
  fun m ρ _ => Cert.ProjQKIdeal.Gen.frame m ρ,
  Cert.ProjQKVal.ref_frame,
  fun m ρ _ => Cert.ProjB.Gen.frame m ρ,
  fun m ρ _ => Cert.ProjBIdeal.Gen.frame m ρ,
  Cert.ProjBVal.ref_frame,
  fun m ρ _ => Cert.ProjZ.Gen.frame m ρ,
  fun m ρ _ => Cert.ProjZIdeal.Gen.frame m ρ,
  Cert.ProjZVal.ref_frame,
  fun m ρ _ => Cert.Rope.Gen.frame m ρ,
  fun m ρ _ => Cert.RopeIdeal.Gen.frame m ρ,
  Cert.RopeVal.ref_frame,
  fun m ρ _ => Cert.OutProj.Gen.frame m ρ,
  fun m ρ _ => Cert.OutProjIdeal.Gen.frame m ρ,
  Cert.OutProjVal.ref_frame,
  fun m ρ _ => Cert.Ple.Gen.frame m ρ,
  fun m ρ _ => Cert.PleIdeal.Gen.frame m ρ,
  Cert.PleVal.ref_frame,
  fun m ρ _ => Cert.Norm.Gen.frame m ρ,
  fun m ρ _ => Cert.NormIdeal.Gen.frame m ρ,
  Cert.NormVal.ref_frame,
  fun m ρ _ => Cert.ProjVS.Gen.frame m ρ,
  fun m ρ _ => Cert.ProjVSIdeal.Gen.frame m ρ,
  Cert.ProjVSVal.ref_frame,
  fun m ρ _ => Cert.RopeS.Gen.frame m ρ,
  fun m ρ _ => Cert.RopeSIdeal.Gen.frame m ρ,
  Cert.RopeSVal.ref_frame,
  fun m ρ _ => Cert.PleS.Gen.frame m ρ,
  fun m ρ _ => Cert.PleSIdeal.Gen.frame m ρ,
  Cert.PleSVal.ref_frame,
  trivial,
  Cert.DeltaStepVal.algebraic,
  trivial,
  Cert.FfnVal.algebraic,
  trivial,
  Cert.ProjVVal.algebraic,
  trivial,
  Cert.ProjQKVal.algebraic,
  trivial,
  Cert.ProjBVal.algebraic,
  trivial,
  Cert.ProjZVal.algebraic,
  trivial,
  Cert.RopeVal.algebraic,
  trivial,
  Cert.OutProjVal.algebraic,
  trivial,
  Cert.PleVal.algebraic,
  trivial,
  Cert.NormVal.algebraic,
  trivial,
  Cert.ProjVSVal.algebraic,
  trivial,
  Cert.RopeSVal.algebraic,
  trivial,
  Cert.PleSVal.algebraic⟩

end Cert.Proof

end
